-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KVProj (m : (ℓ : Loc Cert.KVProj.nD Cert.KVProj.τ Cert.KVProj.sig) → Buf (Elt Bits) ℓ) : Prop :=
  True

def Pre_KVProjIdeal (m : (ℓ : Loc Cert.KVProjIdeal.nD Cert.KVProjIdeal.τ Cert.KVProjIdeal.sig) → Buf (Elt Ideal) ℓ) : Prop :=
  True

def Pre_KVProjRefIdeal (m : (ℓ : Loc Cert.KVProjRefIdeal.nD Cert.KVProjRefIdeal.τ Cert.KVProjRefIdeal.sig) → Buf (Elt Ideal) ℓ) : Prop :=
  True

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3))
      ∧ r.2.sem = fun _ => 0)

def quiescent_KVProj [hKVProj : Cert.KVProj.Facts] : Prop :=
  ∀ (m : (ℓ : Loc Cert.KVProj.nD Cert.KVProj.τ Cert.KVProj.sig) → Buf (Elt Bits) ℓ) (g : Dev Cert.KVProj.nD → PrngReg), Pre_KVProj m →
    θ_run (Cert.KVProj.defs (F := Bits)) (onTc (τ := Cert.KVProj.τ) (Cert.KVProj.main (F := Bits))) ⟨m, fun _ => 0, g⟩ (fun r => (∀ c : Dev Cert.KVProj.nD,
      r.2.mem ((c.tc : Thread Cert.KVProj.nD Cert.KVProj.τ).loc Cert.KVProj.main_arg0) = m ((c.tc : Thread Cert.KVProj.nD Cert.KVProj.τ).loc Cert.KVProj.main_arg0)
      ∧ r.2.mem ((c.tc : Thread Cert.KVProj.nD Cert.KVProj.τ).loc Cert.KVProj.main_arg1) = m ((c.tc : Thread Cert.KVProj.nD Cert.KVProj.τ).loc Cert.KVProj.main_arg1)
      ∧ r.2.mem ((c.tc : Thread Cert.KVProj.nD Cert.KVProj.τ).loc Cert.KVProj.main_arg2) = m ((c.tc : Thread Cert.KVProj.nD Cert.KVProj.τ).loc Cert.KVProj.main_arg2)
      ∧ r.2.mem ((c.tc : Thread Cert.KVProj.nD Cert.KVProj.τ).loc Cert.KVProj.main_arg3) = m ((c.tc : Thread Cert.KVProj.nD Cert.KVProj.τ).loc Cert.KVProj.main_arg3)
      ∧ r.2.mem ((c.tc : Thread Cert.KVProj.nD Cert.KVProj.τ).loc Cert.KVProj.main_arg4) = m ((c.tc : Thread Cert.KVProj.nD Cert.KVProj.τ).loc Cert.KVProj.main_arg4)
      ∧ r.2.mem ((c.tc : Thread Cert.KVProj.nD Cert.KVProj.τ).loc Cert.KVProj.main_arg5) = m ((c.tc : Thread Cert.KVProj.nD Cert.KVProj.τ).loc Cert.KVProj.main_arg5)
      ∧ r.2.mem ((c.tc : Thread Cert.KVProj.nD Cert.KVProj.τ).loc Cert.KVProj.main_arg6) = m ((c.tc : Thread Cert.KVProj.nD Cert.KVProj.τ).loc Cert.KVProj.main_arg6))
      ∧ r.2.sem = fun _ => 0)

def quiescent_KVProjIdeal [hKVProjIdeal : Cert.KVProjIdeal.Facts] : Prop :=
  ∀ (m : (ℓ : Loc Cert.KVProjIdeal.nD Cert.KVProjIdeal.τ Cert.KVProjIdeal.sig) → Buf (Elt Ideal) ℓ) (g : Dev Cert.KVProjIdeal.nD → PrngReg), Pre_KVProjIdeal m →
    θ_run (Cert.KVProjIdeal.defs (F := Ideal)) (onTc (τ := Cert.KVProjIdeal.τ) (Cert.KVProjIdeal.main (F := Ideal))) ⟨m, fun _ => 0, g⟩ (fun r => (∀ c : Dev Cert.KVProjIdeal.nD,
      r.2.mem ((c.tc : Thread Cert.KVProjIdeal.nD Cert.KVProjIdeal.τ).loc Cert.KVProjIdeal.main_arg0) = m ((c.tc : Thread Cert.KVProjIdeal.nD Cert.KVProjIdeal.τ).loc Cert.KVProjIdeal.main_arg0)
      ∧ r.2.mem ((c.tc : Thread Cert.KVProjIdeal.nD Cert.KVProjIdeal.τ).loc Cert.KVProjIdeal.main_arg1) = m ((c.tc : Thread Cert.KVProjIdeal.nD Cert.KVProjIdeal.τ).loc Cert.KVProjIdeal.main_arg1)
      ∧ r.2.mem ((c.tc : Thread Cert.KVProjIdeal.nD Cert.KVProjIdeal.τ).loc Cert.KVProjIdeal.main_arg2) = m ((c.tc : Thread Cert.KVProjIdeal.nD Cert.KVProjIdeal.τ).loc Cert.KVProjIdeal.main_arg2)
      ∧ r.2.mem ((c.tc : Thread Cert.KVProjIdeal.nD Cert.KVProjIdeal.τ).loc Cert.KVProjIdeal.main_arg3) = m ((c.tc : Thread Cert.KVProjIdeal.nD Cert.KVProjIdeal.τ).loc Cert.KVProjIdeal.main_arg3)
      ∧ r.2.mem ((c.tc : Thread Cert.KVProjIdeal.nD Cert.KVProjIdeal.τ).loc Cert.KVProjIdeal.main_arg4) = m ((c.tc : Thread Cert.KVProjIdeal.nD Cert.KVProjIdeal.τ).loc Cert.KVProjIdeal.main_arg4)
      ∧ r.2.mem ((c.tc : Thread Cert.KVProjIdeal.nD Cert.KVProjIdeal.τ).loc Cert.KVProjIdeal.main_arg5) = m ((c.tc : Thread Cert.KVProjIdeal.nD Cert.KVProjIdeal.τ).loc Cert.KVProjIdeal.main_arg5)
      ∧ r.2.mem ((c.tc : Thread Cert.KVProjIdeal.nD Cert.KVProjIdeal.τ).loc Cert.KVProjIdeal.main_arg6) = m ((c.tc : Thread Cert.KVProjIdeal.nD Cert.KVProjIdeal.τ).loc Cert.KVProjIdeal.main_arg6))
      ∧ r.2.sem = fun _ => 0)

def quiescent_KVProjRefIdeal [hKVProjRefIdeal : Cert.KVProjRefIdeal.Facts] : Prop :=
  ∀ (m : (ℓ : Loc Cert.KVProjRefIdeal.nD Cert.KVProjRefIdeal.τ Cert.KVProjRefIdeal.sig) → Buf (Elt Ideal) ℓ) (g : Dev Cert.KVProjRefIdeal.nD → PrngReg), Pre_KVProjRefIdeal m →
    θ_run (Cert.KVProjRefIdeal.defs (F := Ideal)) (onTc (τ := Cert.KVProjRefIdeal.τ) (Cert.KVProjRefIdeal.main (F := Ideal))) ⟨m, fun _ => 0, g⟩ (fun r => (∀ c : Dev Cert.KVProjRefIdeal.nD,
      r.2.mem ((c.tc : Thread Cert.KVProjRefIdeal.nD Cert.KVProjRefIdeal.τ).loc Cert.KVProjRefIdeal.main_arg0) = m ((c.tc : Thread Cert.KVProjRefIdeal.nD Cert.KVProjRefIdeal.τ).loc Cert.KVProjRefIdeal.main_arg0)
      ∧ r.2.mem ((c.tc : Thread Cert.KVProjRefIdeal.nD Cert.KVProjRefIdeal.τ).loc Cert.KVProjRefIdeal.main_arg1) = m ((c.tc : Thread Cert.KVProjRefIdeal.nD Cert.KVProjRefIdeal.τ).loc Cert.KVProjRefIdeal.main_arg1)
      ∧ r.2.mem ((c.tc : Thread Cert.KVProjRefIdeal.nD Cert.KVProjRefIdeal.τ).loc Cert.KVProjRefIdeal.main_arg2) = m ((c.tc : Thread Cert.KVProjRefIdeal.nD Cert.KVProjRefIdeal.τ).loc Cert.KVProjRefIdeal.main_arg2)
      ∧ r.2.mem ((c.tc : Thread Cert.KVProjRefIdeal.nD Cert.KVProjRefIdeal.τ).loc Cert.KVProjRefIdeal.main_arg3) = m ((c.tc : Thread Cert.KVProjRefIdeal.nD Cert.KVProjRefIdeal.τ).loc Cert.KVProjRefIdeal.main_arg3)
      ∧ r.2.mem ((c.tc : Thread Cert.KVProjRefIdeal.nD Cert.KVProjRefIdeal.τ).loc Cert.KVProjRefIdeal.main_arg4) = m ((c.tc : Thread Cert.KVProjRefIdeal.nD Cert.KVProjRefIdeal.τ).loc Cert.KVProjRefIdeal.main_arg4)
      ∧ r.2.mem ((c.tc : Thread Cert.KVProjRefIdeal.nD Cert.KVProjRefIdeal.τ).loc Cert.KVProjRefIdeal.main_arg5) = m ((c.tc : Thread Cert.KVProjRefIdeal.nD Cert.KVProjRefIdeal.τ).loc Cert.KVProjRefIdeal.main_arg5)
      ∧ r.2.mem ((c.tc : Thread Cert.KVProjRefIdeal.nD Cert.KVProjRefIdeal.τ).loc Cert.KVProjRefIdeal.main_arg6) = m ((c.tc : Thread Cert.KVProjRefIdeal.nD Cert.KVProjRefIdeal.τ).loc Cert.KVProjRefIdeal.main_arg6))
      ∧ r.2.sem = fun _ => 0)

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v24) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v24) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v5)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v5) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v57) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)) →
    ∃ (v0 : (c : Dev Cert.QProjIdeal.nD) → Buf (Elt Ideal) ((c.tc : Thread Cert.QProjIdeal.nD Cert.QProjIdeal.τ).loc Cert.QProjIdeal.main_v5)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v5) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v22) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3))

def preserves_KVProj_KVProjIdeal : Prop :=
  True

def algebraic_KVProjIdeal_KVProjRefIdeal [hKVProjIdeal : Cert.KVProjIdeal.Facts] [hKVProjRefIdeal : Cert.KVProjRefIdeal.Facts] : Prop :=
  ∀ (m : (ℓ : Loc Cert.KVProjIdeal.nD Cert.KVProjIdeal.τ Cert.KVProjIdeal.sig) → Buf (Elt Ideal) ℓ) (g : Dev Cert.KVProjIdeal.nD → PrngReg)
    (m' : (ℓ : Loc Cert.KVProjRefIdeal.nD Cert.KVProjRefIdeal.τ Cert.KVProjRefIdeal.sig) → Buf (Elt Ideal) ℓ) (g' : Dev Cert.KVProjRefIdeal.nD → PrngReg), Pre_KVProjIdeal m →
    (∀ c : Dev Cert.KVProjIdeal.nD,
      m' ((c.tc : Thread Cert.KVProjRefIdeal.nD Cert.KVProjRefIdeal.τ).loc Cert.KVProjRefIdeal.main_arg0) = m ((c.tc : Thread Cert.KVProjIdeal.nD Cert.KVProjIdeal.τ).loc Cert.KVProjIdeal.main_arg0)
      ∧ m' ((c.tc : Thread Cert.KVProjRefIdeal.nD Cert.KVProjRefIdeal.τ).loc Cert.KVProjRefIdeal.main_arg1) = m ((c.tc : Thread Cert.KVProjIdeal.nD Cert.KVProjIdeal.τ).loc Cert.KVProjIdeal.main_arg1)
      ∧ m' ((c.tc : Thread Cert.KVProjRefIdeal.nD Cert.KVProjRefIdeal.τ).loc Cert.KVProjRefIdeal.main_arg2) = m ((c.tc : Thread Cert.KVProjIdeal.nD Cert.KVProjIdeal.τ).loc Cert.KVProjIdeal.main_arg2)
      ∧ m' ((c.tc : Thread Cert.KVProjRefIdeal.nD Cert.KVProjRefIdeal.τ).loc Cert.KVProjRefIdeal.main_arg3) = m ((c.tc : Thread Cert.KVProjIdeal.nD Cert.KVProjIdeal.τ).loc Cert.KVProjIdeal.main_arg3)
      ∧ m' ((c.tc : Thread Cert.KVProjRefIdeal.nD Cert.KVProjRefIdeal.τ).loc Cert.KVProjRefIdeal.main_arg4) = m ((c.tc : Thread Cert.KVProjIdeal.nD Cert.KVProjIdeal.τ).loc Cert.KVProjIdeal.main_arg4)
      ∧ m' ((c.tc : Thread Cert.KVProjRefIdeal.nD Cert.KVProjRefIdeal.τ).loc Cert.KVProjRefIdeal.main_arg5) = m ((c.tc : Thread Cert.KVProjIdeal.nD Cert.KVProjIdeal.τ).loc Cert.KVProjIdeal.main_arg5)
      ∧ m' ((c.tc : Thread Cert.KVProjRefIdeal.nD Cert.KVProjRefIdeal.τ).loc Cert.KVProjRefIdeal.main_arg6) = m ((c.tc : Thread Cert.KVProjIdeal.nD Cert.KVProjIdeal.τ).loc Cert.KVProjIdeal.main_arg6)) →
    ∃ (v0 : (c : Dev Cert.KVProjIdeal.nD) → Buf (Elt Ideal) ((c.tc : Thread Cert.KVProjIdeal.nD Cert.KVProjIdeal.τ).loc Cert.KVProjIdeal.main_v5)),
      θ_run (Cert.KVProjIdeal.defs (F := Ideal)) (onTc (τ := Cert.KVProjIdeal.τ) (Cert.KVProjIdeal.main (F := Ideal))) ⟨m, fun _ => 0, g⟩ (fun r => ∀ c : Dev Cert.KVProjIdeal.nD,
          r.2.mem ((c.tc : Thread Cert.KVProjIdeal.nD Cert.KVProjIdeal.τ).loc Cert.KVProjIdeal.main_v5) = v0 c
          ∧ r.2.mem ((c.tc : Thread Cert.KVProjIdeal.nD Cert.KVProjIdeal.τ).loc Cert.KVProjIdeal.main_arg0) = m ((c.tc : Thread Cert.KVProjIdeal.nD Cert.KVProjIdeal.τ).loc Cert.KVProjIdeal.main_arg0)
          ∧ r.2.mem ((c.tc : Thread Cert.KVProjIdeal.nD Cert.KVProjIdeal.τ).loc Cert.KVProjIdeal.main_arg1) = m ((c.tc : Thread Cert.KVProjIdeal.nD Cert.KVProjIdeal.τ).loc Cert.KVProjIdeal.main_arg1)
          ∧ r.2.mem ((c.tc : Thread Cert.KVProjIdeal.nD Cert.KVProjIdeal.τ).loc Cert.KVProjIdeal.main_arg2) = m ((c.tc : Thread Cert.KVProjIdeal.nD Cert.KVProjIdeal.τ).loc Cert.KVProjIdeal.main_arg2)
          ∧ r.2.mem ((c.tc : Thread Cert.KVProjIdeal.nD Cert.KVProjIdeal.τ).loc Cert.KVProjIdeal.main_arg3) = m ((c.tc : Thread Cert.KVProjIdeal.nD Cert.KVProjIdeal.τ).loc Cert.KVProjIdeal.main_arg3)
          ∧ r.2.mem ((c.tc : Thread Cert.KVProjIdeal.nD Cert.KVProjIdeal.τ).loc Cert.KVProjIdeal.main_arg4) = m ((c.tc : Thread Cert.KVProjIdeal.nD Cert.KVProjIdeal.τ).loc Cert.KVProjIdeal.main_arg4)
          ∧ r.2.mem ((c.tc : Thread Cert.KVProjIdeal.nD Cert.KVProjIdeal.τ).loc Cert.KVProjIdeal.main_arg5) = m ((c.tc : Thread Cert.KVProjIdeal.nD Cert.KVProjIdeal.τ).loc Cert.KVProjIdeal.main_arg5)
          ∧ r.2.mem ((c.tc : Thread Cert.KVProjIdeal.nD Cert.KVProjIdeal.τ).loc Cert.KVProjIdeal.main_arg6) = m ((c.tc : Thread Cert.KVProjIdeal.nD Cert.KVProjIdeal.τ).loc Cert.KVProjIdeal.main_arg6))
      ∧ θ_run (Cert.KVProjRefIdeal.defs (F := Ideal)) (onTc (τ := Cert.KVProjRefIdeal.τ) (Cert.KVProjRefIdeal.main (F := Ideal))) ⟨m', fun _ => 0, g'⟩ (fun r => ∀ c : Dev Cert.KVProjRefIdeal.nD,
          r.2.mem ((c.tc : Thread Cert.KVProjRefIdeal.nD Cert.KVProjRefIdeal.τ).loc Cert.KVProjRefIdeal.main_v46) = v0 c
          ∧ r.2.mem ((c.tc : Thread Cert.KVProjRefIdeal.nD Cert.KVProjRefIdeal.τ).loc Cert.KVProjRefIdeal.main_arg0) = m' ((c.tc : Thread Cert.KVProjRefIdeal.nD Cert.KVProjRefIdeal.τ).loc Cert.KVProjRefIdeal.main_arg0)
          ∧ r.2.mem ((c.tc : Thread Cert.KVProjRefIdeal.nD Cert.KVProjRefIdeal.τ).loc Cert.KVProjRefIdeal.main_arg1) = m' ((c.tc : Thread Cert.KVProjRefIdeal.nD Cert.KVProjRefIdeal.τ).loc Cert.KVProjRefIdeal.main_arg1)
          ∧ r.2.mem ((c.tc : Thread Cert.KVProjRefIdeal.nD Cert.KVProjRefIdeal.τ).loc Cert.KVProjRefIdeal.main_arg2) = m' ((c.tc : Thread Cert.KVProjRefIdeal.nD Cert.KVProjRefIdeal.τ).loc Cert.KVProjRefIdeal.main_arg2)
          ∧ r.2.mem ((c.tc : Thread Cert.KVProjRefIdeal.nD Cert.KVProjRefIdeal.τ).loc Cert.KVProjRefIdeal.main_arg3) = m' ((c.tc : Thread Cert.KVProjRefIdeal.nD Cert.KVProjRefIdeal.τ).loc Cert.KVProjRefIdeal.main_arg3)
          ∧ r.2.mem ((c.tc : Thread Cert.KVProjRefIdeal.nD Cert.KVProjRefIdeal.τ).loc Cert.KVProjRefIdeal.main_arg4) = m' ((c.tc : Thread Cert.KVProjRefIdeal.nD Cert.KVProjRefIdeal.τ).loc Cert.KVProjRefIdeal.main_arg4)
          ∧ r.2.mem ((c.tc : Thread Cert.KVProjRefIdeal.nD Cert.KVProjRefIdeal.τ).loc Cert.KVProjRefIdeal.main_arg5) = m' ((c.tc : Thread Cert.KVProjRefIdeal.nD Cert.KVProjRefIdeal.τ).loc Cert.KVProjRefIdeal.main_arg5)
          ∧ r.2.mem ((c.tc : Thread Cert.KVProjRefIdeal.nD Cert.KVProjRefIdeal.τ).loc Cert.KVProjRefIdeal.main_arg6) = m' ((c.tc : Thread Cert.KVProjRefIdeal.nD Cert.KVProjRefIdeal.τ).loc Cert.KVProjRefIdeal.main_arg6))

def Claim : Prop :=
  ∃ (hOutProj : Cert.OutProj.Facts) (hOutProjIdeal : Cert.OutProjIdeal.Facts) (hOutProjRefIdeal : Cert.OutProjRefIdeal.Facts) (hDown : Cert.Down.Facts) (hDownIdeal : Cert.DownIdeal.Facts) (hDownRefIdeal : Cert.DownRefIdeal.Facts) (hFfnIn : Cert.FfnIn.Facts) (hFfnInIdeal : Cert.FfnInIdeal.Facts) (hFfnInRefIdeal : Cert.FfnInRefIdeal.Facts) (hQProj : Cert.QProj.Facts) (hQProjIdeal : Cert.QProjIdeal.Facts) (hQProjRefIdeal : Cert.QProjRefIdeal.Facts) (hKVProj : Cert.KVProj.Facts) (hKVProjIdeal : Cert.KVProjIdeal.Facts) (hKVProjRefIdeal : Cert.KVProjRefIdeal.Facts),
    quiescent_OutProj (hOutProj := hOutProj)
    ∧ quiescent_OutProjIdeal (hOutProjIdeal := hOutProjIdeal)
    ∧ quiescent_OutProjRefIdeal (hOutProjRefIdeal := hOutProjRefIdeal)
    ∧ quiescent_Down (hDown := hDown)
    ∧ quiescent_DownIdeal (hDownIdeal := hDownIdeal)
    ∧ quiescent_DownRefIdeal (hDownRefIdeal := hDownRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_QProj (hQProj := hQProj)
    ∧ quiescent_QProjIdeal (hQProjIdeal := hQProjIdeal)
    ∧ quiescent_QProjRefIdeal (hQProjRefIdeal := hQProjRefIdeal)
    ∧ quiescent_KVProj (hKVProj := hKVProj)
    ∧ quiescent_KVProjIdeal (hKVProjIdeal := hKVProjIdeal)
    ∧ quiescent_KVProjRefIdeal (hKVProjRefIdeal := hKVProjRefIdeal)
    ∧ preserves_OutProj_OutProjIdeal
    ∧ algebraic_OutProjIdeal_OutProjRefIdeal (hOutProjIdeal := hOutProjIdeal) (hOutProjRefIdeal := hOutProjRefIdeal)
    ∧ preserves_Down_DownIdeal
    ∧ algebraic_DownIdeal_DownRefIdeal (hDownIdeal := hDownIdeal) (hDownRefIdeal := hDownRefIdeal)
    ∧ preserves_FfnIn_FfnInIdeal
    ∧ algebraic_FfnInIdeal_FfnInRefIdeal (hFfnInIdeal := hFfnInIdeal) (hFfnInRefIdeal := hFfnInRefIdeal)
    ∧ preserves_QProj_QProjIdeal
    ∧ algebraic_QProjIdeal_QProjRefIdeal (hQProjIdeal := hQProjIdeal) (hQProjRefIdeal := hQProjRefIdeal)
    ∧ preserves_KVProj_KVProjIdeal
    ∧ algebraic_KVProjIdeal_KVProjRefIdeal (hKVProjIdeal := hKVProjIdeal) (hKVProjRefIdeal := hKVProjRefIdeal)
-- ==== OutProj.lean ====
abbrev S128x1024 : Shape := ⟨2, ![128, 1024]⟩
abbrev S128x8192 : Shape := ⟨2, ![128, 8192]⟩
abbrev S8192x32x16 : Shape := ⟨3, ![8192, 32, 16]⟩
abbrev S8192x32 : Shape := ⟨2, ![8192, 32]⟩
abbrev S128x32x2x16 : Shape := ⟨4, ![128, 32, 2, 16]⟩
abbrev S128x32x16x2 : Shape := ⟨4, ![128, 32, 16, 2]⟩
abbrev S32x16x8192 : Shape := ⟨3, ![32, 16, 8192]⟩
abbrev S32x8192 : Shape := ⟨2, ![32, 8192]⟩
abbrev S128x512 : Shape := ⟨2, ![128, 512]⟩
abbrev S32x16x128 : Shape := ⟨3, ![32, 16, 128]⟩
abbrev S32x512 : Shape := ⟨2, ![32, 512]⟩
abbrev S4x32x128 : Shape := ⟨3, ![4, 32, 128]⟩
abbrev S32x128 : Shape := ⟨2, ![32, 128]⟩
abbrev S1x32x128 : Shape := ⟨3, ![1, 32, 128]⟩
abbrev S8x8x128 : Shape := ⟨3, ![8, 8, 128]⟩
abbrev S2x16x128 : Shape := ⟨3, ![2, 16, 128]⟩
abbrev S8x128 : Shape := ⟨2, ![8, 128]⟩
abbrev S8x1x128 : Shape := ⟨3, ![8, 1, 128]⟩
abbrev S64x128 : Shape := ⟨2, ![64, 128]⟩
abbrev S1x128 : Shape := ⟨2, ![1, 128]⟩
abbrev S16x128 : Shape := ⟨2, ![16, 128]⟩
abbrev S512x128 : Shape := ⟨2, ![512, 128]⟩
abbrev S512x512 : Shape := ⟨2, ![512, 512]⟩

abbrev nBuf : Space → Nat
  | .hbm => 12
  | .vmem => 19
  | .smem => 0
  | _ => 0

abbrev bufTy : (tb : Table) → Fin (tcTables nBuf tb) → BufTy
  | .hbm, ⟨0, _⟩ => ⟨S128x1024, .bf16⟩
  | .hbm, ⟨1, _⟩ => ⟨S128x8192, .bf16⟩
  | .hbm, ⟨2, _⟩ => ⟨S8192x32x16, .i8⟩
  | .hbm, ⟨3, _⟩ => ⟨S8192x32, .bf16⟩
  | .hbm, ⟨4, _⟩ => ⟨S8192x32, .bf16⟩
  | .hbm, ⟨5, _⟩ => ⟨S128x32x2x16, .bf16⟩
  | .hbm, ⟨6, _⟩ => ⟨S128x32x16x2, .bf16⟩
  | .hbm, ⟨7, _⟩ => ⟨S128x1024, .bf16⟩
  | .hbm, ⟨8, _⟩ => ⟨S32x16x8192, .i8⟩
  | .hbm, ⟨9, _⟩ => ⟨S32x8192, .bf16⟩
  | .hbm, ⟨10, _⟩ => ⟨S32x8192, .bf16⟩
  | .hbm, ⟨11, _⟩ => ⟨S128x8192, .f32⟩
  | .local _ .vmem, ⟨0, _⟩ => ⟨S128x1024, .bf16⟩
  | .local _ .vmem, ⟨1, _⟩ => ⟨S128x512, .bf16⟩
  | .local _ .vmem, ⟨2, _⟩ => ⟨S128x512, .bf16⟩
  | .local _ .vmem, ⟨3, _⟩ => ⟨S32x16x128, .i8⟩
  | .local _ .vmem, ⟨4, _⟩ => ⟨S32x16x128, .i8⟩
  | .local _ .vmem, ⟨5, _⟩ => ⟨S32x16x128, .i8⟩
  | .local _ .vmem, ⟨6, _⟩ => ⟨S32x16x128, .i8⟩
  | .local _ .vmem, ⟨7, _⟩ => ⟨S32x16x128, .i8⟩
  | .local _ .vmem, ⟨8, _⟩ => ⟨S32x16x128, .i8⟩
  | .local _ .vmem, ⟨9, _⟩ => ⟨S32x16x128, .i8⟩
  | .local _ .vmem, ⟨10, _⟩ => ⟨S32x16x128, .i8⟩
  | .local _ .vmem, ⟨11, _⟩ => ⟨S32x512, .bf16⟩
  | .local _ .vmem, ⟨12, _⟩ => ⟨S32x512, .bf16⟩
  | .local _ .vmem, ⟨13, _⟩ => ⟨S32x512, .bf16⟩
  | .local _ .vmem, ⟨14, _⟩ => ⟨S32x512, .bf16⟩
  | .local _ .vmem, ⟨15, _⟩ => ⟨S128x512, .f32⟩
  | .local _ .vmem, ⟨16, _⟩ => ⟨S128x512, .f32⟩
  | .local _ .vmem, ⟨17, _⟩ => ⟨S4x32x128, .f32⟩
  | .local _ .vmem, ⟨18, _⟩ => ⟨S4x32x128, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_3 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![c0_i32.toNat, c0_i32_0.toNat, v1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S128x1024 : Shape := ⟨2, ![128, 1024]⟩
abbrev S128x8192 : Shape := ⟨2, ![128, 8192]⟩
abbrev S8192x32x16 : Shape := ⟨3, ![8192, 32, 16]⟩
abbrev S8192x32 : Shape := ⟨2, ![8192, 32]⟩
abbrev S128x32x32 : Shape := ⟨3, ![128, 32, 32]⟩
abbrev S8192x32x1 : Shape := ⟨3, ![8192, 32, 1]⟩
abbrev S_ : Shape := ⟨0, ![]⟩
abbrev S128x32x16 : Shape := ⟨3, ![128, 32, 16]⟩

abbrev nBuf : Space → Nat
  | .hbm => 32
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x8192, .bf16⟩
  | .hbm, ⟨2, _⟩ => ⟨S8192x32x16, .i8⟩
  | .hbm, ⟨3, _⟩ => ⟨S8192x32, .bf16⟩
  | .hbm, ⟨4, _⟩ => ⟨S8192x32, .bf16⟩
  | .hbm, ⟨5, _⟩ => ⟨S128x8192, .f32⟩
  | .hbm, ⟨6, _⟩ => ⟨S128x32x32, .bf16⟩
  | .hbm, ⟨7, _⟩ => ⟨S8192x32x1, .bf16⟩
  | .hbm, ⟨8, _⟩ => ⟨S8192x32x1, .bf16⟩
  | .hbm, ⟨9, _⟩ => ⟨S8192x32x16, .i32⟩
  | .hbm, ⟨10, _⟩ => ⟨S_, .i32⟩
  | .hbm, ⟨11, _⟩ => ⟨S8192x32x16, .i32⟩
  | .hbm, ⟨12, _⟩ => ⟨S8192x32x16, .i32⟩
  | .hbm, ⟨13, _⟩ => ⟨S8192x32x16, .bf16⟩
  | .hbm, ⟨14, _⟩ => ⟨S8192x32x16, .bf16⟩
  | .hbm, ⟨15, _⟩ => ⟨S8192x32x16, .bf16⟩
  | .hbm, ⟨16, _⟩ => ⟨S8192x32x16, .bf16⟩
  | .hbm, ⟨17, _⟩ => ⟨S8192x32x16, .bf16⟩
  | .hbm, ⟨18, _⟩ => ⟨S_, .i32⟩
  | .hbm, ⟨19, _⟩ => ⟨S8192x32x16, .i32⟩
  | .hbm, ⟨20, _⟩ => ⟨S8192x32x16, .i32⟩
  | .hbm, ⟨21, _⟩ => ⟨S8192x32x16, .bf16⟩
  | .hbm, ⟨22, _⟩ => ⟨S8192x32x16, .bf16⟩
  | .hbm, ⟨23, _⟩ => ⟨S8192x32x16, .bf16⟩
  | .hbm, ⟨24, _⟩ => ⟨S8192x32x16, .bf16⟩
  | .hbm, ⟨25, _⟩ => ⟨S8192x32x16, .bf16⟩
  | .hbm, ⟨26, _⟩ => ⟨S128x32x16, .bf16⟩
  | .hbm, ⟨27, _⟩ => ⟨S128x8192, .f32⟩
  | .hbm, ⟨28, _⟩ => ⟨S128x32x16, .bf16⟩
  | .hbm, ⟨29, _⟩ => ⟨S128x8192, .f32⟩
  | .hbm, ⟨30, _⟩ => ⟨S128x8192, .f32⟩
  | .hbm, ⟨31, _⟩ => ⟨S128x8192, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Down.lean ====
abbrev S128x3712 : Shape := ⟨2, ![128, 3712]⟩
abbrev S128x8192 : Shape := ⟨2, ![128, 8192]⟩
abbrev S8192x116x16 : Shape := ⟨3, ![8192, 116, 16]⟩
abbrev S8192x116 : Shape := ⟨2, ![8192, 116]⟩
abbrev S128x116x2x16 : Shape := ⟨4, ![128, 116, 2, 16]⟩
abbrev S128x116x16x2 : Shape := ⟨4, ![128, 116, 16, 2]⟩
abbrev S116x16x8192 : Shape := ⟨3, ![116, 16, 8192]⟩
abbrev S116x8192 : Shape := ⟨2, ![116, 8192]⟩
abbrev S128x256 : Shape := ⟨2, ![128, 256]⟩
abbrev S116x16x128 : Shape := ⟨3, ![116, 16, 128]⟩
abbrev S116x256 : Shape := ⟨2, ![116, 256]⟩
abbrev S2x116x128 : Shape := ⟨3, ![2, 116, 128]⟩
abbrev S116x128 : Shape := ⟨2, ![116, 128]⟩
abbrev S1x116x128 : Shape := ⟨3, ![1, 116, 128]⟩
abbrev S8x8x128 : Shape := ⟨3, ![8, 8, 128]⟩
abbrev S2x16x128 : Shape := ⟨3, ![2, 16, 128]⟩
abbrev S32x128 : Shape := ⟨2, ![32, 128]⟩
abbrev S8x128 : Shape := ⟨2, ![8, 128]⟩
abbrev S8x1x128 : Shape := ⟨3, ![8, 1, 128]⟩
abbrev S64x128 : Shape := ⟨2, ![64, 128]⟩
abbrev S1x128 : Shape := ⟨2, ![1, 128]⟩
abbrev S16x128 : Shape := ⟨2, ![16, 128]⟩
abbrev S512x128 : Shape := ⟨2, ![512, 128]⟩
abbrev S512x256 : Shape := ⟨2, ![512, 256]⟩
abbrev S128x512 : Shape := ⟨2, ![128, 512]⟩
abbrev S128x128 : Shape := ⟨2, ![128, 128]⟩

abbrev nBuf : Space → Nat
  | .hbm => 12
  | .vmem => 15
  | .smem => 0
  | _ => 0

abbrev bufTy : (tb : Table) → Fin (tcTables nBuf tb) → BufTy
  | .hbm, ⟨0, _⟩ => ⟨S128x3712, .bf16⟩
  | .hbm, ⟨1, _⟩ => ⟨S128x8192, .f32⟩
  | .hbm, ⟨2, _⟩ => ⟨S8192x116x16, .i8⟩
  | .hbm, ⟨3, _⟩ => ⟨S8192x116, .bf16⟩
  | .hbm, ⟨4, _⟩ => ⟨S8192x116, .bf16⟩
  | .hbm, ⟨5, _⟩ => ⟨S128x116x2x16, .bf16⟩
  | .hbm, ⟨6, _⟩ => ⟨S128x116x16x2, .bf16⟩
  | .hbm, ⟨7, _⟩ => ⟨S128x3712, .bf16⟩
  | .hbm, ⟨8, _⟩ => ⟨S116x16x8192, .i8⟩
  | .hbm, ⟨9, _⟩ => ⟨S116x8192, .bf16⟩
  | .hbm, ⟨10, _⟩ => ⟨S116x8192, .bf16⟩
  | .hbm, ⟨11, _⟩ => ⟨S128x8192, .bf16⟩
  | .local _ .vmem, ⟨0, _⟩ => ⟨S128x3712, .bf16⟩
  | .local _ .vmem, ⟨1, _⟩ => ⟨S128x256, .f32⟩
  | .local _ .vmem, ⟨2, _⟩ => ⟨S128x256, .f32⟩
  | .local _ .vmem, ⟨3, _⟩ => ⟨S116x16x128, .i8⟩
  | .local _ .vmem, ⟨4, _⟩ => ⟨S116x16x128, .i8⟩
  | .local _ .vmem, ⟨5, _⟩ => ⟨S116x16x128, .i8⟩
  | .local _ .vmem, ⟨6, _⟩ => ⟨S116x16x128, .i8⟩
  | .local _ .vmem, ⟨7, _⟩ => ⟨S116x256, .bf16⟩
  | .local _ .vmem, ⟨8, _⟩ => ⟨S116x256, .bf16⟩
  | .local _ .vmem, ⟨9, _⟩ => ⟨S116x256, .bf16⟩
  | .local _ .vmem, ⟨10, _⟩ => ⟨S116x256, .bf16⟩
  | .local _ .vmem, ⟨11, _⟩ => ⟨S128x256, .bf16⟩
  | .local _ .vmem, ⟨12, _⟩ => ⟨S128x256, .bf16⟩
  | .local _ .vmem, ⟨13, _⟩ => ⟨S2x116x128, .f32⟩
  | .local _ .vmem, ⟨14, _⟩ => ⟨S2x116x128, .f32⟩
  | _, _ => ⟨S128x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x3712 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S116x16x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S116x16x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S116x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S116x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S128x3712 : Shape := ⟨2, ![128, 3712]⟩
abbrev S128x8192 : Shape := ⟨2, ![128, 8192]⟩
abbrev S8192x116x16 : Shape := ⟨3, ![8192, 116, 16]⟩
abbrev S8192x116 : Shape := ⟨2, ![8192, 116]⟩
abbrev S128x116x32 : Shape := ⟨3, ![128, 116, 32]⟩
abbrev S8192x116x1 : Shape := ⟨3, ![8192, 116, 1]⟩
abbrev S_ : Shape := ⟨0, ![]⟩
abbrev S128x116x16 : Shape := ⟨3, ![128, 116, 16]⟩

abbrev nBuf : Space → Nat
  | .hbm => 32
  | .vmem => 0
  | .smem => 0
  | _ => 0

abbrev bufTy : (tb : Table) → Fin (tcTables nBuf tb) → BufTy
  | .hbm, ⟨0, _⟩ => ⟨S128x3712, .bf16⟩
  | .hbm, ⟨1, _⟩ => ⟨S128x8192, .f32⟩
  | .hbm, ⟨2, _⟩ => ⟨S8192x116x16, .i8⟩
  | .hbm, ⟨3, _⟩ => ⟨S8192x116, .bf16⟩
  | .hbm, ⟨4, _⟩ => ⟨S8192x116, .bf16⟩
  | .hbm, ⟨5, _⟩ => ⟨S128x116x32, .bf16⟩
  | .hbm, ⟨6, _⟩ => ⟨S8192x116x1, .bf16⟩
  | .hbm, ⟨7, _⟩ => ⟨S8192x116x1, .bf16⟩
  | .hbm, ⟨8, _⟩ => ⟨S8192x116x16, .i32⟩
  | .hbm, ⟨9, _⟩ => ⟨S_, .i32⟩
  | .hbm, ⟨10, _⟩ => ⟨S8192x116x16, .i32⟩
  | .hbm, ⟨11, _⟩ => ⟨S8192x116x16, .i32⟩
  | .hbm, ⟨12, _⟩ => ⟨S8192x116x16, .bf16⟩
  | .hbm, ⟨13, _⟩ => ⟨S8192x116x16, .bf16⟩
  | .hbm, ⟨14, _⟩ => ⟨S8192x116x16, .bf16⟩
  | .hbm, ⟨15, _⟩ => ⟨S8192x116x16, .bf16⟩
  | .hbm, ⟨16, _⟩ => ⟨S8192x116x16, .bf16⟩
  | .hbm, ⟨17, _⟩ => ⟨S_, .i32⟩
  | .hbm, ⟨18, _⟩ => ⟨S8192x116x16, .i32⟩
  | .hbm, ⟨19, _⟩ => ⟨S8192x116x16, .i32⟩
  | .hbm, ⟨20, _⟩ => ⟨S8192x116x16, .bf16⟩
  | .hbm, ⟨21, _⟩ => ⟨S8192x116x16, .bf16⟩
  | .hbm, ⟨22, _⟩ => ⟨S8192x116x16, .bf16⟩
  | .hbm, ⟨23, _⟩ => ⟨S8192x116x16, .bf16⟩
  | .hbm, ⟨24, _⟩ => ⟨S8192x116x16, .bf16⟩
  | .hbm, ⟨25, _⟩ => ⟨S128x116x16, .bf16⟩
  | .hbm, ⟨26, _⟩ => ⟨S128x8192, .f32⟩
  | .hbm, ⟨27, _⟩ => ⟨S128x116x16, .bf16⟩
  | .hbm, ⟨28, _⟩ => ⟨S128x8192, .f32⟩
  | .hbm, ⟨29, _⟩ => ⟨S128x8192, .f32⟩
  | .hbm, ⟨30, _⟩ => ⟨S128x8192, .f32⟩
  | .hbm, ⟨31, _⟩ => ⟨S128x8192, .bf16⟩
  | _, _ => ⟨S128x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== FfnIn.lean ====
abbrev S128x8192 : Shape := ⟨2, ![128, 8192]⟩
abbrev S3712x256x16 : Shape := ⟨3, ![3712, 256, 16]⟩
abbrev S3712x256 : Shape := ⟨2, ![3712, 256]⟩
abbrev S128x256x2x16 : Shape := ⟨4, ![128, 256, 2, 16]⟩
abbrev S128x256x16x2 : Shape := ⟨4, ![128, 256, 16, 2]⟩
abbrev S3712x16x256 : Shape := ⟨3, ![3712, 16, 256]⟩
abbrev S128x3712 : Shape := ⟨2, ![128, 3712]⟩
abbrev S128x16x128 : Shape := ⟨3, ![128, 16, 128]⟩
abbrev S128x256 : Shape := ⟨2, ![128, 256]⟩
abbrev S128x128 : Shape := ⟨2, ![128, 128]⟩
abbrev S2x1024x128 : Shape := ⟨3, ![2, 1024, 128]⟩
abbrev S2x256x128 : Shape := ⟨3, ![2, 256, 128]⟩
abbrev S2048x128 : Shape := ⟨2, ![2048, 128]⟩
abbrev S512x128 : Shape := ⟨2, ![512, 128]⟩
abbrev S128x4x128 : Shape := ⟨3, ![128, 4, 128]⟩
abbrev S128x1x128 : Shape := ⟨3, ![128, 1, 128]⟩
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩
abbrev S8x8x128 : Shape := ⟨3, ![8, 8, 128]⟩
abbrev S8x128 : Shape := ⟨2, ![8, 128]⟩
abbrev S8x1x128 : Shape := ⟨3, ![8, 1, 128]⟩
abbrev S64x128 : Shape := ⟨2, ![64, 128]⟩
abbrev S1x128 : Shape := ⟨2, ![1, 128]⟩
abbrev S16x128 : Shape := ⟨2, ![16, 128]⟩
abbrev S512x256 : Shape := ⟨2, ![512, 256]⟩
abbrev S128x512 : Shape := ⟨2, ![128, 512]⟩
abbrev S128x128x1 : Shape := ⟨3, ![128, 128, 1]⟩

abbrev nBuf : Space → Nat
  | .hbm => 13
  | .vmem => 22
  | .smem => 0
  | _ => 0

abbrev bufTy : (tb : Table) → Fin (tcTables nBuf tb) → BufTy
  | .hbm, ⟨0, _⟩ => ⟨S128x8192, .bf16⟩
  | .hbm, ⟨1, _⟩ => ⟨S3712x256x16, .i8⟩
  | .hbm, ⟨2, _⟩ => ⟨S3712x256, .bf16⟩
  | .hbm, ⟨3, _⟩ => ⟨S3712x256, .bf16⟩
  | .hbm, ⟨4, _⟩ => ⟨S3712x256x16, .i8⟩
  | .hbm, ⟨5, _⟩ => ⟨S3712x256, .bf16⟩
  | .hbm, ⟨6, _⟩ => ⟨S3712x256, .bf16⟩
  | .hbm, ⟨7, _⟩ => ⟨S128x256x2x16, .bf16⟩
  | .hbm, ⟨8, _⟩ => ⟨S128x256x16x2, .bf16⟩
  | .hbm, ⟨9, _⟩ => ⟨S128x8192, .bf16⟩
  | .hbm, ⟨10, _⟩ => ⟨S3712x16x256, .i8⟩
  | .hbm, ⟨11, _⟩ => ⟨S3712x16x256, .i8⟩
  | .hbm, ⟨12, _⟩ => ⟨S128x3712, .bf16⟩
  | .local _ .vmem, ⟨0, _⟩ => ⟨S128x8192, .bf16⟩
  | .local _ .vmem, ⟨1, _⟩ => ⟨S128x16x128, .i8⟩
  | .local _ .vmem, ⟨2, _⟩ => ⟨S128x16x128, .i8⟩
  | .local _ .vmem, ⟨3, _⟩ => ⟨S128x16x128, .i8⟩
  | .local _ .vmem, ⟨4, _⟩ => ⟨S128x16x128, .i8⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x16x128, .i8⟩
  | .local _ .vmem, ⟨10, _⟩ => ⟨S128x16x128, .i8⟩
  | .local _ .vmem, ⟨11, _⟩ => ⟨S128x16x128, .i8⟩
  | .local _ .vmem, ⟨12, _⟩ => ⟨S128x16x128, .i8⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x128, .bf16⟩
  | .local _ .vmem, ⟨18, _⟩ => ⟨S128x128, .bf16⟩
  | .local _ .vmem, ⟨19, _⟩ => ⟨S2x1024x128, .i32⟩
  | .local _ .vmem, ⟨20, _⟩ => ⟨S2x256x128, .f32⟩
  | .local _ .vmem, ⟨21, _⟩ => ⟨S2x256x128, .f32⟩
  | _, _ => ⟨S128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x16x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnInRefIdeal.lean ====
abbrev S128x8192 : Shape := ⟨2, ![128, 8192]⟩
abbrev S3712x256x16 : Shape := ⟨3, ![3712, 256, 16]⟩
abbrev S3712x256 : Shape := ⟨2, ![3712, 256]⟩
abbrev S128x256x32 : Shape := ⟨3, ![128, 256, 32]⟩
abbrev S3712x256x1 : Shape := ⟨3, ![3712, 256, 1]⟩
abbrev S_ : Shape := ⟨0, ![]⟩
abbrev S128x256x16 : Shape := ⟨3, ![128, 256, 16]⟩
abbrev S128x3712 : Shape := ⟨2, ![128, 3712]⟩
abbrev S128x116x2x16 : Shape := ⟨4, ![128, 116, 2, 16]⟩
abbrev S128x116x16x2 : Shape := ⟨4, ![128, 116, 16, 2]⟩

abbrev nBuf : Space → Nat
  | .hbm => 71
  | .vmem => 0
  | .smem => 0
  | _ => 0

abbrev bufTy : (tb : Table) → Fin (tcTables nBuf tb) → BufTy
  | .hbm, ⟨0, _⟩ => ⟨S128x8192, .bf16⟩
  | .hbm, ⟨1, _⟩ => ⟨S3712x256x16, .i8⟩
  | .hbm, ⟨2, _⟩ => ⟨S3712x256, .bf16⟩
  | .hbm, ⟨3, _⟩ => ⟨S3712x256, .bf16⟩
  | .hbm, ⟨4, _⟩ => ⟨S3712x256x16, .i8⟩
  | .hbm, ⟨5, _⟩ => ⟨S3712x256, .bf16⟩
  | .hbm, ⟨6, _⟩ => ⟨S3712x256, .bf16⟩
  | .hbm, ⟨7, _⟩ => ⟨S128x256x32, .bf16⟩
  | .hbm, ⟨8, _⟩ => ⟨S3712x256x1, .bf16⟩
  | .hbm, ⟨9, _⟩ => ⟨S3712x256x1, .bf16⟩
  | .hbm, ⟨10, _⟩ => ⟨S3712x256x16, .i32⟩
  | .hbm, ⟨11, _⟩ => ⟨S_, .i32⟩
  | .hbm, ⟨12, _⟩ => ⟨S3712x256x16, .i32⟩
  | .hbm, ⟨13, _⟩ => ⟨S3712x256x16, .i32⟩
  | .hbm, ⟨14, _⟩ => ⟨S3712x256x16, .bf16⟩
  | .hbm, ⟨15, _⟩ => ⟨S3712x256x16, .bf16⟩
  | .hbm, ⟨16, _⟩ => ⟨S3712x256x16, .bf16⟩
  | .hbm, ⟨17, _⟩ => ⟨S3712x256x16, .bf16⟩
  | .hbm, ⟨18, _⟩ => ⟨S3712x256x16, .bf16⟩
  | .hbm, ⟨19, _⟩ => ⟨S_, .i32⟩
  | .hbm, ⟨20, _⟩ => ⟨S3712x256x16, .i32⟩
  | .hbm, ⟨21, _⟩ => ⟨S3712x256x16, .i32⟩
  | .hbm, ⟨22, _⟩ => ⟨S3712x256x16, .bf16⟩
  | .hbm, ⟨23, _⟩ => ⟨S3712x256x16, .bf16⟩
  | .hbm, ⟨24, _⟩ => ⟨S3712x256x16, .bf16⟩
  | .hbm, ⟨25, _⟩ => ⟨S3712x256x16, .bf16⟩
  | .hbm, ⟨26, _⟩ => ⟨S3712x256x16, .bf16⟩
  | .hbm, ⟨27, _⟩ => ⟨S128x256x16, .bf16⟩
  | .hbm, ⟨28, _⟩ => ⟨S128x3712, .f32⟩
  | .hbm, ⟨29, _⟩ => ⟨S128x256x16, .bf16⟩
  | .hbm, ⟨30, _⟩ => ⟨S128x3712, .f32⟩
  | .hbm, ⟨31, _⟩ => ⟨S128x3712, .f32⟩
  | .hbm, ⟨32, _⟩ => ⟨S128x256x32, .bf16⟩
  | .hbm, ⟨33, _⟩ => ⟨S3712x256x1, .bf16⟩
  | .hbm, ⟨34, _⟩ => ⟨S3712x256x1, .bf16⟩
  | .hbm, ⟨35, _⟩ => ⟨S3712x256x16, .i32⟩
  | .hbm, ⟨36, _⟩ => ⟨S_, .i32⟩
  | .hbm, ⟨37, _⟩ => ⟨S3712x256x16, .i32⟩
  | .hbm, ⟨38, _⟩ => ⟨S3712x256x16, .i32⟩
  | .hbm, ⟨39, _⟩ => ⟨S3712x256x16, .bf16⟩
  | .hbm, ⟨40, _⟩ => ⟨S3712x256x16, .bf16⟩
  | .hbm, ⟨41, _⟩ => ⟨S3712x256x16, .bf16⟩
  | .hbm, ⟨42, _⟩ => ⟨S3712x256x16, .bf16⟩
  | .hbm, ⟨43, _⟩ => ⟨S3712x256x16, .bf16⟩
  | .hbm, ⟨44, _⟩ => ⟨S_, .i32⟩
  | .hbm, ⟨45, _⟩ => ⟨S3712x256x16, .i32⟩
  | .hbm, ⟨46, _⟩ => ⟨S3712x256x16, .i32⟩
  | .hbm, ⟨47, _⟩ => ⟨S3712x256x16, .bf16⟩
  | .hbm, ⟨48, _⟩ => ⟨S3712x256x16, .bf16⟩
  | .hbm, ⟨49, _⟩ => ⟨S3712x256x16, .bf16⟩
  | .hbm, ⟨50, _⟩ => ⟨S3712x256x16, .bf16⟩
  | .hbm, ⟨51, _⟩ => ⟨S3712x256x16, .bf16⟩
  | .hbm, ⟨52, _⟩ => ⟨S128x256x16, .bf16⟩
  | .hbm, ⟨53, _⟩ => ⟨S128x3712, .f32⟩
  | .hbm, ⟨54, _⟩ => ⟨S128x256x16, .bf16⟩
  | .hbm, ⟨55, _⟩ => ⟨S128x3712, .f32⟩
  | .hbm, ⟨56, _⟩ => ⟨S128x3712, .f32⟩
  | .hbm, ⟨57, _⟩ => ⟨S128x3712, .f32⟩
  | .hbm, ⟨58, _⟩ => ⟨S128x3712, .f32⟩
  | .hbm, ⟨59, _⟩ => ⟨S_, .f32⟩
  | .hbm, ⟨60, _⟩ => ⟨S128x3712, .f32⟩
  | .hbm, ⟨61, _⟩ => ⟨S128x3712, .f32⟩
  | .hbm, ⟨62, _⟩ => ⟨S_, .f32⟩
  | .hbm, ⟨63, _⟩ => ⟨S128x3712, .f32⟩
  | .hbm, ⟨64, _⟩ => ⟨S128x3712, .f32⟩
  | .hbm, ⟨65, _⟩ => ⟨S128x3712, .f32⟩
  | .hbm, ⟨66, _⟩ => ⟨S128x3712, .f32⟩
  | .hbm, ⟨67, _⟩ => ⟨S128x3712, .bf16⟩
  | .hbm, ⟨68, _⟩ => ⟨S128x116x2x16, .bf16⟩
  | .hbm, ⟨69, _⟩ => ⟨S128x116x16x2, .bf16⟩
  | .hbm, ⟨70, _⟩ => ⟨S128x3712, .bf16⟩
  | _, _ => ⟨S128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== QProj.lean ====
abbrev S128x8192 : Shape := ⟨2, ![128, 8192]⟩
abbrev S1024x256x16 : Shape := ⟨3, ![1024, 256, 16]⟩
abbrev S1024x256 : Shape := ⟨2, ![1024, 256]⟩
abbrev S128x256x2x16 : Shape := ⟨4, ![128, 256, 2, 16]⟩
abbrev S128x256x16x2 : Shape := ⟨4, ![128, 256, 16, 2]⟩
abbrev S1024x16x256 : Shape := ⟨3, ![1024, 16, 256]⟩
abbrev S128x1024 : Shape := ⟨2, ![128, 1024]⟩
abbrev S128x16x128 : Shape := ⟨3, ![128, 16, 128]⟩
abbrev S128x256 : Shape := ⟨2, ![128, 256]⟩
abbrev S2x1024x128 : Shape := ⟨3, ![2, 1024, 128]⟩
abbrev S2x256x128 : Shape := ⟨3, ![2, 256, 128]⟩
abbrev S2048x128 : Shape := ⟨2, ![2048, 128]⟩
abbrev S512x128 : Shape := ⟨2, ![512, 128]⟩
abbrev S128x4x128 : Shape := ⟨3, ![128, 4, 128]⟩
abbrev S128x1x128 : Shape := ⟨3, ![128, 1, 128]⟩
abbrev S128x128 : Shape := ⟨2, ![128, 128]⟩
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩
abbrev S8x8x128 : Shape := ⟨3, ![8, 8, 128]⟩
abbrev S8x128 : Shape := ⟨2, ![8, 128]⟩
abbrev S8x1x128 : Shape := ⟨3, ![8, 1, 128]⟩
abbrev S64x128 : Shape := ⟨2, ![64, 128]⟩
abbrev S1x128 : Shape := ⟨2, ![1, 128]⟩
abbrev S16x128 : Shape := ⟨2, ![16, 128]⟩
abbrev S512x256 : Shape := ⟨2, ![512, 256]⟩
abbrev S128x512 : Shape := ⟨2, ![128, 512]⟩

abbrev nBuf : Space → Nat
  | .hbm => 10
  | .vmem => 22
  | .smem => 0
  | _ => 0

abbrev bufTy : (tb : Table) → Fin (tcTables nBuf tb) → BufTy
  | .hbm, ⟨0, _⟩ => ⟨S128x8192, .bf16⟩
  | .hbm, ⟨1, _⟩ => ⟨S1024x256x16, .i8⟩
  | .hbm, ⟨2, _⟩ => ⟨S1024x256, .bf16⟩
  | .hbm, ⟨3, _⟩ => ⟨S1024x256, .bf16⟩
  | .hbm, ⟨4, _⟩ => ⟨S128x256x2x16, .bf16⟩
  | .hbm, ⟨5, _⟩ => ⟨S128x256x16x2, .bf16⟩
  | .hbm, ⟨6, _⟩ => ⟨S128x8192, .bf16⟩
  | .hbm, ⟨7, _⟩ => ⟨S1024x16x256, .i8⟩
  | .hbm, ⟨8, _⟩ => ⟨S1024x16x256, .i8⟩
  | .hbm, ⟨9, _⟩ => ⟨S128x1024, .f32⟩
  | .local _ .vmem, ⟨0, _⟩ => ⟨S128x8192, .bf16⟩
  | .local _ .vmem, ⟨1, _⟩ => ⟨S128x16x128, .i8⟩
  | .local _ .vmem, ⟨2, _⟩ => ⟨S128x16x128, .i8⟩
  | .local _ .vmem, ⟨3, _⟩ => ⟨S128x16x128, .i8⟩
  | .local _ .vmem, ⟨4, _⟩ => ⟨S128x16x128, .i8⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x16x128, .i8⟩
  | .local _ .vmem, ⟨10, _⟩ => ⟨S128x16x128, .i8⟩
  | .local _ .vmem, ⟨11, _⟩ => ⟨S128x16x128, .i8⟩
  | .local _ .vmem, ⟨12, _⟩ => ⟨S128x16x128, .i8⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x256, .f32⟩
  | .local _ .vmem, ⟨18, _⟩ => ⟨S128x256, .f32⟩
  | .local _ .vmem, ⟨19, _⟩ => ⟨S2x1024x128, .i32⟩
  | .local _ .vmem, ⟨20, _⟩ => ⟨S2x256x128, .f32⟩
  | .local _ .vmem, ⟨21, _⟩ => ⟨S2x256x128, .f32⟩
  | _, _ => ⟨S128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c1_i32 : BitVec 32 := 1#32
  let c0_i32_0 : BitVec 32 := 0#32
  ![v0.toNat, c0_i32.toNat, c1_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c1_i32_0 : BitVec 32 := 1#32
  let c0_i32_1 : BitVec 32 := 0#32
  ![v1.toNat, c0_i32.toNat, c1_i32_0.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x16x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QProjRefIdeal.lean ====
abbrev S128x8192 : Shape := ⟨2, ![128, 8192]⟩
abbrev S1024x256x16 : Shape := ⟨3, ![1024, 256, 16]⟩
abbrev S1024x256 : Shape := ⟨2, ![1024, 256]⟩
abbrev S128x256x32 : Shape := ⟨3, ![128, 256, 32]⟩
abbrev S1024x256x1 : Shape := ⟨3, ![1024, 256, 1]⟩
abbrev S_ : Shape := ⟨0, ![]⟩
abbrev S128x256x16 : Shape := ⟨3, ![128, 256, 16]⟩
abbrev S128x1024 : Shape := ⟨2, ![128, 1024]⟩

abbrev nBuf : Space → Nat
  | .hbm => 29
  | .vmem => 0
  | .smem => 0
  | _ => 0

abbrev bufTy : (tb : Table) → Fin (tcTables nBuf tb) → BufTy
  | .hbm, ⟨0, _⟩ => ⟨S128x8192, .bf16⟩
  | .hbm, ⟨1, _⟩ => ⟨S1024x256x16, .i8⟩
  | .hbm, ⟨2, _⟩ => ⟨S1024x256, .bf16⟩
  | .hbm, ⟨3, _⟩ => ⟨S1024x256, .bf16⟩
  | .hbm, ⟨4, _⟩ => ⟨S128x256x32, .bf16⟩
  | .hbm, ⟨5, _⟩ => ⟨S1024x256x1, .bf16⟩
  | .hbm, ⟨6, _⟩ => ⟨S1024x256x1, .bf16⟩
  | .hbm, ⟨7, _⟩ => ⟨S1024x256x16, .i32⟩
  | .hbm, ⟨8, _⟩ => ⟨S_, .i32⟩
  | .hbm, ⟨9, _⟩ => ⟨S1024x256x16, .i32⟩
  | .hbm, ⟨10, _⟩ => ⟨S1024x256x16, .i32⟩
  | .hbm, ⟨11, _⟩ => ⟨S1024x256x16, .bf16⟩
  | .hbm, ⟨12, _⟩ => ⟨S1024x256x16, .bf16⟩
  | .hbm, ⟨13, _⟩ => ⟨S1024x256x16, .bf16⟩
  | .hbm, ⟨14, _⟩ => ⟨S1024x256x16, .bf16⟩
  | .hbm, ⟨15, _⟩ => ⟨S1024x256x16, .bf16⟩
  | .hbm, ⟨16, _⟩ => ⟨S_, .i32⟩
  | .hbm, ⟨17, _⟩ => ⟨S1024x256x16, .i32⟩
  | .hbm, ⟨18, _⟩ => ⟨S1024x256x16, .i32⟩
  | .hbm, ⟨19, _⟩ => ⟨S1024x256x16, .bf16⟩
  | .hbm, ⟨20, _⟩ => ⟨S1024x256x16, .bf16⟩
  | .hbm, ⟨21, _⟩ => ⟨S1024x256x16, .bf16⟩
  | .hbm, ⟨22, _⟩ => ⟨S1024x256x16, .bf16⟩
  | .hbm, ⟨23, _⟩ => ⟨S1024x256x16, .bf16⟩
  | .hbm, ⟨24, _⟩ => ⟨S128x256x16, .bf16⟩
  | .hbm, ⟨25, _⟩ => ⟨S128x1024, .f32⟩
  | .hbm, ⟨26, _⟩ => ⟨S128x256x16, .bf16⟩
  | .hbm, ⟨27, _⟩ => ⟨S128x1024, .f32⟩
  | .hbm, ⟨28, _⟩ => ⟨S128x1024, .f32⟩
  | _, _ => ⟨S128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KVProj.lean ====
abbrev S128x8192 : Shape := ⟨2, ![128, 8192]⟩
abbrev S128x256x16 : Shape := ⟨3, ![128, 256, 16]⟩
abbrev S128x256 : Shape := ⟨2, ![128, 256]⟩
abbrev S128x256x2x16 : Shape := ⟨4, ![128, 256, 2, 16]⟩
abbrev S128x256x16x2 : Shape := ⟨4, ![128, 256, 16, 2]⟩
abbrev S128x16x256 : Shape := ⟨3, ![128, 16, 256]⟩
abbrev S128x16x128 : Shape := ⟨3, ![128, 16, 128]⟩
abbrev S2x1024x128 : Shape := ⟨3, ![2, 1024, 128]⟩
abbrev S2x256x128 : Shape := ⟨3, ![2, 256, 128]⟩
abbrev S2048x128 : Shape := ⟨2, ![2048, 128]⟩
abbrev S512x128 : Shape := ⟨2, ![512, 128]⟩
abbrev S128x4x128 : Shape := ⟨3, ![128, 4, 128]⟩
abbrev S128x1x128 : Shape := ⟨3, ![128, 1, 128]⟩
abbrev S128x128 : Shape := ⟨2, ![128, 128]⟩
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩
abbrev S8x8x128 : Shape := ⟨3, ![8, 8, 128]⟩
abbrev S8x128 : Shape := ⟨2, ![8, 128]⟩
abbrev S8x1x128 : Shape := ⟨3, ![8, 1, 128]⟩
abbrev S64x128 : Shape := ⟨2, ![64, 128]⟩
abbrev S1x128 : Shape := ⟨2, ![1, 128]⟩
abbrev S16x128 : Shape := ⟨2, ![16, 128]⟩
abbrev S512x256 : Shape := ⟨2, ![512, 256]⟩
abbrev S128x512 : Shape := ⟨2, ![128, 512]⟩

abbrev nBuf : Space → Nat
  | .hbm => 13
  | .vmem => 13
  | .smem => 0
  | _ => 0

abbrev bufTy : (tb : Table) → Fin (tcTables nBuf tb) → BufTy
  | .hbm, ⟨0, _⟩ => ⟨S128x8192, .bf16⟩
  | .hbm, ⟨1, _⟩ => ⟨S128x256x16, .i8⟩
  | .hbm, ⟨2, _⟩ => ⟨S128x256, .bf16⟩
  | .hbm, ⟨3, _⟩ => ⟨S128x256, .bf16⟩
  | .hbm, ⟨4, _⟩ => ⟨S128x256x16, .i8⟩
  | .hbm, ⟨5, _⟩ => ⟨S128x256, .bf16⟩
  | .hbm, ⟨6, _⟩ => ⟨S128x256, .bf16⟩
  | .hbm, ⟨7, _⟩ => ⟨S128x256x2x16, .bf16⟩
  | .hbm, ⟨8, _⟩ => ⟨S128x256x16x2, .bf16⟩
  | .hbm, ⟨9, _⟩ => ⟨S128x8192, .bf16⟩
  | .hbm, ⟨10, _⟩ => ⟨S128x16x256, .i8⟩
  | .hbm, ⟨11, _⟩ => ⟨S128x16x256, .i8⟩
  | .hbm, ⟨12, _⟩ => ⟨S128x256, .f32⟩
  | .local _ .vmem, ⟨0, _⟩ => ⟨S128x8192, .bf16⟩
  | .local _ .vmem, ⟨1, _⟩ => ⟨S128x16x128, .i8⟩
  | .local _ .vmem, ⟨2, _⟩ => ⟨S128x16x128, .i8⟩
  | .local _ .vmem, ⟨3, _⟩ => ⟨S128x256, .bf16⟩
  | .local _ .vmem, ⟨4, _⟩ => ⟨S128x256, .bf16⟩
  | .local _ .vmem, ⟨5, _⟩ => ⟨S128x16x128, .i8⟩
  | .local _ .vmem, ⟨6, _⟩ => ⟨S128x16x128, .i8⟩
  | .local _ .vmem, ⟨7, _⟩ => ⟨S128x256, .bf16⟩
  | .local _ .vmem, ⟨8, _⟩ => ⟨S128x256, .bf16⟩
  | .local _ .vmem, ⟨9, _⟩ => ⟨S128x256, .f32⟩
  | .local _ .vmem, ⟨10, _⟩ => ⟨S2x1024x128, .i32⟩
  | .local _ .vmem, ⟨11, _⟩ => ⟨S2x256x128, .f32⟩
  | .local _ .vmem, ⟨12, _⟩ => ⟨S2x256x128, .f32⟩
  | _, _ => ⟨S128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x16x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x16x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x16x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== KVProjRefIdeal.lean ====
abbrev S128x8192 : Shape := ⟨2, ![128, 8192]⟩
abbrev S128x256x16 : Shape := ⟨3, ![128, 256, 16]⟩
abbrev S128x256 : Shape := ⟨2, ![128, 256]⟩
abbrev S128x256x32 : Shape := ⟨3, ![128, 256, 32]⟩
abbrev S128x256x1 : Shape := ⟨3, ![128, 256, 1]⟩
abbrev S_ : Shape := ⟨0, ![]⟩
abbrev S128x128 : Shape := ⟨2, ![128, 128]⟩

abbrev nBuf : Space → Nat
  | .hbm => 58
  | .vmem => 0
  | .smem => 0
  | _ => 0

abbrev bufTy : (tb : Table) → Fin (tcTables nBuf tb) → BufTy
  | .hbm, ⟨0, _⟩ => ⟨S128x8192, .bf16⟩
  | .hbm, ⟨1, _⟩ => ⟨S128x256x16, .i8⟩
  | .hbm, ⟨2, _⟩ => ⟨S128x256, .bf16⟩
  | .hbm, ⟨3, _⟩ => ⟨S128x256, .bf16⟩
  | .hbm, ⟨4, _⟩ => ⟨S128x256x16, .i8⟩
  | .hbm, ⟨5, _⟩ => ⟨S128x256, .bf16⟩
  | .hbm, ⟨6, _⟩ => ⟨S128x256, .bf16⟩
  | .hbm, ⟨7, _⟩ => ⟨S128x256x32, .bf16⟩
  | .hbm, ⟨8, _⟩ => ⟨S128x256x1, .bf16⟩
  | .hbm, ⟨9, _⟩ => ⟨S128x256x1, .bf16⟩
  | .hbm, ⟨10, _⟩ => ⟨S128x256x16, .i32⟩
  | .hbm, ⟨11, _⟩ => ⟨S_, .i32⟩
  | .hbm, ⟨12, _⟩ => ⟨S128x256x16, .i32⟩
  | .hbm, ⟨13, _⟩ => ⟨S128x256x16, .i32⟩
  | .hbm, ⟨14, _⟩ => ⟨S128x256x16, .bf16⟩
  | .hbm, ⟨15, _⟩ => ⟨S128x256x16, .bf16⟩
  | .hbm, ⟨16, _⟩ => ⟨S128x256x16, .bf16⟩
  | .hbm, ⟨17, _⟩ => ⟨S128x256x16, .bf16⟩
  | .hbm, ⟨18, _⟩ => ⟨S128x256x16, .bf16⟩
  | .hbm, ⟨19, _⟩ => ⟨S_, .i32⟩
  | .hbm, ⟨20, _⟩ => ⟨S128x256x16, .i32⟩
  | .hbm, ⟨21, _⟩ => ⟨S128x256x16, .i32⟩
  | .hbm, ⟨22, _⟩ => ⟨S128x256x16, .bf16⟩
  | .hbm, ⟨23, _⟩ => ⟨S128x256x16, .bf16⟩
  | .hbm, ⟨24, _⟩ => ⟨S128x256x16, .bf16⟩
  | .hbm, ⟨25, _⟩ => ⟨S128x256x16, .bf16⟩
  | .hbm, ⟨26, _⟩ => ⟨S128x256x16, .bf16⟩
  | .hbm, ⟨27, _⟩ => ⟨S128x256x16, .bf16⟩
  | .hbm, ⟨28, _⟩ => ⟨S128x128, .f32⟩
  | .hbm, ⟨29, _⟩ => ⟨S128x256x16, .bf16⟩
  | .hbm, ⟨30, _⟩ => ⟨S128x128, .f32⟩
  | .hbm, ⟨31, _⟩ => ⟨S128x128, .f32⟩
  | .hbm, ⟨32, _⟩ => ⟨S128x256x32, .bf16⟩
  | .hbm, ⟨33, _⟩ => ⟨S128x256x1, .bf16⟩
  | .hbm, ⟨34, _⟩ => ⟨S128x256x1, .bf16⟩
  | .hbm, ⟨35, _⟩ => ⟨S128x256x16, .i32⟩
  | .hbm, ⟨36, _⟩ => ⟨S_, .i32⟩
  | .hbm, ⟨37, _⟩ => ⟨S128x256x16, .i32⟩
  | .hbm, ⟨38, _⟩ => ⟨S128x256x16, .i32⟩
  | .hbm, ⟨39, _⟩ => ⟨S128x256x16, .bf16⟩
  | .hbm, ⟨40, _⟩ => ⟨S128x256x16, .bf16⟩
  | .hbm, ⟨41, _⟩ => ⟨S128x256x16, .bf16⟩
  | .hbm, ⟨42, _⟩ => ⟨S128x256x16, .bf16⟩
  | .hbm, ⟨43, _⟩ => ⟨S128x256x16, .bf16⟩
  | .hbm, ⟨44, _⟩ => ⟨S_, .i32⟩
  | .hbm, ⟨45, _⟩ => ⟨S128x256x16, .i32⟩
  | .hbm, ⟨46, _⟩ => ⟨S128x256x16, .i32⟩
  | .hbm, ⟨47, _⟩ => ⟨S128x256x16, .bf16⟩
  | .hbm, ⟨48, _⟩ => ⟨S128x256x16, .bf16⟩
  | .hbm, ⟨49, _⟩ => ⟨S128x256x16, .bf16⟩
  | .hbm, ⟨50, _⟩ => ⟨S128x256x16, .bf16⟩
  | .hbm, ⟨51, _⟩ => ⟨S128x256x16, .bf16⟩
  | .hbm, ⟨52, _⟩ => ⟨S128x256x16, .bf16⟩
  | .hbm, ⟨53, _⟩ => ⟨S128x128, .f32⟩
  | .hbm, ⟨54, _⟩ => ⟨S128x256x16, .bf16⟩
  | .hbm, ⟨55, _⟩ => ⟨S128x128, .f32⟩
  | .hbm, ⟨56, _⟩ => ⟨S128x128, .f32⟩
  | .hbm, ⟨57, _⟩ => ⟨S128x256, .f32⟩
  | _, _ => ⟨S128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Proof.Nibble.lean ====
/- Four-bit codes, read at an index over the extended reals: a 32-bit word that holds four bytes holds eight
   four-bit codes, and the kernels' unpacking (broadcast a word row to eight rows, shift row `r` right by `4r`, mask,
   convert) puts code `r` of word row `q` at row `8q + r`. -/
module

public import Idealize.ShloMosaic.Lib.Pointwise
public import Idealize.ShloMosaic.Lib.BitcastFour
public import Idealize.ShloMosaic.Lib.Pointwise.IndexBridge

@[expose] public section

set_option maxRecDepth 16384

noncomputable section

namespace Q4

open Idealize.ShloMosaic

/-- The four-bit code of byte `b` at place `p` (0: the low half, 1: the high half). -/
def half (b : BitVec 8) (p : ℕ) : ℕ := b.toNat / 16 ^ p % 16

/-- The same as a real number. -/
def code (b : BitVec 8) (p : ℕ) : EReal := ((half b p : ℝ) : EReal)

/-- The unpacking of eight word rows of four-bit codes, as the kernels write it. -/
def unpack (w : IVec ⟨2, ![8, 128]⟩ 32) : FVec Ideal ⟨2, ![64, 128]⟩ .bf16 :=
  uitofp .bf16 (shapeCast ⟨2, ![64, 128]⟩ (andi (shrui (broadcastTo ⟨3, ![8, 8, 128]⟩
    (shapeCast ⟨3, ![8, 1, 128]⟩ (shapeCast ⟨3, ![8, 1, 128]⟩ w)))
    (muli (iota .tc ⟨3, ![8, 8, 128]⟩ 32 [1]) (broadcast ⟨3, ![8, 8, 128]⟩ 4#32)))
    (broadcast ⟨3, ![8, 8, 128]⟩ 15#32)))

/-- Four bits of a word, as a number. -/
theorem shift_mask (x : BitVec 32) (n : ℕ) (hn : n < 32) :
    (IntOp.andi (IntOp.shrui .vector x (BitVec.ofNat 32 n)) 15#32).toNat = x.toNat / 2 ^ n % 16 := by
  have h : (BitVec.ofNat 32 n).toNat = n := by simp; omega
  unfold IntOp.andi IntOp.shrui
  rw [h, if_pos hn, BitVec.toNat_and, show (x >>> BitVec.ofNat 32 n).toNat = x.toNat / 2 ^ n from by
    rw [BitVec.ushiftRight_eq', h, BitVec.toNat_ushiftRight, Nat.shiftRight_eq_div_pow]]
  exact Nat.and_two_pow_sub_one_eq_mod _ 4

/-- Row `R` of the unpacked codes is code `R % 8` of word row `R / 8`. -/
theorem unpack_apply (w : IVec ⟨2, ![8, 128]⟩ 32) (R : Fin 64) (c : Fin 128) :
    unpack w (ix2 R c) = ((((w (ix2 ⟨R / 8, by omega⟩ c)).toNat / 2 ^ (4 * (R.val % 8)) % 16 : ℕ) : ℝ) : EReal) := by
  unfold unpack
  pointwise
  rw [← shift_mask _ _ (by omega)]
  have e : IntOp.muli (BitVec.ofNat 32 (R.val % 8)) 4#32 = BitVec.ofNat 32 (4 * (R.val % 8)) := by
    show BitVec.ofNat 32 (R.val % 8) * BitVec.ofNat 32 4 = _
    rw [← BitVec.ofNat_mul, Nat.mul_comm]
  rw [e]
  rfl

/-- A word of four bytes: the bits from `8k` on are byte `k`'s, so its four-bit code at place `2k + p` is byte `k`'s code at place `p`. -/
theorem word_half (x : (⟨2, ![32, 128]⟩ : Shape).Idx → BitVec 8) (h : (⟨2, ![32, 128]⟩ : Shape).Bitcasts 8 ⟨2, ![8, 128]⟩ 32)
    (q : Fin 8) (c : Fin 128) (r : ℕ) (hr : r < 8) :
    (bitcast ⟨2, ![8, 128]⟩ 32 x h (ix2 q c)).toNat / 2 ^ (4 * r) % 16
      = half (x (ix2 ⟨4 * q.val + r / 2, by omega⟩ c)) (r % 2) := by
  unfold half
  rw [show 16 ^ (r % 2) = 2 ^ (4 * (r % 2)) from by rw [pow_mul]; norm_num,
    ← Nat.shiftRight_eq_div_pow, ← Nat.shiftRight_eq_div_pow, show (16 : ℕ) = 2 ^ 4 from rfl]
  apply Nat.eq_of_testBit_eq
  intro i
  rw [Nat.testBit_mod_two_pow, Nat.testBit_mod_two_pow, Nat.testBit_shiftRight, Nat.testBit_shiftRight]
  by_cases hi : i < 4
  · simp only [hi, decide_true, Bool.true_and]
    have := bitcast_8_32_getLsbD_ix2 x h q c (4 * r + i) (by omega) ⟨4 * q.val + r / 2, by omega⟩ (by show 4 * q.val + r / 2 = 4 * q.val + (4 * r + i) / 8; omega)
    rw [← ix2_eq_valueIdx, ← ix2_eq_valueIdx] at this
    rw [show (4 * r + i) % 8 = 4 * (r % 2) + i from by omega] at this
    exact this
  · simp [hi]

/-- The codes of two groups of 32 rows, from the two groups' sixteen bytes each. -/
def bytes64 (X : IVec ⟨3, ![2, 16, 128]⟩ 8) : FVec Ideal ⟨2, ![64, 128]⟩ .bf16 :=
  unpack (bitcast ⟨2, ![8, 128]⟩ 32 (shapeCast ⟨2, ![32, 128]⟩ (shapeCast ⟨3, ![2, 16, 128]⟩ X)) (by decide))

/-- Row `R` of the codes is byte `R / 2` (of the two groups' bytes in a row) at place `R % 2`. -/
theorem bytes64_apply (X : IVec ⟨3, ![2, 16, 128]⟩ 8) (R : Fin 64) (c : Fin 128) :
    bytes64 X (ix2 R c) = code (X (ix3 ⟨R.val / 32, by omega⟩ ⟨R.val / 2 % 16, by omega⟩ c)) (R.val % 2) := by
  unfold bytes64 code
  rw [unpack_apply, word_half _ _ _ _ _ (by omega), show R.val % 8 % 2 = R.val % 2 from by omega]
  have e : (⟨4 * (R.val / 8) + R.val % 8 / 2, by omega⟩ : Fin 32) = ⟨R.val / 2, by omega⟩ := Fin.ext (by show 4 * (R.val / 8) + R.val % 8 / 2 = R.val / 2; omega)
  rw [e]
  pointwise
  have e1 : (⟨R.val / 2 / 16, by omega⟩ : Fin 2) = ⟨R.val / 32, by omega⟩ := Fin.ext (by show R.val / 2 / 16 = R.val / 32; omega)
  rw [e1]

/-- Sixteen dequantised rows: rows `o … o + 15` of the codes, times the group's scale, plus the group's minimum. -/
def rows16 (o : ℕ) (N : FVec Ideal ⟨2, ![64, 128]⟩ .bf16) (s z : FVec Ideal ⟨2, ![1, 128]⟩ .f32)
    (h : (⟨2, ![64, 128]⟩ : Shape).Slices ![o, 0] ⟨2, ![16, 128]⟩) : FVec Ideal ⟨2, ![16, 128]⟩ .bf16 :=
  addf (mulf (extractStridedSlice ⟨2, ![16, 128]⟩ ![o, 0] N h)
      (broadcastTo ⟨2, ![16, 128]⟩ (shapeCast ⟨2, ![1, 128]⟩ (truncf .bf16 s (by decide)))))
    (broadcastTo ⟨2, ![16, 128]⟩ (shapeCast ⟨2, ![1, 128]⟩ (truncf .bf16 z (by decide))))

/-- The sixteen rows at an index. -/
theorem rows16_apply (o : ℕ) (ho : o ≤ 48) (N : FVec Ideal ⟨2, ![64, 128]⟩ .bf16) (s z : FVec Ideal ⟨2, ![1, 128]⟩ .f32)
    (h : (⟨2, ![64, 128]⟩ : Shape).Slices ![o, 0] ⟨2, ![16, 128]⟩) (r : Fin 16) (c : Fin 128) :
    rows16 o N s z h (ix2 r c) = N (ix2 ⟨o + r.val, by omega⟩ c) * s (ix2 0 c) + z (ix2 0 c) := by
  unfold rows16
  pointwise

end Q4
-- ==== Proof.Rows.lean ====
/- Dequantised weights, sixteen rows at a time: what the pieces a kernel concatenates into a block of weights are at
   an index. A kernel reads two groups' code bytes from a block of codes, the group's scale and minimum from a row of a
   scratch array it filled before, and concatenates sixteen-row pieces; row `ρ` of the result is the code at
   byte `ρ % 32 / 2`, place `ρ % 2`, of group `ρ / 32`, times the group's scale, plus the group's minimum. -/
module

public import proofs.«01_k».proof.Proof.Nibble
public import Idealize.ShloMosaic.Lib.Pipeline.Value
public import Idealize.ShloMosaic.Lib.WholeRead

@[expose] public section

set_option maxRecDepth 16384

noncomputable section

namespace Q4

open Idealize.ShloMosaic

/-- The dequantised weight of row `ρ`, column `c`: codes `C` by group, byte and column, scales `S` and minima `Z` by
    group and column. -/
def weight (C : ℕ → ℕ → Fin 128 → BitVec 8) (S Z : ℕ → Fin 128 → EReal) (ρ : ℕ) (c : Fin 128) : EReal :=
  code (C (ρ / 32) (ρ % 32 / 2) c) (ρ % 2) * S (ρ / 32) c + Z (ρ / 32) c

/-- The sixteen rows that begin at row `b` are the weights of those rows, where the codes are those of the two groups
    that begin at row `b / 64 * 64`, and scale and minimum are those of group `b / 32`. -/
theorem rows16_weight (C : ℕ → ℕ → Fin 128 → BitVec 8) (S Z : ℕ → Fin 128 → EReal) (b : ℕ) (hb : b % 16 = 0)
    (X : IVec ⟨3, ![2, 16, 128]⟩ 8) (s z : FVec Ideal ⟨2, ![1, 128]⟩ .f32)
    (h : (⟨2, ![64, 128]⟩ : Shape).Slices ![b % 64, 0] ⟨2, ![16, 128]⟩)
    (hX : ∀ (a : Fin 2) (j : Fin 16) (c : Fin 128), X (ix3 a j c) = C (b / 64 * 2 + a) j c)
    (hs : ∀ c, s (ix2 0 c) = S (b / 32) c) (hz : ∀ c, z (ix2 0 c) = Z (b / 32) c) (r : Fin 16) (c : Fin 128) :
    rows16 (b % 64) (bytes64 X) s z h (ix2 r c) = weight C S Z (b + r.val) c := by
  have hr := r.isLt
  rw [rows16_apply _ (by omega), bytes64_apply, hX, hs, hz]
  unfold weight
  have e1 : (b + r.val) / 32 = b / 32 := by omega
  have e2 : b / 64 * 2 + (b % 64 + r.val) / 32 = b / 32 := by omega
  have e3 : (b % 64 + r.val) / 2 % 16 = (b + r.val) % 32 / 2 := by omega
  have e4 : (b % 64 + r.val) % 2 = (b + r.val) % 2 := by omega
  simp only [e1, e2, e3, e4]

/-- The pieces of a list are, one after another from row `b` on, sixteen rows each of `W`. -/
def Rows (W : ℕ → Fin 128 → EReal) : ℕ → List ((s : Shape) × (s.Idx → EReal)) → Prop
  | _, [] => True
  | b, p :: ps => (∃ x : (⟨2, ![16, 128]⟩ : Shape).Idx → EReal, p = ⟨_, x⟩ ∧ ∀ r c, x (ix2 r c) = W (b + r.val) c)
      ∧ Rows W (b + 16) ps

/-- One piece more in front. -/
theorem Rows.cons {W : ℕ → Fin 128 → EReal} {b : ℕ} {x : (⟨2, ![16, 128]⟩ : Shape).Idx → EReal}
    {ps : List ((s : Shape) × (s.Idx → EReal))} (hx : ∀ r c, W (b + r.val) c = x (ix2 r c)) (h : Rows W (b + 16) ps) :
    Rows W b (⟨_, x⟩ :: ps) := ⟨⟨x, rfl, fun r c => (hx r c).symm⟩, h⟩

/-- No piece is left. -/
theorem Rows.nil {W : ℕ → Fin 128 → EReal} {b : ℕ} : Rows W b [] := trivial

theorem concatAt_rows {K : ℕ} (W : ℕ → Fin 128 → EReal) (j : (⟨2, ![K, 128]⟩ : Shape).Idx) :
    ∀ (xs : List ((s : Shape) × (s.Idx → EReal))) (b : ℕ) (hr : Rows W b xs)
      (hs : ∀ s ∈ xs.map (·.1), s.FitsOff ⟨2, ![K, 128]⟩ 0) (k : ℕ) (hk : k < (axisSizes ⟨2, ![K, 128]⟩ 0 xs).sum),
      concatenateAt ⟨2, ![K, 128]⟩ 0 j xs hs k hk = W (b + k) (j 1)
  | [], _, _, _, _, hk => absurd hk (Nat.not_lt_zero _)
  | [p], b, hr, hs, k, hk => by
    obtain ⟨⟨x, rfl, hx⟩, _⟩ := hr
    have hk16 : k < 16 := by simpa [axisSizes] using hk
    rw [concatenateAt, Shape.Idx.norm_def]
    refine Eq.trans (congrArg x (funext fun a => ?_)) (hx ⟨k, hk16⟩ (j 1))
    match a with
    | ⟨0, _⟩ => rfl
    | ⟨1, _⟩ => rfl
  | p :: q :: xs, b, hr, hs, k, hk => by
    obtain ⟨⟨x, rfl, hx⟩, hr'⟩ := hr
    rw [concatenateAt]
    by_cases hk16 : k < 16
    · refine (dif_pos hk16).trans (Eq.trans (congrArg x ((Shape.Idx.norm_def _).trans (funext fun a => ?_))) (hx ⟨k, hk16⟩ (j 1)))
      match a with
      | ⟨0, _⟩ => rfl
      | ⟨1, _⟩ => rfl
    · refine (dif_neg hk16).trans ((concatAt_rows W j (q :: xs) (b + 16) hr' _ _ _).trans ?_)
      show W (b + 16 + (k - 16)) _ = _
      rw [show b + 16 + (k - 16) = b + k from by omega]

/-- A concatenation of sixteen-row pieces, read at an index. -/
theorem concat_rows {K : ℕ} (W : ℕ → Fin 128 → EReal) (b : ℕ) (xs : List ((s : Shape) × (s.Idx → EReal)))
    (h : Shape.Concatenates (xs.map (·.1)) ⟨2, ![K, 128]⟩ 0) (hr : Rows W b xs) (ρ : Fin K) (c : Fin 128) :
    concatenate ⟨2, ![K, 128]⟩ 0 xs h (ix2 ρ c) = W (b + ρ.val) c := by
  rw [concatenate_apply]
  exact concatAt_rows W _ xs b hr _ _ _

/-- The pieces of a list are, one after another from plane `l` on, the `K` rows of 128 lanes of `V`'s planes. -/
def Planes {K : ℕ} (V : ℕ → Fin K → Fin 128 → EReal) : ℕ → List ((s : Shape) × (s.Idx → EReal)) → Prop
  | _, [] => True
  | l, p :: ps => (∃ x : (⟨2, ![K, 128]⟩ : Shape).Idx → EReal, p = ⟨_, x⟩ ∧ ∀ k c, x (ix2 k c) = V l k c) ∧ Planes V (l + 1) ps

/-- One plane more in front. -/
theorem Planes.cons {K : ℕ} {V : ℕ → Fin K → Fin 128 → EReal} {l : ℕ} {x : (⟨2, ![K, 128]⟩ : Shape).Idx → EReal}
    {ps : List ((s : Shape) × (s.Idx → EReal))} (hx : ∀ k c, x (ix2 k c) = V l k c) (h : Planes V (l + 1) ps) :
    Planes V l (⟨_, x⟩ :: ps) := ⟨⟨x, rfl, hx⟩, h⟩

/-- No plane is left. -/
theorem Planes.nil {K : ℕ} {V : ℕ → Fin K → Fin 128 → EReal} {l : ℕ} : Planes V l [] := trivial

theorem concatAt_planes {K N : ℕ} (V : ℕ → Fin K → Fin 128 → EReal) (j : (⟨2, ![K, N]⟩ : Shape).Idx) :
    ∀ (xs : List ((s : Shape) × (s.Idx → EReal))) (l : ℕ) (hr : Planes V l xs)
      (hs : ∀ s ∈ xs.map (·.1), s.FitsOff ⟨2, ![K, N]⟩ 1) (n : ℕ) (hn : n < (axisSizes ⟨2, ![K, N]⟩ 1 xs).sum),
      concatenateAt ⟨2, ![K, N]⟩ 1 j xs hs n hn = V (l + n / 128) (j 0) ⟨n % 128, Nat.mod_lt _ (by decide)⟩
  | [], _, _, _, _, hn => absurd hn (Nat.not_lt_zero _)
  | [p], l, hr, hs, n, hn => by
    obtain ⟨⟨x, rfl, hx⟩, _⟩ := hr
    have h128 : n < 128 := by simpa [axisSizes] using hn
    rw [concatenateAt, Shape.Idx.norm_def]
    have e1 : n / 128 = 0 := by omega
    have e2 : n % 128 = n := by omega
    simp only [e1, e2, Nat.add_zero]
    refine Eq.trans (congrArg x (funext fun a => ?_)) (hx (j 0) ⟨n, h128⟩)
    match a with
    | ⟨0, _⟩ => rfl
    | ⟨1, _⟩ => rfl
  | p :: q :: xs, l, hr, hs, n, hn => by
    obtain ⟨⟨x, rfl, hx⟩, hr'⟩ := hr
    rw [concatenateAt]
    by_cases h128 : n < 128
    · have e1 : n / 128 = 0 := by omega
      have e2 : n % 128 = n := by omega
      simp only [e1, e2, Nat.add_zero]
      refine (dif_pos h128).trans (Eq.trans (congrArg x ((Shape.Idx.norm_def _).trans (funext fun a => ?_))) (hx (j 0) ⟨n, h128⟩))
      match a with
      | ⟨0, _⟩ => rfl
      | ⟨1, _⟩ => rfl
    · refine (dif_neg h128).trans ((concatAt_planes V j (q :: xs) (l + 1) hr' _ _ _).trans ?_)
      show V (l + 1 + (n - 128) / 128) _ ⟨(n - 128) % 128, _⟩ = _
      have e1 : l + 1 + (n - 128) / 128 = l + n / 128 := by omega
      have e2 : (n - 128) % 128 = n % 128 := by omega
      simp only [e1, e2]

/-- A concatenation of planes of 128 lanes, read at an index. -/
theorem concat_planes {K N : ℕ} (V : ℕ → Fin K → Fin 128 → EReal) (xs : List ((s : Shape) × (s.Idx → EReal)))
    (h : Shape.Concatenates (xs.map (·.1)) ⟨2, ![K, N]⟩ 1) (hr : Planes V 0 xs) (k : Fin K) (n : Fin N) :
    concatenate ⟨2, ![K, N]⟩ 1 xs h (ix2 k n) = V (n.val / 128) k ⟨n.val % 128, Nat.mod_lt _ (by decide)⟩ := by
  rw [concatenate_apply]
  refine (concatAt_planes V _ xs 0 hr _ _ _).trans ?_
  rw [Nat.zero_add]
  rfl

/-- Two groups' code bytes, as a load of two rows of a block of codes reads them. -/
def bytesAt {sig : RefSig} {G : ℕ} {m : Memref sig .tc .vmem ⟨3, ![G, 16, 128]⟩ .i8} (hm : m.IsWhole)
    (x : Vec Ideal ⟨3, ![G, 16, 128]⟩ .i8) (g : ℕ)
    (inb : ∀ a, (![g, 0, 0] : Fin 3 → ℕ) a + (![2, 16, 128] : Fin 3 → ℕ) a ≤ (![G, 16, 128] : Fin 3 → ℕ) a) : IVec ⟨3, ![2, 16, 128]⟩ 8 :=
  View.readAt (Elt Ideal) m.view (Rect.unit (s := ⟨3, ![G, 16, 128]⟩) ![g, 0, 0] ![2, 16, 128] inb).toLoadRect (hm.unread x)

/-- The block's bytes by natural numbers (wrapped past its end, where no row is read). -/
def bytesOf {G : ℕ} [NeZero G] (x : Vec Ideal ⟨3, ![G, 16, 128]⟩ .i8) (g j : ℕ) (c : Fin 128) : BitVec 8 :=
  x (ix3 (Fin.ofNat G g) (Fin.ofNat 16 j) c)

theorem bytesAt_apply {sig : RefSig} {G : ℕ} [NeZero G] {m : Memref sig .tc .vmem ⟨3, ![G, 16, 128]⟩ .i8} (hm : m.IsWhole)
    (x : Vec Ideal ⟨3, ![G, 16, 128]⟩ .i8) (g : ℕ)
    (inb : ∀ a, (![g, 0, 0] : Fin 3 → ℕ) a + (![2, 16, 128] : Fin 3 → ℕ) a ≤ (![G, 16, 128] : Fin 3 → ℕ) a)
    (a : Fin 2) (j : Fin 16) (c : Fin 128) : bytesAt hm x g inb (ix3 a j c) = bytesOf x (g + a.val) j.val c := by
  unfold bytesAt bytesOf
  rw [hm.readAt_unread]
  have h0 : g + 2 ≤ G := inb 0
  congr 1
  funext k
  apply Fin.ext
  have ha := a.isLt
  have hj := j.isLt
  match k with
  | ⟨0, _⟩ => show g + 1 * a.val = (g + a.val) % G; rw [Nat.mod_eq_of_lt (by omega)]; omega
  | ⟨1, _⟩ => show 0 + 1 * j.val = j.val % 16; rw [Nat.mod_eq_of_lt (by omega)]; omega
  | ⟨2, _⟩ => show 0 + 1 * c.val = c.val; omega

theorem succ_sizes (G : ℕ) (i : Fin 2) : (![1, G, 128] : Fin 3 → ℕ) i.succ = (![G, 128] : Fin 2 → ℕ) i := rfl

/-- A row of one plane of a scratch array that stores filled, read back through a slice of the array. -/
def rowAt {sig : RefSig} {P G : ℕ} (m : Memref sig .tc .vmem ⟨3, ![P, G, 128]⟩ .f32)
    (L : List (View.Piece (Elt Ideal) ⟨3, ![P, G, 128]⟩ .f32)) (l g : ℕ)
    (inb : ∀ a, (![l, 0, 0] : Fin 3 → ℕ) a + (![1, G, 128] : Fin 3 → ℕ) a ≤ (![P, G, 128] : Fin 3 → ℕ) a)
    (inb' : ∀ a, (![g, 0] : Fin 2 → ℕ) a + (![1, 128] : Fin 2 → ℕ) a ≤ (![G, 128] : Fin 2 → ℕ) a)
    (hst : ∀ a, (Rect.unit (s := ⟨3, ![P, G, 128]⟩) ![l, 0, 0] ![1, G, 128] inb).stride a = 1) : FVec Ideal ⟨2, ![1, 128]⟩ .f32 :=
  LoadRect.valAlong (lr := (Rect.unit (s := ⟨2, ![G, 128]⟩) ![g, 0] ![1, 128] inb').toLoadRect)
    ((Rect.unit (s := ⟨2, ![G, 128]⟩) ![g, 0] ![1, 128] inb').numel_consLift ![1, G, 128] rfl (succ_sizes G)).symm
    (m.view.readCov L ((Rect.unit (s := ⟨3, ![P, G, 128]⟩) ![l, 0, 0] ![1, G, 128] inb).withinL
      ((Rect.unit (s := ⟨2, ![G, 128]⟩) ![g, 0] ![1, 128] inb').consLift ![1, G, 128] rfl (succ_sizes G)).toLoadRect hst))

theorem rowAt_apply {sig : RefSig} {P G : ℕ} (m : Memref sig .tc .vmem ⟨3, ![P, G, 128]⟩ .f32)
    (L : List (View.Piece (Elt Ideal) ⟨3, ![P, G, 128]⟩ .f32)) (V : Fin P → Fin G → Fin 128 → EReal)
    (hL : ∀ p ∈ L, ∀ x : p.1.shape.Idx, p.2 x = V (p.1.emb x 0) (p.1.emb x 1) (p.1.emb x 2))
    (hc : ∀ y, ∃ p ∈ L, y ∈ p.1.set) (l g : ℕ) (inb inb' hst) (hl : l < P) (hg : g < G) (c : Fin 128) :
    rowAt m L l g inb inb' hst (ix2 0 c) = V ⟨l, hl⟩ ⟨g, hg⟩ c := by
  unfold rowAt
  rw [View.readCov_eq_canon _ _ _ fun j => hc _]
  refine (View.canon_apply_of_pieces (fun y => V (y 0) (y 1) (y 2)) L hL _ (hc _)).trans ?_
  have hn := (Rect.unit (s := ⟨2, ![G, 128]⟩) ![g, 0] ![1, 128] inb').numel_consLift ![1, G, 128] rfl (succ_sizes G)
  generalize hy : Shape.reshapeEquiv hn.symm (ix2 0 c) = y
  have hx : Shape.reshapeEquiv hn y = ix2 0 c := by
    rw [← hy, Shape.reshapeEquiv_reshapeEquiv, Shape.reshapeEquiv_self]
  have e := fun i => (Rect.unit (s := ⟨2, ![G, 128]⟩) ![g, 0] ![1, 128] inb').reshapeEquiv_consLift_succ ![1, G, 128] rfl (succ_sizes G) y i
  rw [hx] at e
  have y0 : (y 0).val = 0 := by have : (y 0).val < 1 := (y 0).isLt; omega
  have y1 : (y 1).val = 0 := e 0
  have y2 : (y 2).val = c.val := e 1
  congr 1
  · apply Fin.ext
    show l + 0 + 1 * (y 0).val = l
    omega
  · apply Fin.ext
    show 0 + g + 1 * (y 1).val = g
    omega
  · apply Fin.ext
    show 0 + 0 + 1 * (y 2).val = c.val
    omega

/-- Sixteen rows of a concatenation, as a kernel computes them from a block of codes and two scratch arrays of scales and
    minima: the weights of those rows. -/
theorem piece {sig : RefSig} {P G : ℕ} [NeZero G] {mC : Memref sig .tc .vmem ⟨3, ![G, 16, 128]⟩ .i8} (hC : mC.IsWhole)
    (x : Vec Ideal ⟨3, ![G, 16, 128]⟩ .i8)
    (mS mZ : Memref sig .tc .vmem ⟨3, ![P, G, 128]⟩ .f32) (LS LZ : List (View.Piece (Elt Ideal) ⟨3, ![P, G, 128]⟩ .f32))
    (VS VZ : Fin P → Fin G → Fin 128 → EReal)
    (hLS : ∀ p ∈ LS, ∀ x : p.1.shape.Idx, p.2 x = VS (p.1.emb x 0) (p.1.emb x 1) (p.1.emb x 2))
    (hcS : ∀ y, ∃ p ∈ LS, y ∈ p.1.set)
    (hLZ : ∀ p ∈ LZ, ∀ x : p.1.shape.Idx, p.2 x = VZ (p.1.emb x 0) (p.1.emb x 1) (p.1.emb x 2))
    (hcZ : ∀ y, ∃ p ∈ LZ, y ∈ p.1.set)
    (l b : ℕ) (hl : l < P) (hb : b % 16 = 0) (hG : b / 32 < G) (h inbC inb inb' hst) (r : Fin 16) (c : Fin 128) :
    weight (bytesOf x) (fun g c => VS ⟨l, hl⟩ (Fin.ofNat G g) c) (fun g c => VZ ⟨l, hl⟩ (Fin.ofNat G g) c) (b + r.val) c
      = rows16 (b % 64) (bytes64 (bytesAt hC x (b / 64 * 2) inbC)) (rowAt mS LS l (b / 32) inb inb' hst)
        (rowAt mZ LZ l (b / 32) inb inb' hst) h (ix2 r c) := by
  symm
  have e : Fin.ofNat G (b / 32) = ⟨b / 32, hG⟩ := Fin.ext (Nat.mod_eq_of_lt hG)
  refine rows16_weight _ _ _ b hb _ _ _ h (fun a j c => bytesAt_apply hC x _ _ a j c) (fun c => ?_) (fun c => ?_) r c
  · rw [rowAt_apply mS LS VS hLS hcS l _ _ _ _ hl hG, e]
  · rw [rowAt_apply mZ LZ VZ hLZ hcZ l _ _ _ _ hl hG, e]

end Q4
-- ==== Proof.Planes.lean ====
/- The scratch arrays of scales and minima: a kernel stores the 128 lanes of each tile of a block of scales as one plane
   of a scratch array, and reads the rows back from there. -/
module

public import proofs.«01_k».proof.Proof.Rows

@[expose] public section

set_option maxRecDepth 16384

noncomputable section

namespace Q4

open Idealize.ShloMosaic

/-- The scale of group `g` at lane `c` of tile `l`. -/
def scaleOf {P G N : ℕ} (hN : N = 128 * P) (x : Vec Ideal ⟨2, ![G, N]⟩ .bf16) (l : Fin P) (g : Fin G) (c : Fin 128) : EReal :=
  x (ix2 g ⟨128 * l.val + c.val, by omega⟩)

/-- One store of a plane: its payload is the scales of that plane. -/
theorem plane_scale {sig : RefSig} {P G N : ℕ} (hN : N = 128 * P) {m : Memref sig .tc .vmem ⟨2, ![G, N]⟩ .bf16} (hm : m.IsWhole)
    (x : Vec Ideal ⟨2, ![G, N]⟩ .bf16) (l : ℕ)
    (inb : ∀ a, (![l, 0, 0] : Fin 3 → ℕ) a + (![1, G, 128] : Fin 3 → ℕ) a ≤ (![P, G, 128] : Fin 3 → ℕ) a)
    (o : ℕ) (inb' : ∀ a, (![0, o] : Fin 2 → ℕ) a + (![G, 128] : Fin 2 → ℕ) a ≤ (![G, N] : Fin 2 → ℕ) a) (ho : o = 128 * l)
    (h1 : (⟨2, ![G, 128]⟩ : Shape).ShapeCasts ⟨2, ![G, 128]⟩) (h2 : (⟨2, ![G, 128]⟩ : Shape).ShapeCasts ⟨3, ![1, G, 128]⟩)
    (h3 : FTy.bits .bf16 < FTy.bits .f32)
    (i : (Rect.unit (s := ⟨3, ![P, G, 128]⟩) ![l, 0, 0] ![1, G, 128] inb).shape.Idx) :
    (shapeCast ⟨3, ![1, G, 128]⟩ (extf (F := Ideal) .f32 (shapeCast ⟨2, ![G, 128]⟩
        (View.readAt (Elt Ideal) m.view (Rect.unit (s := ⟨2, ![G, N]⟩) ![0, o] ![G, 128] inb').toLoadRect (hm.unread x)) h1) h3) h2 :
          FVec Ideal ⟨3, ![1, G, 128]⟩ .f32) i
      = scaleOf hN x ((Rect.unit (s := ⟨3, ![P, G, 128]⟩) ![l, 0, 0] ![1, G, 128] inb).emb i 0)
          ((Rect.unit (s := ⟨3, ![P, G, 128]⟩) ![l, 0, 0] ![1, G, 128] inb).emb i 1)
          ((Rect.unit (s := ⟨3, ![P, G, 128]⟩) ![l, 0, 0] ![1, G, 128] inb).emb i 2) := by
  subst ho
  have i0 : (i 0).val = 0 := by have : (i 0).val < 1 := (i 0).isLt; omega
  have e : Shape.reshapeEquiv h2 i = (ix2 (i 1) (i 2) : (⟨2, ![G, 128]⟩ : Shape).Idx) := by
    apply Shape.reshapeEquiv_eq_of_rowMajor
    refine (Shape.rowMajor_val_two _).trans (Eq.trans ?_ (Shape.rowMajor_val_three i).symm)
    show (i 1).val * 128 + (i 2).val = ((i 0).val * G + (i 1).val) * 128 + (i 2).val
    rw [i0, Nat.zero_mul, Nat.zero_add]
  show View.readAt (Elt Ideal) m.view (Rect.unit (s := ⟨2, ![G, N]⟩) ![0, 128 * l] ![G, 128] inb').toLoadRect (hm.unread x) (Shape.reshapeEquiv h1 (Shape.reshapeEquiv h2 i)) = _
  rw [Shape.reshapeEquiv_self, e, hm.readAt_unread]
  unfold scaleOf
  congr 1
  funext a
  apply Fin.ext
  match a with
  | ⟨0, _⟩ => show 0 + 1 * (i 1).val = 0 + 1 * (i 1).val; rfl
  | ⟨1, _⟩ =>
    show 128 * l + 1 * (i 2).val = 128 * (l + 1 * (i 0).val) + (0 + 1 * (i 2).val)
    omega

/-- Stores of all the planes cover the scratch array. -/
theorem cover_planes {P G : ℕ} (L : List (View.Piece (Elt Ideal) ⟨3, ![P, G, 128]⟩ .f32))
    (h : ∀ l : Fin P, ∃ p ∈ L, ∃ inb, p.1 = Rect.unit (s := ⟨3, ![P, G, 128]⟩) ![l.val, 0, 0] ![1, G, 128] inb)
    (y : (⟨3, ![P, G, 128]⟩ : Shape).Idx) : ∃ p ∈ L, y ∈ p.1.set := by
  obtain ⟨p, hp, inb, e⟩ := h (y 0)
  refine ⟨p, hp, ?_⟩
  rw [e, Rect.mem_set_unit]
  intro a
  match a with
  | ⟨0, _⟩ => exact ⟨le_refl _, Nat.lt_succ_self _⟩
  | ⟨1, _⟩ => exact ⟨Nat.zero_le _, by show (y 1).val < 0 + G; rw [Nat.zero_add]; exact (y 1).isLt⟩
  | ⟨2, _⟩ => exact ⟨Nat.zero_le _, by show (y 2).val < 0 + 128; rw [Nat.zero_add]; exact (y 2).isLt⟩

/-- A store over a whole two-axis view leaves its payload. -/
theorem read_whole {sig : RefSig} {κ sp} {A B : ℕ} {e : EltTy} (v : View sig κ sp ⟨2, ![A, B]⟩ e) (f : v.ty.Contents (Elt Ideal))
    (h : ∀ a, (![0, 0] : Fin 2 → ℕ) a + (![A, B] : Fin 2 → ℕ) a ≤ (![A, B] : Fin 2 → ℕ) a)
    (y : (⟨2, ![A, B]⟩ : Shape).Idx → Elt Ideal e) :
    v.read (Elt Ideal) (v.writes (Elt Ideal) f [⟨Rect.unit (s := ⟨2, ![A, B]⟩) ![0, 0] ![A, B] h, y⟩]) = y := by
  have hm : ∀ i, i ∈ (Rect.unit (s := ⟨2, ![A, B]⟩) ![0, 0] ![A, B] h).set := by
    intro i
    rw [Rect.mem_set_unit]
    intro a
    match a with
    | ⟨0, _⟩ => exact ⟨Nat.zero_le _, by show (i 0).val < 0 + A; rw [Nat.zero_add]; exact (i 0).isLt⟩
    | ⟨1, _⟩ => exact ⟨Nat.zero_le _, by show (i 1).val < 0 + B; rw [Nat.zero_add]; exact (i 1).isLt⟩
  have hc : ∀ i, ∃ p ∈ [(⟨Rect.unit (s := ⟨2, ![A, B]⟩) ![0, 0] ![A, B] h, y⟩ : View.Piece (Elt Ideal) ⟨2, ![A, B]⟩ e)], i ∈ p.1.set :=
    fun i => ⟨_, .head _, hm i⟩
  rw [View.read_writes_eq_canon _ _ _ hc]
  funext i
  refine View.canon_apply_of_pieces y _ ?_ i (hc i)
  intro p hp x
  obtain rfl := List.mem_singleton.mp hp
  refine congrArg y (funext fun a => Fin.ext ?_)
  match a with
  | ⟨0, _⟩ => show (x 0).val = 0 + 1 * (x 0).val; omega
  | ⟨1, _⟩ => show (x 1).val = 0 + 1 * (x 1).val; omega

end Q4
-- ==== Proof.OutProjTile.lean ====
/- The output projection's weights: what its scratch arrays hold, and sixteen rows of a tile as the kernel computes them. -/
module

public import proofs.«01_k».proof.Proof.Planes
public import proofs.«01_k».proof.Proof.Gen.OutProjIdeal.Value

@[expose] public section

set_option maxRecDepth 16384

noncomputable section

namespace Cert.OutProjIdeal

open Idealize.ShloMosaic Idealize.ShloMosaic.TcCoe Idealize.SL.Sem Cert.OutProjIdeal.Gen Q4

/-- The weights of a block's tile `l`: its codes `x`, the block's scales `s` and minima `z`. -/
def W (s z : Vec Ideal S32x512 .bf16) (x : Vec Ideal S32x16x128 .i8) (l : Fin 4) : ℕ → Fin 128 → EReal :=
  weight (bytesOf x) (fun g c => scaleOf rfl s l (Fin.ofNat 32 g) c) (fun g c => scaleOf rfl z l (Fin.ofNat 32 g) c)

/-- The weights of the block, all four tiles. -/
def W4 (s z : Vec Ideal S32x512 .bf16) (x2 x3 x4 x5 : Vec Ideal S32x16x128 .i8) (l : ℕ) : ℕ → Fin 128 → EReal :=
  match l with
  | 0 => W s z x2 0
  | 1 => W s z x3 1
  | 2 => W s z x4 2
  | _ => W s z x5 3

variable (c : Dev nD) (arg7 : Memref sig .tc .vmem S32x512 .bf16) (harg7 : arg7.IsWhole)
  (arg8 : Memref sig .tc .vmem S32x512 .bf16) (harg8 : arg8.IsWhole)
  (arg10 : Memref sig .tc .vmem S4x32x128 .f32) (arg11 : Memref sig .tc .vmem S4x32x128 .f32)
  (x6 x7 : Vec Ideal S32x512 .bf16)

/-- Each store into the scratch array of scales stores the plane of its tile. -/
theorem pieces_scale : ∀ p ∈ kernelRun0_A.sl.HS0_4 (F := Ideal) c arg7 harg7 x6,
    ∀ i : p.1.shape.Idx, p.2 i = scaleOf rfl x6 (p.1.emb i 0) (p.1.emb i 1) (p.1.emb i 2) := by
  intro p hp
  unfold kernelRun0_A.sl.HS0_4 at hp
  simp only [List.mem_cons, List.not_mem_nil, or_false] at hp
  rcases hp with rfl | rfl | rfl | rfl <;> intro x
  · exact plane_scale (P := 4) rfl harg7 x6 3 (by decide) 384 (by decide) rfl (by decide) (by decide) (by decide) x
  · exact plane_scale (P := 4) rfl harg7 x6 2 (by decide) 256 (by decide) rfl (by decide) (by decide) (by decide) x
  · exact plane_scale (P := 4) rfl harg7 x6 1 (by decide) 128 (by decide) rfl (by decide) (by decide) (by decide) x
  · exact plane_scale (P := 4) rfl harg7 x6 0 (by decide) 0 (by decide) rfl (by decide) (by decide) (by decide) x

/-- The stores cover the scratch array of scales. -/
theorem cover_scale : ∀ y, ∃ p ∈ kernelRun0_A.sl.HS0_4 (F := Ideal) c arg7 harg7 x6, y ∈ p.1.set := by
  refine cover_planes _ fun l => ?_
  unfold kernelRun0_A.sl.HS0_4
  match l with
  | ⟨0, _⟩ => exact ⟨_, .tail _ (.tail _ (.tail _ (.head _))), inb_S4x32x128_S1x32x128_0_0_0, rfl⟩
  | ⟨1, _⟩ => exact ⟨_, .tail _ (.tail _ (.head _)), inb_S4x32x128_S1x32x128_1_0_0, rfl⟩
  | ⟨2, _⟩ => exact ⟨_, .tail _ (.head _), inb_S4x32x128_S1x32x128_2_0_0, rfl⟩
  | ⟨3, _⟩ => exact ⟨_, .head _, inb_S4x32x128_S1x32x128_3_0_0, rfl⟩

/-- Each store into the scratch array of minima stores the plane of its tile. -/
theorem pieces_min : ∀ p ∈ kernelRun0_A.sl.HS1_4 (F := Ideal) c arg8 harg8 x7,
    ∀ i : p.1.shape.Idx, p.2 i = scaleOf rfl x7 (p.1.emb i 0) (p.1.emb i 1) (p.1.emb i 2) := by
  intro p hp
  unfold kernelRun0_A.sl.HS1_4 at hp
  simp only [List.mem_cons, List.not_mem_nil, or_false] at hp
  rcases hp with rfl | rfl | rfl | rfl <;> intro x
  · exact plane_scale (P := 4) rfl harg8 x7 3 (by decide) 384 (by decide) rfl (by decide) (by decide) (by decide) x
  · exact plane_scale (P := 4) rfl harg8 x7 2 (by decide) 256 (by decide) rfl (by decide) (by decide) (by decide) x
  · exact plane_scale (P := 4) rfl harg8 x7 1 (by decide) 128 (by decide) rfl (by decide) (by decide) (by decide) x
  · exact plane_scale (P := 4) rfl harg8 x7 0 (by decide) 0 (by decide) rfl (by decide) (by decide) (by decide) x

/-- The stores cover the scratch array of minima. -/
theorem cover_min : ∀ y, ∃ p ∈ kernelRun0_A.sl.HS1_4 (F := Ideal) c arg8 harg8 x7, y ∈ p.1.set := by
  refine cover_planes _ fun l => ?_
  unfold kernelRun0_A.sl.HS1_4
  match l with
  | ⟨0, _⟩ => exact ⟨_, .tail _ (.tail _ (.tail _ (.head _))), inb_S4x32x128_S1x32x128_0_0_0, rfl⟩
  | ⟨1, _⟩ => exact ⟨_, .tail _ (.tail _ (.head _)), inb_S4x32x128_S1x32x128_1_0_0, rfl⟩
  | ⟨2, _⟩ => exact ⟨_, .tail _ (.head _), inb_S4x32x128_S1x32x128_2_0_0, rfl⟩
  | ⟨3, _⟩ => exact ⟨_, .head _, inb_S4x32x128_S1x32x128_3_0_0, rfl⟩

/-- Sixteen rows of tile `l`, as the kernel computes them (`piece` at this program's arrays). -/
theorem tile_piece {mC : Memref sig .tc .vmem S32x16x128 .i8} (hC : mC.IsWhole) (x : Vec Ideal S32x16x128 .i8)
    (l b : ℕ) (hl : l < 4) (hb : b % 16 = 0) (hG : b / 32 < 32) (h inbC inb inb' hst) (r : Fin 16) (q : Fin 128) :
    W x6 x7 x ⟨l, hl⟩ (b + r.val) q
      = rows16 (b % 64) (bytes64 (bytesAt hC x (b / 64 * 2) inbC))
          (rowAt arg10 (kernelRun0_A.sl.HS0_4 (F := Ideal) c arg7 harg7 x6) l (b / 32) inb inb' hst)
          (rowAt arg11 (kernelRun0_A.sl.HS1_4 (F := Ideal) c arg8 harg8 x7) l (b / 32) inb inb' hst) h (ix2 r q) :=
  Q4.piece hC x arg10 arg11 _ _ _ _ (pieces_scale c arg7 harg7 x6) (cover_scale c arg7 harg7 x6)
    (pieces_min c arg8 harg8 x7) (cover_min c arg8 harg8 x7) l b hl hb hG h inbC inb inb' hst r q

/-- Sixteen rows of tile `l` more in front. -/
theorem tile_cons {mC : Memref sig .tc .vmem S32x16x128 .i8} (hC : mC.IsWhole) (x : Vec Ideal S32x16x128 .i8)
    (l : ℕ) {b : ℕ} (hl : l < 4) (hb : b % 16 = 0) (hG : b / 32 < 32) (h inbC inb inb' hst)
    {y : FVec Ideal S16x128 .bf16} {ps : List ((s : Shape) × (s.Idx → EReal))}
    (e : rows16 (b % 64) (bytes64 (bytesAt hC x (b / 64 * 2) inbC))
          (rowAt arg10 (kernelRun0_A.sl.HS0_4 (F := Ideal) c arg7 harg7 x6) l (b / 32) inb inb' hst)
          (rowAt arg11 (kernelRun0_A.sl.HS1_4 (F := Ideal) c arg8 harg8 x7) l (b / 32) inb inb' hst) h = y)
    (hp : Rows (W x6 x7 x ⟨l, hl⟩) (b + 16) ps) : Rows (W x6 x7 x ⟨l, hl⟩) b (⟨S16x128, y⟩ :: ps) := by
  subst e
  exact Rows.cons (fun r q => tile_piece c arg7 harg7 arg8 harg8 arg10 arg11 x6 x7 hC x l b hl hb hG h inbC inb inb' hst r q) hp

end Cert.OutProjIdeal
-- ==== Proof.OutProjBlock.lean ====
/- One block of the output projection: what the kernel's grid point leaves in its block of the result, at an index. -/
module

public import proofs.«01_k».proof.Proof.OutProjTile

@[expose] public section

set_option maxRecDepth 16384
set_option maxHeartbeats 1000000

noncomputable section

namespace Cert.OutProjIdeal

open Idealize.ShloMosaic Idealize.ShloMosaic.TcCoe Idealize.SL.Sem Cert.OutProjIdeal.Gen Q4

variable (c : Dev nD) (arg7 : Memref sig .tc .vmem S32x512 .bf16) (harg7 : arg7.IsWhole)
  (arg8 : Memref sig .tc .vmem S32x512 .bf16) (harg8 : arg8.IsWhole)
  (arg10 : Memref sig .tc .vmem S4x32x128 .f32) (arg11 : Memref sig .tc .vmem S4x32x128 .f32)
  (x6 x7 : Vec Ideal S32x512 .bf16)

theorem dot_apply (A : FVec Ideal S128x512 .bf16) (B : FVec Ideal S512x512 .bf16) (m : Fin 128) (n : Fin 512) :
    matmul dot_S128x512_S512x512_S128x512_1_0_0_1_n_n none A B (constant S128x512 .f32 0#32) (ix2 m n)
      = ∑ k : Fin 512, A (ix2 m k) * B (ix2 k n) := by
  pointwise

/-- A load of 512 columns of the left operand. -/
theorem load_apply {mA : Memref sig .tc .vmem S128x1024 .bf16} (hA : mA.IsWhole) (x : Vec Ideal S128x1024 .bf16) (o : ℕ)
    (inb : ∀ a, (![0, o] : Fin 2 → ℕ) a + (![128, 512] : Fin 2 → ℕ) a ≤ (![128, 1024] : Fin 2 → ℕ) a)
    (h : S128x512.ShapeCasts S128x512) (m : Fin 128) (k : Fin 512) :
    shapeCast S128x512 (View.readAt (Elt Ideal) mA.view (Rect.unit (s := S128x1024) ![0, o] ![128, 512] inb).toLoadRect (hA.unread x)) h (ix2 m k)
      = x (ix2 m ⟨o + k.val, by have := inb 1; have := k.isLt; change o + 512 ≤ 1024 at *; omega⟩) := by
  show View.readAt (Elt Ideal) mA.view (Rect.unit (s := S128x1024) ![0, o] ![128, 512] inb).toLoadRect (hA.unread x) (Shape.reshapeEquiv h (ix2 m k)) = _
  rw [Shape.reshapeEquiv_self, hA.readAt_unread]
  congr 1
  funext a
  apply Fin.ext
  match a with
  | ⟨0, _⟩ => show 0 + 1 * m.val = m.val; omega
  | ⟨1, _⟩ => show o + 1 * k.val = o + k.val; omega

/-- One step of the contraction: the left operand against the four tiles' weights from row `b` on. -/
theorem step_apply (A : FVec Ideal S128x512 .bf16) (V : ℕ → ℕ → Fin 128 → EReal) (b : ℕ)
    (xs : List ((s : Shape) × (s.Idx → EReal))) (h) (hr : Planes (K := 512) (fun l k q => V l (b + k.val) q) 0 xs) (m : Fin 128) (n : Fin 512) :
    matmul (F := Ideal) (φ₁ := .bf16) (φ₂ := .bf16) dot_S128x512_S512x512_S128x512_1_0_0_1_n_n none A (concatenate S512x512 1 xs h) (constant S128x512 .f32 0#32) (ix2 m n)
      = ∑ k : Fin 512, A (ix2 m k) * V (n.val / 128) (b + k.val) ⟨n.val % 128, Nat.mod_lt _ (by decide)⟩ := by
  rw [dot_apply]
  refine Finset.sum_congr rfl fun k _ => ?_
  exact congrArg (A (ix2 m k) * ·) (concat_planes (fun l k q => V l (b + k.val) q) xs h hr k n)

variable (arg1 : Memref sig .tc .vmem S128x1024 .bf16) (harg1 : arg1.IsWhole)
  (arg2 : Memref sig .tc .vmem S128x512 .bf16) (harg2 : arg2.IsWhole)
  (arg3 : Memref sig .tc .vmem S32x16x128 .i8) (harg3 : arg3.IsWhole)
  (arg4 : Memref sig .tc .vmem S32x16x128 .i8) (harg4 : arg4.IsWhole)
  (arg5 : Memref sig .tc .vmem S32x16x128 .i8) (harg5 : arg5.IsWhole)
  (arg6 : Memref sig .tc .vmem S32x16x128 .i8) (harg6 : arg6.IsWhole)
  (x0 : Vec Ideal S128x1024 .bf16) (x1 : Vec Ideal S128x512 .bf16) (x2 x3 x4 x5 : Vec Ideal S32x16x128 .i8)

/-- The first sixteen groups' part of the contraction. -/
theorem acc0 (m : Fin 128) (n : Fin 512) :
    kernelRun0_A.sl.r_191 (F := Ideal) c arg1 harg1 arg3 harg3 arg4 harg4 arg5 harg5 arg6 harg6 arg7 harg7 arg8 harg8
        arg10 arg11 x0 x2 x3 x4 x5 x6 x7 (ix2 m n)
      = ∑ k : Fin 512, x0 (ix2 m ⟨0 + k.val, by omega⟩) * W4 x6 x7 x2 x3 x4 x5 (n.val / 128) (0 + k.val) ⟨n.val % 128, Nat.mod_lt _ (by decide)⟩ := by
  refine (step_apply _ (W4 x6 x7 x2 x3 x4 x5) 0 _ ?h ?r m n).trans ?e
  case r =>
    refine Planes.cons ?_ (Planes.cons ?_ (Planes.cons ?_ (Planes.cons ?_ Planes.nil)))
    · intro ρ q
      refine concat_rows (K := 512) (W x6 x7 x2 0) 0 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg3 x2 0 (by decide) (by decide) (by decide) (by decide) (by decide) (by decide) (by decide) (by decide) ?_ ?_
        · rfl
      exact Rows.nil
    · intro ρ q
      refine concat_rows (K := 512) (W x6 x7 x3 1) 0 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg4 x3 1 (by decide) (by decide) (by decide) (by decide) (by decide) (by decide) (by decide) (by decide) ?_ ?_
        · rfl
      exact Rows.nil
    · intro ρ q
      refine concat_rows (K := 512) (W x6 x7 x4 2) 0 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg5 x4 2 (by decide) (by decide) (by decide) (by decide) (by decide) (by decide) (by decide) (by decide) ?_ ?_
        · rfl
      exact Rows.nil
    · intro ρ q
      refine concat_rows (K := 512) (W x6 x7 x5 3) 0 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg6 x5 3 (by decide) (by decide) (by decide) (by decide) (by decide) (by decide) (by decide) (by decide) ?_ ?_
        · rfl
      exact Rows.nil
  case e =>
    refine Finset.sum_congr rfl fun k _ => congrArg (· * _) ?_
    exact load_apply harg1 x0 0 _ _ m k

/-- The load of the whole residual block. -/
theorem load_whole {mA : Memref sig .tc .vmem S128x512 .bf16} (hA : mA.IsWhole) (x : Vec Ideal S128x512 .bf16)
    (inb : ∀ a, (![0, 0] : Fin 2 → ℕ) a + (![128, 512] : Fin 2 → ℕ) a ≤ (![128, 512] : Fin 2 → ℕ) a)
    (m : Fin 128) (k : Fin 512) :
    View.readAt (Elt Ideal) mA.view (Rect.unit (s := S128x512) ![0, 0] ![128, 512] inb).toLoadRect (hA.unread x) (ix2 m k)
      = x (ix2 m k) := by
  rw [hA.readAt_unread]
  congr 1
  funext a
  apply Fin.ext
  match a with
  | ⟨0, _⟩ => show 0 + 1 * m.val = m.val; omega
  | ⟨1, _⟩ => show 0 + 1 * k.val = k.val; omega

/-- The block's result: the residual plus both parts of the contraction. -/
theorem out_apply (p : grid0.Coords) (arg9 : Memref sig .tc .vmem S128x512 .f32) (harg9 : arg9.IsWhole) (harg10 : arg10.IsWhole) (harg11 : arg11.IsWhole)
    (m : Fin 128) (n : Fin 512) :
    out0_A_8 (F := Ideal) c p arg1 harg1 arg2 harg2 arg3 harg3 arg4 harg4 arg5 harg5 arg6 harg6 arg7 harg7 arg8 harg8 arg9 harg9
        arg10 harg10 arg11 harg11 x0 x1 x2 x3 x4 x5 x6 x7 (ix2 m n)
      = x1 (ix2 m n)
        + ((∑ k : Fin 512, x0 (ix2 m ⟨0 + k.val, by omega⟩) * W4 x6 x7 x2 x3 x4 x5 (n.val / 128) (0 + k.val) ⟨n.val % 128, Nat.mod_lt _ (by decide)⟩)
          + ∑ k : Fin 512, x0 (ix2 m ⟨512 + k.val, by omega⟩) * W4 x6 x7 x2 x3 x4 x5 (n.val / 128) (512 + k.val) ⟨n.val % 128, Nat.mod_lt _ (by decide)⟩) := by
  unfold out0_A_8
  delta kernelRun0_A
  refine (congrFun (read_whole (A := 128) (B := 512) _ _ _ _) _).trans ?_
  unfold k0_pay4
  refine congrArg₂ (· + ·) (load_whole harg2 x1 _ m n) (congrArg₂ (· + ·) (acc0 c arg7 harg7 arg8 harg8 arg10 arg11 x6 x7 arg1 harg1 arg3 harg3 arg4 harg4 arg5 harg5 arg6 harg6 x0 x2 x3 x4 x5 m n) ?_)
  refine (step_apply _ (W4 x6 x7 x2 x3 x4 x5) 512 _ ?h ?r m n).trans ?e
  case r =>
    refine Planes.cons ?_ (Planes.cons ?_ (Planes.cons ?_ (Planes.cons ?_ Planes.nil)))
    · intro ρ q
      refine concat_rows (K := 512) (W x6 x7 x2 0) 512 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg3 x2 0 (by decide) (by decide) (by decide) (by decide) (by decide) (by decide) (by decide) (by decide) ?_ ?_
        · rfl
      exact Rows.nil
    · intro ρ q
      refine concat_rows (K := 512) (W x6 x7 x3 1) 512 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg4 x3 1 (by decide) (by decide) (by decide) (by decide) (by decide) (by decide) (by decide) (by decide) ?_ ?_
        · rfl
      exact Rows.nil
    · intro ρ q
      refine concat_rows (K := 512) (W x6 x7 x4 2) 512 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg5 x4 2 (by decide) (by decide) (by decide) (by decide) (by decide) (by decide) (by decide) (by decide) ?_ ?_
        · rfl
      exact Rows.nil
    · intro ρ q
      refine concat_rows (K := 512) (W x6 x7 x5 3) 512 _ ?_ ?_ ρ q
      try
        show Shape.Concatenates (List.replicate 32 ⟨2, ![16, 128]⟩) ⟨2, ![512, 128]⟩ 0
        decide
      iterate 32
        refine tile_cons c arg7 harg7 arg8 harg8 arg10 arg11 x6 x7 harg6 x5 3 (by decide) (by decide) (by decide) (by decide) (by decide) (by decide) (by decide) (by decide) ?_ ?_
        · rfl
      exact Rows.nil
  case e =>
    refine Finset.sum_congr rfl fun k _ => congrArg (· * _) ?_
    exact load_apply harg1 x0 512 _ _ m k

end Cert.OutProjIdeal
-- ==== Proof.Linear.lean ====
/- The quantised linear map as mathematics: the contraction over all the input's columns in the order the packed codes
   lie in, and its regrouping into the sum over the low halves of the code bytes and the sum over the high halves. -/
module

public import proofs.«01_k».proof.Proof.Nibble

@[expose] public section

noncomputable section

namespace Q4

open Idealize.ShloMosaic

/-- Column of the input that the code at row `ρ` (byte `ρ % 32 / 2` of group `ρ / 32`, half `ρ % 2`) multiplies. -/
def col (ρ : ℕ) : ℕ := 32 * (ρ / 32) + 16 * (ρ % 2) + ρ % 32 / 2

theorem col_eq (k : ℕ) : k / 32 * 32 + k % 2 * 16 + k / 2 % 16 = col k := by
  unfold col
  have h : k % 32 / 2 = k / 2 % 16 := by omega
  rw [h]
  omega

theorem col_lt (G k : ℕ) (h : k < 32 * G) : col k < 32 * G := by
  unfold col
  have h1 : k % 2 < 2 := Nat.mod_lt _ (by decide)
  have h2 : k % 32 / 2 < 16 := by omega
  have h3 : k / 32 < G := by omega
  omega

/-- The input at the column that row `ρ`'s code multiplies. -/
def act {M K : ℕ} [NeZero K] {φ : FTy} (o : FVec Ideal ⟨2, ![M, K]⟩ φ) (m : Fin M) (ρ : ℕ) : EReal := o (ix2 m (Fin.ofNat K (col ρ)))

/-- The dequantised weight of output column `n` at row `ρ`. -/
def wt {N G : ℕ} [NeZero G] (C : IVec ⟨3, ![N, G, 16]⟩ 8) (S Z : FVec Ideal ⟨2, ![N, G]⟩ .bf16) (n : Fin N) (ρ : ℕ) : EReal :=
  code (C (ix3 n (Fin.ofNat G (ρ / 32)) (Fin.ofNat 16 (ρ % 32 / 2)))) (ρ % 2) * S (ix2 n (Fin.ofNat G (ρ / 32))) + Z (ix2 n (Fin.ofNat G (ρ / 32)))

/-- The quantised linear map at row `m` and output column `n`. -/
def linear {M K N G : ℕ} [NeZero K] [NeZero G] {φ : FTy} (o : FVec Ideal ⟨2, ![M, K]⟩ φ) (C : IVec ⟨3, ![N, G, 16]⟩ 8)
    (S Z : FVec Ideal ⟨2, ![N, G]⟩ .bf16) (m : Fin M) (n : Fin N) : EReal :=
  ∑ ρ ∈ Finset.range (32 * G), act o m ρ * wt C S Z n ρ

/-- A sum over the rows of all groups is the sum over the even rows plus the sum over the odd rows. -/
theorem sum_halves (f : ℕ → EReal) (G : ℕ) :
    ∑ ρ ∈ Finset.range (32 * G), f ρ
      = (∑ g ∈ Finset.range G, ∑ j ∈ Finset.range 16, f (32 * g + 2 * j)) + ∑ g ∈ Finset.range G, ∑ j ∈ Finset.range 16, f (32 * g + 2 * j + 1) := by
  have pairs : ∀ (n a : ℕ), ∑ r ∈ Finset.range (2 * n), f (a + r) = ∑ j ∈ Finset.range n, (f (a + 2 * j) + f (a + 2 * j + 1)) := by
    intro n a
    induction n with
    | zero => rfl
    | succ n ih =>
      rw [Finset.sum_range_succ, ← ih, show 2 * (n + 1) = 2 * n + 1 + 1 from by ring, Finset.sum_range_succ, Finset.sum_range_succ, add_assoc]
      rfl
  have groups : ∑ ρ ∈ Finset.range (32 * G), f ρ = ∑ g ∈ Finset.range G, ∑ r ∈ Finset.range (2 * 16), f (32 * g + r) := by
    induction G with
    | zero => rfl
    | succ n ih =>
      rw [Finset.sum_range_succ, ← ih, show 32 * (n + 1) = 32 * n + 2 * 16 from by ring, Finset.sum_range_add]
  rw [groups]
  simp only [pairs, Finset.sum_add_distrib]

theorem half_low (b : BitVec 8) : ((IntOp.andi (b.zeroExtend 32) 15#32).toInt : ℤ) = (half b 0 : ℤ) := by
  revert b; decide +kernel

theorem half_high (b : BitVec 8) : (((b.zeroExtend 32).sshiftRight 4).toInt : ℤ) = (half b 1 : ℤ) := by
  revert b; decide +kernel

/-- The low half of a byte, masked and read as a number. -/
theorem code_low (b : BitVec 8) : (FloatOps.sitofp (F := Ideal) .bf16 (IntOp.andi (BitVec.setWidth 32 b) 15#32) : EReal) = code b 0 := by
  change (((IntOp.andi (b.zeroExtend 32) 15#32).toInt : ℝ) : EReal) = ((half b 0 : ℝ) : EReal)
  rw [half_low]; simp

/-- The high half of a byte, shifted down and read as a number. -/
theorem code_high (b : BitVec 8) : (FloatOps.sitofp (F := Ideal) .bf16 (IntOp.shrsi ArithUnit.host (BitVec.setWidth 32 b) 4#32) : EReal) = code b 1 := by
  change ((((b.zeroExtend 32).sshiftRight 4).toInt : ℝ) : EReal) = ((half b 1 : ℝ) : EReal)
  rw [half_high]; simp

theorem sum_fin2 {G : ℕ} (f : ℕ → ℕ → EReal) (g : Fin G → Fin 16 → EReal) (h : ∀ a b, g a b = f a.val b.val) :
    ∑ a, ∑ b, g a b = ∑ a ∈ Finset.range G, ∑ b ∈ Finset.range 16, f a b := by
  rw [← Fin.sum_univ_eq_sum_range (fun a => ∑ b ∈ Finset.range 16, f a b) G]
  refine Finset.sum_congr rfl fun a _ => ?_
  rw [← Fin.sum_univ_eq_sum_range (fun b => f a.val b) 16]
  exact Finset.sum_congr rfl fun b _ => h a b

/-- The sum over the low halves plus the sum over the high halves is the quantised linear map. -/
theorem halves_linear {M K N G : ℕ} [NeZero K] [NeZero G] {φ : FTy} (hK : K = 32 * G) (o : FVec Ideal ⟨2, ![M, K]⟩ φ) (C : IVec ⟨3, ![N, G, 16]⟩ 8)
    (S Z : FVec Ideal ⟨2, ![N, G]⟩ .bf16) (m : Fin M) (n : Fin N) (h0 : ∀ (g : Fin G) (j : Fin 16), g.val * 32 + j.val < K)
    (h1 : ∀ (g : Fin G) (j : Fin 16), g.val * 32 + (16 + j.val) < K) :
    (∑ g : Fin G, ∑ j : Fin 16, o (ix2 m ⟨g.val * 32 + j.val, h0 g j⟩)
        * (FloatOps.sitofp (F := Ideal) .bf16 (IntOp.andi (BitVec.setWidth 32 (C (ix3 n g j))) 15#32) * S (ix2 n g) + Z (ix2 n g)))
      + (∑ g : Fin G, ∑ j : Fin 16, o (ix2 m ⟨g.val * 32 + (16 + j.val), h1 g j⟩)
        * (FloatOps.sitofp (F := Ideal) .bf16 (IntOp.shrsi ArithUnit.host (BitVec.setWidth 32 (C (ix3 n g j))) 4#32) * S (ix2 n g) + Z (ix2 n g)))
      = linear o C S Z m n := by
  unfold linear
  rw [sum_halves]
  refine congrArg₂ (· + ·) (sum_fin2 (fun g j => act o m (32 * g + 2 * j) * wt C S Z n (32 * g + 2 * j)) _ fun g j => ?_)
    (sum_fin2 (fun g j => act o m (32 * g + 2 * j + 1) * wt C S Z n (32 * g + 2 * j + 1)) _ fun g j => ?_)
  · rw [code_low]
    have e1 : (Fin.ofNat G ((32 * g.val + 2 * j.val) / 32)) = g := Fin.ext (by rw [Fin.val_ofNat, show (32 * g.val + 2 * j.val) / 32 = g.val by omega]; exact Nat.mod_eq_of_lt g.isLt)
    have e2 : (Fin.ofNat 16 ((32 * g.val + 2 * j.val) % 32 / 2)) = j := Fin.ext (by rw [Fin.val_ofNat]; omega)
    have e3 : (Fin.ofNat K (col (32 * g.val + 2 * j.val))) = ⟨g.val * 32 + j.val, h0 g j⟩ :=
      Fin.ext (by rw [Fin.val_ofNat, show col (32 * g.val + 2 * j.val) = g.val * 32 + j.val by unfold col; omega]; exact Nat.mod_eq_of_lt (h0 g j))
    unfold act wt
    rw [e1, e2, e3, show (32 * g.val + 2 * j.val) % 2 = 0 by omega]
  · rw [code_high]
    have e1 : (Fin.ofNat G ((32 * g.val + 2 * j.val + 1) / 32)) = g := Fin.ext (by rw [Fin.val_ofNat, show (32 * g.val + 2 * j.val + 1) / 32 = g.val by omega]; exact Nat.mod_eq_of_lt g.isLt)
    have e2 : (Fin.ofNat 16 ((32 * g.val + 2 * j.val + 1) % 32 / 2)) = j := Fin.ext (by rw [Fin.val_ofNat]; omega)
    have e3 : (Fin.ofNat K (col (32 * g.val + 2 * j.val + 1))) = ⟨g.val * 32 + (16 + j.val), h1 g j⟩ :=
      Fin.ext (by rw [Fin.val_ofNat, show col (32 * g.val + 2 * j.val + 1) = g.val * 32 + (16 + j.val) by unfold col; omega]; exact Nat.mod_eq_of_lt (h1 g j))
    unfold act wt
    rw [e1, e2, e3, show (32 * g.val + 2 * j.val + 1) % 2 = 1 by omega]

end Q4
-- ==== Proof.OutProjValue.lean ====
/- The output projection's result array: at every index the residual plus the quantised linear map. -/
module

public import proofs.«01_k».proof.Proof.OutProjBlock
public import proofs.«01_k».proof.Proof.Linear
public import Idealize.ShloMosaic.Lib.Pointwise

@[expose] public section

set_option maxRecDepth 16384

noncomputable section

namespace Cert.OutProjIdeal

open Idealize.ShloMosaic Idealize.ShloMosaic.TcCoe Idealize.SL.Sem Cert.OutProjIdeal.Gen Cert.OutProjIdeal.Value Q4

variable (m : (ℓ : Loc nD τ sig) → Buf (Elt Ideal) ℓ) (ρ : Dev nD → PrngReg)

/-- The arguments as arrays. -/
abbrev argO (c : Dev nD) : FVec Ideal S128x1024 .bf16 := m ((c : Thread nD τ).loc main_arg0)
abbrev argX (c : Dev nD) : FVec Ideal S128x8192 .bf16 := m ((c : Thread nD τ).loc main_arg1)
abbrev argC (c : Dev nD) : IVec S8192x32x16 8 := m ((c : Thread nD τ).loc main_arg2)
abbrev argS (c : Dev nD) : FVec Ideal S8192x32 .bf16 := m ((c : Thread nD τ).loc main_arg3)
abbrev argZ (c : Dev nD) : FVec Ideal S8192x32 .bf16 := m ((c : Thread nD τ).loc main_arg4)

theorem V_v2 (c : Dev nD) : V m c main_v2 = shapeCast S128x1024 (transpose S128x32x16x2 [0, 1, 3, 2] (shapeCast S128x32x2x16 (argO m c) shapeCasts_S128x1024_S128x32x2x16)
    transposes_S128x32x2x16_S128x32x16x2_0_1_3_2) shapeCasts_S128x32x16x2_S128x1024 := by
  show StableHlo.after hostOps0 _ (Proc.devRef .tc main_v2) = _
  after_results
  rfl

theorem V_v3 (c : Dev nD) : V m c main_v3 = transpose S32x16x8192 [1, 2, 0] (argC m c) transposes_S8192x32x16_S32x16x8192_1_2_0 := by
  show StableHlo.after hostOps0 _ (Proc.devRef .tc main_v3) = _
  after_results

theorem V_v4 (c : Dev nD) : V m c main_v4 = transpose S32x8192 [1, 0] (argS m c) transposes_S8192x32_S32x8192_1_0 := by
  show StableHlo.after hostOps0 _ (Proc.devRef .tc main_v4) = _
  after_results

theorem V_v5 (c : Dev nD) : V m c main_v5 = transpose S32x8192 [1, 0] (argZ m c) transposes_S8192x32_S32x8192_1_0 := by
  show StableHlo.after hostOps0 _ (Proc.devRef .tc main_v5) = _
  after_results

theorem V_v2_apply (c : Dev nD) (r : Fin 128) (k : Fin 1024) : V m c main_v2 (ix2 r k) = act (argO m c) r k.val := by
  rw [V_v2]
  unfold act
  pointwise
  refine congrArg (argO m c) (congrArg (ix2 r) (Fin.ext ?_))
  rw [Fin.val_ofNat, Nat.mod_eq_of_lt (col_lt 32 k.val k.isLt)]
  exact col_eq k.val

theorem V_v3_apply (c : Dev nD) (g : Fin 32) (j : Fin 16) (n : Fin 8192) : V m c main_v3 (ix3 g j n) = argC m c (ix3 n g j) := by
  rw [V_v3]
  pointwise

theorem V_v4_apply (c : Dev nD) (g : Fin 32) (n : Fin 8192) : V m c main_v4 (ix2 g n) = argS m c (ix2 n g) := by
  rw [V_v4]
  pointwise

theorem V_v5_apply (c : Dev nD) (g : Fin 32) (n : Fin 8192) : V m c main_v5 (ix2 g n) = argZ m c (ix2 n g) := by
  rw [V_v5]
  pointwise

/-- Where each window's block lies. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 3) = 0 ∧ win0_2.index t (1 : Fin 3) = 0 ∧ win0_2.index t (2 : Fin 3) = 4 * t.val := (by decide +kernel : ∀ t : Fin grid0.N, _)
theorem idx3 : ∀ t : Fin cfg0.N, win0_3.index t (0 : Fin 3) = 0 ∧ win0_3.index t (1 : Fin 3) = 0 ∧ win0_3.index t (2 : Fin 3) = 4 * t.val + 1 := (by decide +kernel : ∀ t : Fin grid0.N, _)
theorem idx4 : ∀ t : Fin cfg0.N, win0_4.index t (0 : Fin 3) = 0 ∧ win0_4.index t (1 : Fin 3) = 0 ∧ win0_4.index t (2 : Fin 3) = 4 * t.val + 2 := (by decide +kernel : ∀ t : Fin grid0.N, _)
theorem idx5 : ∀ t : Fin cfg0.N, win0_5.index t (0 : Fin 3) = 0 ∧ win0_5.index t (1 : Fin 3) = 0 ∧ win0_5.index t (2 : Fin 3) = 4 * t.val + 3 := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)
theorem idx7 : ∀ t : Fin cfg0.N, win0_7.index t (0 : Fin 2) = 0 ∧ win0_7.index t (1 : Fin 2) = t.val := (by decide +kernel : ∀ t : Fin grid0.N, _)
theorem idx8 : ∀ t : Fin cfg0.N, win0_8.index t (0 : Fin 2) = 0 ∧ win0_8.index t (1 : Fin 2) = t.val := (by decide +kernel : ∀ t : Fin grid0.N, _)

theorem lt16 (t : Fin cfg0.N) : t.val < 16 := t.isLt

/-- The column of the result that column `n` of point `t`'s block is. -/
def colAt (t : Fin cfg0.N) (n : ℕ) (h : n < 512) : Fin 8192 := ⟨512 * t.val + n, by have := lt16 t; omega⟩

theorem blk0 (c : Dev nD) (t : Fin cfg0.N) (r : Fin 128) (k : Fin 1024) : iblk m c 0 t (ix2 r k) = act (argO m c) r k.val := by
  obtain ⟨e0, e1⟩ := idx0 t
  rw [← V_v2_apply]
  refine congrArg (V m c main_v2) (funext fun a => Fin.ext ?_)
  match a with
  | ⟨0, _⟩ => show win0_0.index t (0 : Fin 2) * 128 + 1 * r.val = r.val; omega
  | ⟨1, _⟩ => show win0_0.index t (1 : Fin 2) * 1024 + 1 * k.val = k.val; omega

theorem blk1 (c : Dev nD) (t : Fin cfg0.N) (r : Fin 128) (n : Fin 512) : iblk m c 1 t (ix2 r n) = argX m c (ix2 r (colAt t n.val n.isLt)) := by
  obtain ⟨e0, e1⟩ := idx1 t
  show V m c main_arg1 _ = _
  rw [V_main_arg1]
  refine congrArg (argX m c) (funext fun a => Fin.ext ?_)
  match a with
  | ⟨0, _⟩ => show win0_1.index t (0 : Fin 2) * 128 + 1 * r.val = r.val; omega
  | ⟨1, _⟩ => show win0_1.index t (1 : Fin 2) * 512 + 1 * n.val = 512 * t.val + n.val; omega

theorem blk2 (c : Dev nD) (t : Fin cfg0.N) (g : Fin 32) (j : Fin 16) (q : Fin 128) : iblk m c 2 t (ix3 g j q) = argC m c (ix3 (colAt t (128 * 0 + q.val) (by omega)) g j) := by
  obtain ⟨e0, e1, e2⟩ := idx2 t
  rw [← V_v3_apply]
  refine congrArg (V m c main_v3) (funext fun a => Fin.ext ?_)
  match a with
  | ⟨0, _⟩ => show win0_2.index t (0 : Fin 3) * 32 + 1 * g.val = g.val; omega
  | ⟨1, _⟩ => show win0_2.index t (1 : Fin 3) * 16 + 1 * j.val = j.val; omega
  | ⟨2, _⟩ => show win0_2.index t (2 : Fin 3) * 128 + 1 * q.val = 512 * t.val + (128 * 0 + q.val); omega

theorem blk3 (c : Dev nD) (t : Fin cfg0.N) (g : Fin 32) (j : Fin 16) (q : Fin 128) : iblk m c 3 t (ix3 g j q) = argC m c (ix3 (colAt t (128 * 1 + q.val) (by omega)) g j) := by
  obtain ⟨e0, e1, e2⟩ := idx3 t
  rw [← V_v3_apply]
  refine congrArg (V m c main_v3) (funext fun a => Fin.ext ?_)
  match a with
  | ⟨0, _⟩ => show win0_3.index t (0 : Fin 3) * 32 + 1 * g.val = g.val; omega
  | ⟨1, _⟩ => show win0_3.index t (1 : Fin 3) * 16 + 1 * j.val = j.val; omega
  | ⟨2, _⟩ => show win0_3.index t (2 : Fin 3) * 128 + 1 * q.val = 512 * t.val + (128 * 1 + q.val); omega

theorem blk4 (c : Dev nD) (t : Fin cfg0.N) (g : Fin 32) (j : Fin 16) (q : Fin 128) : iblk m c 4 t (ix3 g j q) = argC m c (ix3 (colAt t (128 * 2 + q.val) (by omega)) g j) := by
  obtain ⟨e0, e1, e2⟩ := idx4 t
  rw [← V_v3_apply]
  refine congrArg (V m c main_v3) (funext fun a => Fin.ext ?_)
  match a with
  | ⟨0, _⟩ => show win0_4.index t (0 : Fin 3) * 32 + 1 * g.val = g.val; omega
  | ⟨1, _⟩ => show win0_4.index t (1 : Fin 3) * 16 + 1 * j.val = j.val; omega
  | ⟨2, _⟩ => show win0_4.index t (2 : Fin 3) * 128 + 1 * q.val = 512 * t.val + (128 * 2 + q.val); omega

theorem blk5 (c : Dev nD) (t : Fin cfg0.N) (g : Fin 32) (j : Fin 16) (q : Fin 128) : iblk m c 5 t (ix3 g j q) = argC m c (ix3 (colAt t (128 * 3 + q.val) (by omega)) g j) := by
  obtain ⟨e0, e1, e2⟩ := idx5 t
  rw [← V_v3_apply]
  refine congrArg (V m c main_v3) (funext fun a => Fin.ext ?_)
  match a with
  | ⟨0, _⟩ => show win0_5.index t (0 : Fin 3) * 32 + 1 * g.val = g.val; omega
  | ⟨1, _⟩ => show win0_5.index t (1 : Fin 3) * 16 + 1 * j.val = j.val; omega
  | ⟨2, _⟩ => show win0_5.index t (2 : Fin 3) * 128 + 1 * q.val = 512 * t.val + (128 * 3 + q.val); omega

theorem blk6 (c : Dev nD) (t : Fin cfg0.N) (g : Fin 32) (n : Fin 512) : iblk m c 6 t (ix2 g n) = argS m c (ix2 (colAt t n.val n.isLt) g) := by
  obtain ⟨e0, e1⟩ := idx6 t
  rw [← V_v4_apply]
  refine congrArg (V m c main_v4) (funext fun a => Fin.ext ?_)
  match a with
  | ⟨0, _⟩ => show win0_6.index t (0 : Fin 2) * 32 + 1 * g.val = g.val; omega
  | ⟨1, _⟩ => show win0_6.index t (1 : Fin 2) * 512 + 1 * n.val = 512 * t.val + n.val; omega

theorem blk7 (c : Dev nD) (t : Fin cfg0.N) (g : Fin 32) (n : Fin 512) : iblk m c 7 t (ix2 g n) = argZ m c (ix2 (colAt t n.val n.isLt) g) := by
  obtain ⟨e0, e1⟩ := idx7 t
  rw [← V_v5_apply]
  refine congrArg (V m c main_v5) (funext fun a => Fin.ext ?_)
  match a with
  | ⟨0, _⟩ => show win0_7.index t (0 : Fin 2) * 32 + 1 * g.val = g.val; omega
  | ⟨1, _⟩ => show win0_7.index t (1 : Fin 2) * 512 + 1 * n.val = 512 * t.val + n.val; omega

theorem emb8 (t : Fin cfg0.N) (r : Fin 128) (n : Fin 512) : ((cfg0.win 8).blk t).view.emb (ix2 r n) = (ix2 r (colAt t n.val n.isLt) : S128x8192.Idx) := by
  obtain ⟨e0, e1⟩ := idx8 t
  funext a; apply Fin.ext
  match a with
  | ⟨0, _⟩ => show win0_8.index t (0 : Fin 2) * 128 + 1 * r.val = r.val; omega
  | ⟨1, _⟩ => show win0_8.index t (1 : Fin 2) * 512 + 1 * n.val = 512 * t.val + n.val; omega

/-- The weights that the kernel forms at point `t` are the dequantised weights of the result's columns. -/
theorem weights (c : Dev nD) (t : Fin cfg0.N) (n : Fin 512) (k : ℕ) :
    W4 (iblk m c 6 t) (iblk m c 7 t) (iblk m c 2 t) (iblk m c 3 t) (iblk m c 4 t) (iblk m c 5 t) (n.val / 128) k ⟨n.val % 128, Nat.mod_lt _ (by decide)⟩
      = wt (argC m c) (argS m c) (argZ m c) (colAt t n.val n.isLt) k := by
  have hn := n.isLt
  have key : ∀ (l : Fin 4) (x : Vec Ideal S32x16x128 .i8), n.val / 128 = l.val →
      (∀ (g : Fin 32) (j : Fin 16) (q : Fin 128), x (ix3 g j q) = argC m c (ix3 (colAt t (128 * l.val + q.val) (by omega)) g j)) →
      W (iblk m c 6 t) (iblk m c 7 t) x l k ⟨n.val % 128, Nat.mod_lt _ (by decide)⟩ = wt (argC m c) (argS m c) (argZ m c) (colAt t n.val n.isLt) k := by
    intro l x hl hx
    unfold W weight bytesOf scaleOf wt
    beta_reduce
    rw [hx, blk6, blk7]
    have e : 128 * l.val + n.val % 128 = n.val := by omega
    simp only [e]
  rcases (by omega : n.val / 128 = 0 ∨ n.val / 128 = 1 ∨ n.val / 128 = 2 ∨ n.val / 128 = 3) with h | h | h | h
  · rw [h]; exact key 0 _ h fun g j q => blk2 m c t g j q
  · rw [h]; exact key 1 _ h fun g j q => blk3 m c t g j q
  · rw [h]; exact key 2 _ h fun g j q => blk4 m c t g j q
  · rw [h]; exact key 3 _ h fun g j q => blk5 m c t g j q

/-- The result array as one function of the arguments. -/
def G (c : Dev nD) : Vec Ideal S128x8192 .f32 := fun i => argX m c i + linear (argO m c) (argC m c) (argS m c) (argZ m c) (i 0) (i 1)

theorem flushed_eq (c : Dev nD) (t : Fin cfg0.N) :
    (dats m 0 c).flushed 8 t = ((cfg0.win 8).blk t).view.read (Elt Ideal) (G m c) := by
  rw [flushed8_A]
  funext i
  obtain ⟨r, n, rfl⟩ : ∃ (r : Fin 128) (n : Fin 512), i = ix2 r n := ⟨i 0, i 1, by funext a; match a with | ⟨0, _⟩ => rfl | ⟨1, _⟩ => rfl⟩
  show out0_A_8 (F := Ideal) _ _ _ _ _ _ _ _ _ _ _ _ _ _ _ _ _ _ _ _ _ _ _ _ _ _ _ _ _ _ _ _ (ix2 r n) = G m c (((cfg0.win 8).blk t).view.emb (ix2 r n))
  rw [emb8, out_apply, blk1]
  simp only [weights, blk0]
  show _ = argX m c _ + linear _ _ _ _ r (colAt t n.val n.isLt)
  refine congrArg _ ?_
  unfold linear
  rw [show 32 * 32 = 512 + 512 from rfl, Finset.sum_range_add, ← Fin.sum_univ_eq_sum_range, ← Fin.sum_univ_eq_sum_range]
  simp only [Nat.zero_add]

theorem covered (i : S128x8192.Idx) : ∃ t : Fin cfg0.N, (cfg0.win 8).flush t = true ∧ i ∈ ((cfg0.win 8).blk t).view.set := by
  obtain ⟨r, n, rfl⟩ : ∃ (r : Fin 128) (n : Fin 8192), i = ix2 r n := ⟨i 0, i 1, by funext a; match a with | ⟨0, _⟩ => rfl | ⟨1, _⟩ => rfl⟩
  have hn := n.isLt
  refine ⟨(⟨n.val / 512, by show _ < 16; omega⟩ : Fin cfg0.N), flush0_8 _, ?_⟩
  have h := ((cfg0.win 8).blk (⟨n.val / 512, by show _ < 16; omega⟩ : Fin cfg0.N)).view.emb_mem_set (ix2 r (⟨n.val % 512, Nat.mod_lt _ (by decide)⟩ : Fin 512))
  rw [emb8] at h
  have e : colAt (⟨n.val / 512, by show _ < 16; omega⟩ : Fin cfg0.N) (n.val % 512) (Nat.mod_lt _ (by decide)) = n :=
    Fin.ext (by show 512 * (n.val / 512) + n.val % 512 = n.val; omega)
  rwa [e] at h

theorem final (c : Dev nD) : (dats m 0 c).arrAt 8 cfg0.N = G m c :=
  (dats m 0 c).arrAt_eq_of_cover 8 (G m c) (fun t _ => flushed_eq m c t) covered

end Cert.OutProjIdeal
-- ==== Proof.OutProjRef.lean ====
/- The reference output projection's result at an index. -/
module

public import proofs.«01_k».proof.Proof.Linear
public import proofs.«01_k».proof.Proof.Gen.OutProjRefIdeal.Run
public import Idealize.ShloMosaic.Lib.Pointwise

@[expose] public section

set_option maxRecDepth 16384

noncomputable section

namespace Cert.OutProjRefIdeal

open Idealize.ShloMosaic Idealize.ShloMosaic.TcCoe Cert.OutProjRefIdeal.Gen Q4

/-- The reference's result as a term of its arguments. -/
def value (o : FVec Ideal S128x1024 .bf16) (x : FVec Ideal S128x8192 .bf16) (C : IVec S8192x32x16 8) (S Z : FVec Ideal S8192x32 .bf16) : FVec Ideal S128x8192 .f32 :=
  addf (extf .f32 x bitsLt_bf16_f32) (addf (Host.dotGeneral dot_S128x32x16_S8192x32x16_S128x8192_12_12_0_0_n_n none (extractStridedSlice S128x32x16 ![0, 0, 0] (shapeCast _ o shapeCasts_S128x1024_S128x32x32) slices_S128x32x32_S128x32x16_0_0_0) (addf (mulf (sitofp .bf16 (andi (extui 32 C natLt_8_32) (broadcastInDim S8192x32x16 ![] bcast_S_S8192x32x16 (constantI S_ 32 15#32)))) (broadcastInDim S8192x32x16 ![0, 1, 2] bcast_S8192x32x1_S8192x32x16_0_1_2 (broadcastInDim S8192x32x1 ![0, 1] bcast_S8192x32_S8192x32x1_0_1 S))) (broadcastInDim S8192x32x16 ![0, 1, 2] bcast_S8192x32x1_S8192x32x16_0_1_2 (broadcastInDim S8192x32x1 ![0, 1] bcast_S8192x32_S8192x32x1_0_1 Z)))) (Host.dotGeneral dot_S128x32x16_S8192x32x16_S128x8192_12_12_0_0_n_n none (extractStridedSlice S128x32x16 ![0, 0, 16] (shapeCast _ o shapeCasts_S128x1024_S128x32x32) slices_S128x32x32_S128x32x16_0_0_16) (addf (mulf (sitofp .bf16 (Host.shrsi (extui 32 C natLt_8_32) (broadcastInDim S8192x32x16 ![] bcast_S_S8192x32x16 (constantI S_ 32 4#32)))) (broadcastInDim S8192x32x16 ![0, 1, 2] bcast_S8192x32x1_S8192x32x16_0_1_2 (broadcastInDim S8192x32x1 ![0, 1] bcast_S8192x32_S8192x32x1_0_1 S))) (broadcastInDim S8192x32x16 ![0, 1, 2] bcast_S8192x32x1_S8192x32x16_0_1_2 (broadcastInDim S8192x32x1 ![0, 1] bcast_S8192x32_S8192x32x1_0_1 Z)))))

theorem value_apply (o : FVec Ideal S128x1024 .bf16) (x : FVec Ideal S128x8192 .bf16) (C : IVec S8192x32x16 8) (S Z : FVec Ideal S8192x32 .bf16) (m : Fin 128) (n : Fin 8192) :
    value o x C S Z (ix2 m n) = x (ix2 m n) + linear o C S Z m n := by
  unfold value
  pointwise
  have h := halves_linear (M := 128) (K := 1024) (N := 8192) (G := 32) (by decide) o C S Z m n (fun g j => by omega) (fun g j => by omega)
  rw [← h]

end Cert.OutProjRefIdeal
-- ==== Proof.OutProjClaim.lean ====
/- The output projection: its claims. -/
module

public import proofs.«01_k».proof.Defs
public import proofs.«01_k».proof.Proof.OutProjValue
public import proofs.«01_k».proof.Proof.OutProjRef
public import proofs.«01_k».proof.Proof.Gen.OutProj.Frame

@[expose] public section

noncomputable section

namespace Cert.Proof

open Idealize.ShloMosaic Idealize.ShloMosaic.TcCoe Idealize.SL.Sem

theorem outProj_frame : Cert.quiescent_OutProj := fun m ρ _ => Cert.OutProj.Gen.frame m ρ

theorem outProjIdeal_frame : Cert.quiescent_OutProjIdeal := fun m ρ _ => Cert.OutProjIdeal.Gen.frame m ρ

/-- The reference's run read at its arguments; the program declares no semaphore. -/
theorem outProjRef_frame : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- The kernel's result array and the reference's are one function of the arguments. -/
theorem outProj_algebraic : Cert.algebraic_OutProjIdeal_OutProjRefIdeal := by
  intro m g m' g' _ hagree
  refine ⟨fun c => Cert.OutProjIdeal.G m c, ?_, ?_⟩
  · exact (θ_run Cert.OutProjIdeal.defs _ _).mono (fun r h c => ⟨(h c).1.trans (Cert.OutProjIdeal.final m c), (h c).2⟩)
      (Cert.OutProjIdeal.Value.run_blocks m g)
  · refine (θ_run Cert.OutProjRefIdeal.defs _ _).mono (fun r h c => ⟨(h c).1.trans ?_, (h c).2⟩)
      (Cert.OutProjRefIdeal.Value.run (F := Ideal) m' g')
    obtain ⟨h0, h1, h2, h3, h4⟩ := hagree c
    rw [h0, h1, h2, h3, h4]
    refine funext fun i => ?_
    obtain ⟨r, n, rfl⟩ : ∃ (r : Fin 128) (n : Fin 8192), i = ix2 r n := ⟨i 0, i 1, by funext a; match a with | ⟨0, _⟩ => rfl | ⟨1, _⟩ => rfl⟩
    exact Cert.OutProjRefIdeal.value_apply _ _ _ _ _ r n

end Cert.Proof
-- ==== Proof.DownTile.lean ====
/- The down projection's weights: what its scratch arrays hold, and sixteen rows of a tile as the kernel computes them. -/
module

public import proofs.«01_k».proof.Proof.Planes
public import proofs.«01_k».proof.Proof.Gen.DownIdeal.Value

@[expose] public section

set_option maxRecDepth 16384

noncomputable section

namespace Cert.DownIdeal

open Idealize.ShloMosaic Idealize.ShloMosaic.TcCoe Idealize.SL.Sem Cert.DownIdeal.Gen Q4

/-- The weights of a block's tile `l`: its codes `x`, the block's scales `s` and minima `z`. -/
def W (s z : Vec Ideal S116x256 .bf16) (x : Vec Ideal S116x16x128 .i8) (l : Fin 2) : ℕ → Fin 128 → EReal :=
  weight (bytesOf x) (fun g c => scaleOf rfl s l (Fin.ofNat 116 g) c) (fun g c => scaleOf rfl z l (Fin.ofNat 116 g) c)

/-- The weights of the block, both tiles. -/
def W2 (s z : Vec Ideal S116x256 .bf16) (x2 x3 : Vec Ideal S116x16x128 .i8) (l : ℕ) : ℕ → Fin 128 → EReal :=
  match l with
  | 0 => W s z x2 0
  | _ => W s z x3 1

variable (c : Dev nD) (arg5 : Memref sig .tc .vmem S116x256 .bf16) (harg5 : arg5.IsWhole)
  (arg6 : Memref sig .tc .vmem S116x256 .bf16) (harg6 : arg6.IsWhole)
  (arg8 : Memref sig .tc .vmem S2x116x128 .f32) (arg9 : Memref sig .tc .vmem S2x116x128 .f32)
  (x4 x5 : Vec Ideal S116x256 .bf16)

/-- Each store into the scratch array of scales stores the plane of its tile. -/
theorem pieces_scale : ∀ p ∈ kernelRun0_A.sl.HS0_2 (F := Ideal) c arg5 harg5 x4,
    ∀ i : p.1.shape.Idx, p.2 i = scaleOf rfl x4 (p.1.emb i 0) (p.1.emb i 1) (p.1.emb i 2) := by
  intro p hp
  unfold kernelRun0_A.sl.HS0_2 at hp
  simp only [List.mem_cons, List.not_mem_nil, or_false] at hp
  rcases hp with rfl | rfl <;> intro x
  · exact plane_scale (P := 2) rfl harg5 x4 1 (by decide) 128 (by decide) rfl (by decide) (by decide) (by decide) x
  · exact plane_scale (P := 2) rfl harg5 x4 0 (by decide) 0 (by decide) rfl (by decide) (by decide) (by decide) x

/-- The stores cover the scratch array of scales. -/
theorem cover_scale : ∀ y, ∃ p ∈ kernelRun0_A.sl.HS0_2 (F := Ideal) c arg5 harg5 x4, y ∈ p.1.set := by
  refine cover_planes _ fun l => ?_
  unfold kernelRun0_A.sl.HS0_2
  match l with
  | ⟨0, _⟩ => exact ⟨_, .tail _ (.head _), inb_S2x116x128_S1x116x128_0_0_0, rfl⟩
  | ⟨1, _⟩ => exact ⟨_, .head _, inb_S2x116x128_S1x116x128_1_0_0, rfl⟩

/-- Each store into the scratch array of minima stores the plane of its tile. -/
theorem pieces_min : ∀ p ∈ kernelRun0_A.sl.HS1_2 (F := Ideal) c arg6 harg6 x5,
    ∀ i : p.1.shape.Idx, p.2 i = scaleOf rfl x5 (p.1.emb i 0) (p.1.emb i 1) (p.1.emb i 2) := by
  intro p hp
  unfold kernelRun0_A.sl.HS1_2 at hp
  simp only [List.mem_cons, List.not_mem_nil, or_false] at hp
  rcases hp with rfl | rfl <;> intro x
  · exact plane_scale (P := 2) rfl harg6 x5 1 (by decide) 128 (by decide) rfl (by decide) (by decide) (by decide) x
  · exact plane_scale (P := 2) rfl harg6 x5 0 (by decide) 0 (by decide) rfl (by decide) (by decide) (by decide) x

/-- The stores cover the scratch array of minima. -/
theorem cover_min : ∀ y, ∃ p ∈ kernelRun0_A.sl.HS1_2 (F := Ideal) c arg6 harg6 x5, y ∈ p.1.set := by
  refine cover_planes _ fun l => ?_
  unfold kernelRun0_A.sl.HS1_2
  match l with
  | ⟨0, _⟩ => exact ⟨_, .tail _ (.head _), inb_S2x116x128_S1x116x128_0_0_0, rfl⟩
  | ⟨1, _⟩ => exact ⟨_, .head _, inb_S2x116x128_S1x116x128_1_0_0, rfl⟩

/-- Sixteen rows of tile `l`, as the kernel computes them (`piece` at this program's arrays). -/
theorem tile_piece {mC : Memref sig .tc .vmem S116x16x128 .i8} (hC : mC.IsWhole) (x : Vec Ideal S116x16x128 .i8)
    (l b : ℕ) (hl : l < 2) (hb : b % 16 = 0) (hG : b / 32 < 116) (h inbC inb inb' hst) (r : Fin 16) (q : Fin 128) :
    W x4 x5 x ⟨l, hl⟩ (b + r.val) q
      = rows16 (b % 64) (bytes64 (bytesAt hC x (b / 64 * 2) inbC))
          (rowAt arg8 (kernelRun0_A.sl.HS0_2 (F := Ideal) c arg5 harg5 x4) l (b / 32) inb inb' hst)
          (rowAt arg9 (kernelRun0_A.sl.HS1_2 (F := Ideal) c arg6 harg6 x5) l (b / 32) inb inb' hst) h (ix2 r q) :=
  Q4.piece hC x arg8 arg9 _ _ _ _ (pieces_scale c arg5 harg5 x4) (cover_scale c arg5 harg5 x4)
    (pieces_min c arg6 harg6 x5) (cover_min c arg6 harg6 x5) l b hl hb hG h inbC inb inb' hst r q

/-- Sixteen rows of tile `l` more in front. -/
theorem tile_cons {mC : Memref sig .tc .vmem S116x16x128 .i8} (hC : mC.IsWhole) (x : Vec Ideal S116x16x128 .i8)
    (l : ℕ) {b : ℕ} (hl : l < 2) (hb : b % 16 = 0) (hG : b / 32 < 116) (h inbC inb inb' hst)
    {y : FVec Ideal S16x128 .bf16} {ps : List ((s : Shape) × (s.Idx → EReal))}
    (e : rows16 (b % 64) (bytes64 (bytesAt hC x (b / 64 * 2) inbC))
          (rowAt arg8 (kernelRun0_A.sl.HS0_2 (F := Ideal) c arg5 harg5 x4) l (b / 32) inb inb' hst)
          (rowAt arg9 (kernelRun0_A.sl.HS1_2 (F := Ideal) c arg6 harg6 x5) l (b / 32) inb inb' hst) h = y)
    (hp : Rows (W x4 x5 x ⟨l, hl⟩) (b + 16) ps) : Rows (W x4 x5 x ⟨l, hl⟩) b (⟨S16x128, y⟩ :: ps) := by
  subst e
  exact Rows.cons (fun r q => tile_piece c arg5 harg5 arg6 harg6 arg8 arg9 x4 x5 hC x l b hl hb hG h inbC inb inb' hst r q) hp

end Cert.DownIdeal
-- ==== Proof.DownDot.lean ====
/- The down projection's contraction by steps: the products, the loads of the left operand, and the term of a row. -/
module

public import proofs.«01_k».proof.Proof.DownTile

@[expose] public section

set_option maxRecDepth 16384
set_option maxHeartbeats 1000000

noncomputable section

namespace Cert.DownIdeal

open Idealize.ShloMosaic Idealize.ShloMosaic.TcCoe Idealize.SL.Sem Cert.DownIdeal.Gen Q4

/-- A contraction over 512 columns, at an index. -/
theorem dot512_apply (A : FVec Ideal S128x512 .bf16) (B : FVec Ideal S512x256 .bf16) (m : Fin 128) (n : Fin 256) :
    matmul dot_S128x512_S512x256_S128x256_1_0_0_1_n_n none A B (constant S128x256 .f32 0#32) (ix2 m n)
      = ∑ k : Fin 512, A (ix2 m k) * B (ix2 k n) := by
  pointwise

/-- A load of 512 columns of the left operand. -/
theorem load512_apply {mA : Memref sig .tc .vmem S128x3712 .bf16} (hA : mA.IsWhole) (x : Vec Ideal S128x3712 .bf16) (o : ℕ)
    (inb : ∀ a, (![0, o] : Fin 2 → ℕ) a + (![128, 512] : Fin 2 → ℕ) a ≤ (![128, 3712] : Fin 2 → ℕ) a)
    (h : S128x512.ShapeCasts S128x512) (m : Fin 128) (k : Fin 512) :
    shapeCast S128x512 (View.readAt (Elt Ideal) mA.view (Rect.unit (s := S128x3712) ![0, o] ![128, 512] inb).toLoadRect (hA.unread x)) h (ix2 m k)
      = x (ix2 m (Fin.ofNat 3712 (o + k.val))) := by
  show View.readAt (Elt Ideal) mA.view (Rect.unit (s := S128x3712) ![0, o] ![128, 512] inb).toLoadRect (hA.unread x) (Shape.reshapeEquiv h (ix2 m k)) = _
  rw [Shape.reshapeEquiv_self, hA.readAt_unread]
  congr 1
  funext a
  apply Fin.ext
  have hk : o + k.val < 3712 := by have := inb 1; have := k.isLt; change o + 512 ≤ 3712 at *; omega
  match a with
  | ⟨0, _⟩ => show 0 + 1 * m.val = m.val; omega
  | ⟨1, _⟩ => show o + 1 * k.val = (o + k.val) % 3712; rw [Nat.mod_eq_of_lt hk]; omega

/-- One step of the contraction: the left operand against the two tiles' weights from row `b` on. -/
theorem step512_apply (A : FVec Ideal S128x512 .bf16) (V : ℕ → ℕ → Fin 128 → EReal) (b : ℕ)
    (xs : List ((s : Shape) × (s.Idx → EReal))) (h) (hr : Planes (K := 512) (fun l k q => V l (b + k.val) q) 0 xs) (m : Fin 128) (n : Fin 256) :
    matmul (F := Ideal) (φ₁ := .bf16) (φ₂ := .bf16) dot_S128x512_S512x256_S128x256_1_0_0_1_n_n none A (concatenate S512x256 1 xs h) (constant S128x256 .f32 0#32) (ix2 m n)
      = ∑ k : Fin 512, A (ix2 m k) * V (n.val / 128) (b + k.val) ⟨n.val % 128, Nat.mod_lt _ (by decide)⟩ := by
  rw [dot512_apply]
  refine Finset.sum_congr rfl fun k _ => ?_
  exact congrArg (A (ix2 m k) * ·) (concat_planes (fun l k q => V l (b + k.val) q) xs h hr k n)

/-- A contraction over 128 columns, at an index. -/
theorem dot128_apply (A : FVec Ideal S128x128 .bf16) (B : FVec Ideal S128x256 .bf16) (m : Fin 128) (n : Fin 256) :
    matmul dot_S128x128_S128x256_S128x256_1_0_0_1_n_n none A B (constant S128x256 .f32 0#32) (ix2 m n)
      = ∑ k : Fin 128, A (ix2 m k) * B (ix2 k n) := by
  pointwise

/-- A load of 128 columns of the left operand. -/
theorem load128_apply {mA : Memref sig .tc .vmem S128x3712 .bf16} (hA : mA.IsWhole) (x : Vec Ideal S128x3712 .bf16) (o : ℕ)
    (inb : ∀ a, (![0, o] : Fin 2 → ℕ) a + (![128, 128] : Fin 2 → ℕ) a ≤ (![128, 3712] : Fin 2 → ℕ) a)
    (h : S128x128.ShapeCasts S128x128) (m : Fin 128) (k : Fin 128) :
    shapeCast S128x128 (View.readAt (Elt Ideal) mA.view (Rect.unit (s := S128x3712) ![0, o] ![128, 128] inb).toLoadRect (hA.unread x)) h (ix2 m k)
      = x (ix2 m (Fin.ofNat 3712 (o + k.val))) := by
  show View.readAt (Elt Ideal) mA.view (Rect.unit (s := S128x3712) ![0, o] ![128, 128] inb).toLoadRect (hA.unread x) (Shape.reshapeEquiv h (ix2 m k)) = _
  rw [Shape.reshapeEquiv_self, hA.readAt_unread]
  congr 1
  funext a
  apply Fin.ext
  have hk : o + k.val < 3712 := by have := inb 1; have := k.isLt; change o + 128 ≤ 3712 at *; omega
  match a with
  | ⟨0, _⟩ => show 0 + 1 * m.val = m.val; omega
  | ⟨1, _⟩ => show o + 1 * k.val = (o + k.val) % 3712; rw [Nat.mod_eq_of_lt hk]; omega

/-- One step of the contraction: the left operand against the two tiles' weights from row `b` on. -/
theorem step128_apply (A : FVec Ideal S128x128 .bf16) (V : ℕ → ℕ → Fin 128 → EReal) (b : ℕ)
    (xs : List ((s : Shape) × (s.Idx → EReal))) (h) (hr : Planes (K := 128) (fun l k q => V l (b + k.val) q) 0 xs) (m : Fin 128) (n : Fin 256) :
    matmul (F := Ideal) (φ₁ := .bf16) (φ₂ := .bf16) dot_S128x128_S128x256_S128x256_1_0_0_1_n_n none A (concatenate S128x256 1 xs h) (constant S128x256 .f32 0#32) (ix2 m n)
      = ∑ k : Fin 128, A (ix2 m k) * V (n.val / 128) (b + k.val) ⟨n.val % 128, Nat.mod_lt _ (by decide)⟩ := by
  rw [dot128_apply]
  refine Finset.sum_congr rfl fun k _ => ?_
  exact congrArg (A (ix2 m k) * ·) (concat_planes (fun l k q => V l (b + k.val) q) xs h hr k n)

/-- The product of the left operand and the weight at row `ρ` of the contraction. -/
def term (x0 : Vec Ideal S128x3712 .bf16) (x2 x3 : Vec Ideal S116x16x128 .i8) (x4 x5 : Vec Ideal S116x256 .bf16)
    (m : Fin 128) (n : Fin 256) (ρ : ℕ) : EReal :=
  x0 (ix2 m (Fin.ofNat 3712 ρ)) * W2 x4 x5 x2 x3 (n.val / 128) ρ ⟨n.val % 128, Nat.mod_lt _ (by decide)⟩

end Cert.DownIdeal
-- ==== Proof.DownAcc0.lean ====
/- The down projection's accumulator after its first two steps. -/
module

public import proofs.«01_k».proof.Proof.DownDot

@[expose] public section

set_option maxRecDepth 16384
set_option maxHeartbeats 1000000

noncomputable section

namespace Cert.DownIdeal

open Idealize.ShloMosaic Idealize.ShloMosaic.TcCoe Idealize.SL.Sem Cert.DownIdeal.Gen Q4

variable (c : Dev nD) (arg5 : Memref sig .tc .vmem S116x256 .bf16) (harg5 : arg5.IsWhole)
  (arg6 : Memref sig .tc .vmem S116x256 .bf16) (harg6 : arg6.IsWhole)
  (arg8 : Memref sig .tc .vmem S2x116x128 .f32) (arg9 : Memref sig .tc .vmem S2x116x128 .f32)
  (x4 x5 : Vec Ideal S116x256 .bf16)
  (arg1 : Memref sig .tc .vmem S128x3712 .bf16) (harg1 : arg1.IsWhole)
  (arg2 : Memref sig .tc .vmem S128x256 .f32) (harg2 : arg2.IsWhole)
  (arg3 : Memref sig .tc .vmem S116x16x128 .i8) (harg3 : arg3.IsWhole)
  (arg4 : Memref sig .tc .vmem S116x16x128 .i8) (harg4 : arg4.IsWhole)
  (x0 : Vec Ideal S128x3712 .bf16) (x1 : Vec Ideal S128x256 .f32) (x2 x3 : Vec Ideal S116x16x128 .i8)

/-- The accumulator after the first 16 groups. -/
theorem acc0 (m : Fin 128) (n : Fin 256) :
    kernelRun0_A.sl.r_97 (F := Ideal) c arg1 harg1 arg3 harg3 arg4 harg4 arg5 harg5 arg6 harg6 arg8 arg9 x0 x2 x3 x4 x5 (ix2 m n)
      = ∑ ρ ∈ Finset.range 512, term x0 x2 x3 x4 x5 m n ρ := by
  refine Eq.trans ?_ (Finset.sum_congr rfl fun k _ => congrArg (term x0 x2 x3 x4 x5 m n) (Nat.zero_add k))
  refine (step512_apply _ (W2 x4 x5 x2 x3) 0 _ ?h ?r m n).trans ?e
  case r =>
    refine Planes.cons ?_ (Planes.cons ?_ Planes.nil)
    · intro ρ q
      refine concat_rows (K := 512) (W x4 x5 x2 0) 0 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 512) (W x4 x5 x3 1) 0 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load512_apply harg1 x0 0 (by decide) (by decide) m k)).trans ?_
    exact Fin.sum_univ_eq_sum_range (fun k => term x0 x2 x3 x4 x5 m n (0 + k)) 512

/-- The accumulator after the first 32 groups. -/
theorem acc1 (m : Fin 128) (n : Fin 256) :
    kernelRun0_A.sl.r_185 (F := Ideal) c arg1 harg1 arg3 harg3 arg4 harg4 arg5 harg5 arg6 harg6 arg8 arg9 x0 x2 x3 x4 x5 (ix2 m n)
      = ∑ ρ ∈ Finset.range 1024, term x0 x2 x3 x4 x5 m n ρ := by
  rw [show 1024 = 512 + 512 from rfl, Finset.sum_range_add, ← acc0 c arg5 harg5 arg6 harg6 arg8 arg9 x4 x5 arg1 harg1 arg3 harg3 arg4 harg4 x0 x2 x3 m n]
  unfold kernelRun0_A.sl.r_185
  unfold k0_pay292
  refine congrArg (_ + ·) ?_
  refine (step512_apply _ (W2 x4 x5 x2 x3) 512 _ ?h ?r m n).trans ?e
  case r =>
    refine Planes.cons ?_ (Planes.cons ?_ Planes.nil)
    · intro ρ q
      refine concat_rows (K := 512) (W x4 x5 x2 0) 512 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 512) (W x4 x5 x3 1) 512 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load512_apply harg1 x0 512 (by decide) (by decide) m k)).trans ?_
    exact Fin.sum_univ_eq_sum_range (fun k => term x0 x2 x3 x4 x5 m n (512 + k)) 512

end Cert.DownIdeal
-- ==== Proof.DownAcc1.lean ====
/- The down projection's accumulator after its third and fourth step. -/
module

public import proofs.«01_k».proof.Proof.DownAcc0

@[expose] public section

set_option maxRecDepth 16384
set_option maxHeartbeats 1000000

noncomputable section

namespace Cert.DownIdeal

open Idealize.ShloMosaic Idealize.ShloMosaic.TcCoe Idealize.SL.Sem Cert.DownIdeal.Gen Q4

variable (c : Dev nD) (arg5 : Memref sig .tc .vmem S116x256 .bf16) (harg5 : arg5.IsWhole)
  (arg6 : Memref sig .tc .vmem S116x256 .bf16) (harg6 : arg6.IsWhole)
  (arg8 : Memref sig .tc .vmem S2x116x128 .f32) (arg9 : Memref sig .tc .vmem S2x116x128 .f32)
  (x4 x5 : Vec Ideal S116x256 .bf16)
  (arg1 : Memref sig .tc .vmem S128x3712 .bf16) (harg1 : arg1.IsWhole)
  (arg2 : Memref sig .tc .vmem S128x256 .f32) (harg2 : arg2.IsWhole)
  (arg3 : Memref sig .tc .vmem S116x16x128 .i8) (harg3 : arg3.IsWhole)
  (arg4 : Memref sig .tc .vmem S116x16x128 .i8) (harg4 : arg4.IsWhole)
  (x0 : Vec Ideal S128x3712 .bf16) (x1 : Vec Ideal S128x256 .f32) (x2 x3 : Vec Ideal S116x16x128 .i8)

/-- The accumulator after the first 48 groups. -/
theorem acc2 (m : Fin 128) (n : Fin 256) :
    kernelRun0_A.sl.r_283 (F := Ideal) c arg1 harg1 arg3 harg3 arg4 harg4 arg5 harg5 arg6 harg6 arg8 arg9 x0 x2 x3 x4 x5 (ix2 m n)
      = ∑ ρ ∈ Finset.range 1536, term x0 x2 x3 x4 x5 m n ρ := by
  rw [show 1536 = 1024 + 512 from rfl, Finset.sum_range_add, ← acc1 c arg5 harg5 arg6 harg6 arg8 arg9 x4 x5 arg1 harg1 arg3 harg3 arg4 harg4 x0 x2 x3 m n]
  unfold kernelRun0_A.sl.r_283
  unfold k0_pay440
  refine congrArg (_ + ·) ?_
  refine (step512_apply _ (W2 x4 x5 x2 x3) 1024 _ ?h ?r m n).trans ?e
  case r =>
    refine Planes.cons ?_ (Planes.cons ?_ Planes.nil)
    · intro ρ q
      refine concat_rows (K := 512) (W x4 x5 x2 0) 1024 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 512) (W x4 x5 x3 1) 1024 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load512_apply harg1 x0 1024 (by decide) (by decide) m k)).trans ?_
    exact Fin.sum_univ_eq_sum_range (fun k => term x0 x2 x3 x4 x5 m n (1024 + k)) 512

/-- The accumulator after the first 64 groups. -/
theorem acc3 (m : Fin 128) (n : Fin 256) :
    kernelRun0_A.sl.r_371 (F := Ideal) c arg1 harg1 arg3 harg3 arg4 harg4 arg5 harg5 arg6 harg6 arg8 arg9 x0 x2 x3 x4 x5 (ix2 m n)
      = ∑ ρ ∈ Finset.range 2048, term x0 x2 x3 x4 x5 m n ρ := by
  rw [show 2048 = 1536 + 512 from rfl, Finset.sum_range_add, ← acc2 c arg5 harg5 arg6 harg6 arg8 arg9 x4 x5 arg1 harg1 arg3 harg3 arg4 harg4 x0 x2 x3 m n]
  unfold kernelRun0_A.sl.r_371
  unfold k0_pay577
  refine congrArg (_ + ·) ?_
  refine (step512_apply _ (W2 x4 x5 x2 x3) 1536 _ ?h ?r m n).trans ?e
  case r =>
    refine Planes.cons ?_ (Planes.cons ?_ Planes.nil)
    · intro ρ q
      refine concat_rows (K := 512) (W x4 x5 x2 0) 1536 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 512) (W x4 x5 x3 1) 1536 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load512_apply harg1 x0 1536 (by decide) (by decide) m k)).trans ?_
    exact Fin.sum_univ_eq_sum_range (fun k => term x0 x2 x3 x4 x5 m n (1536 + k)) 512

end Cert.DownIdeal
-- ==== Proof.DownAcc2.lean ====
/- The down projection's accumulator after its fifth to seventh step. -/
module

public import proofs.«01_k».proof.Proof.DownAcc1

@[expose] public section

set_option maxRecDepth 16384
set_option maxHeartbeats 1000000

noncomputable section

namespace Cert.DownIdeal

open Idealize.ShloMosaic Idealize.ShloMosaic.TcCoe Idealize.SL.Sem Cert.DownIdeal.Gen Q4

variable (c : Dev nD) (arg5 : Memref sig .tc .vmem S116x256 .bf16) (harg5 : arg5.IsWhole)
  (arg6 : Memref sig .tc .vmem S116x256 .bf16) (harg6 : arg6.IsWhole)
  (arg8 : Memref sig .tc .vmem S2x116x128 .f32) (arg9 : Memref sig .tc .vmem S2x116x128 .f32)
  (x4 x5 : Vec Ideal S116x256 .bf16)
  (arg1 : Memref sig .tc .vmem S128x3712 .bf16) (harg1 : arg1.IsWhole)
  (arg2 : Memref sig .tc .vmem S128x256 .f32) (harg2 : arg2.IsWhole)
  (arg3 : Memref sig .tc .vmem S116x16x128 .i8) (harg3 : arg3.IsWhole)
  (arg4 : Memref sig .tc .vmem S116x16x128 .i8) (harg4 : arg4.IsWhole)
  (x0 : Vec Ideal S128x3712 .bf16) (x1 : Vec Ideal S128x256 .f32) (x2 x3 : Vec Ideal S116x16x128 .i8)

/-- The accumulator after the first 80 groups. -/
theorem acc4 (m : Fin 128) (n : Fin 256) :
    kernelRun0_A.sl.r_469 (F := Ideal) c arg1 harg1 arg3 harg3 arg4 harg4 arg5 harg5 arg6 harg6 arg8 arg9 x0 x2 x3 x4 x5 (ix2 m n)
      = ∑ ρ ∈ Finset.range 2560, term x0 x2 x3 x4 x5 m n ρ := by
  rw [show 2560 = 2048 + 512 from rfl, Finset.sum_range_add, ← acc3 c arg5 harg5 arg6 harg6 arg8 arg9 x4 x5 arg1 harg1 arg3 harg3 arg4 harg4 x0 x2 x3 m n]
  unfold kernelRun0_A.sl.r_469
  unfold k0_pay725
  refine congrArg (_ + ·) ?_
  refine (step512_apply _ (W2 x4 x5 x2 x3) 2048 _ ?h ?r m n).trans ?e
  case r =>
    refine Planes.cons ?_ (Planes.cons ?_ Planes.nil)
    · intro ρ q
      refine concat_rows (K := 512) (W x4 x5 x2 0) 2048 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 512) (W x4 x5 x3 1) 2048 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load512_apply harg1 x0 2048 (by decide) (by decide) m k)).trans ?_
    exact Fin.sum_univ_eq_sum_range (fun k => term x0 x2 x3 x4 x5 m n (2048 + k)) 512

/-- The accumulator after the first 96 groups. -/
theorem acc5 (m : Fin 128) (n : Fin 256) :
    kernelRun0_A.sl.r_557 (F := Ideal) c arg1 harg1 arg3 harg3 arg4 harg4 arg5 harg5 arg6 harg6 arg8 arg9 x0 x2 x3 x4 x5 (ix2 m n)
      = ∑ ρ ∈ Finset.range 3072, term x0 x2 x3 x4 x5 m n ρ := by
  rw [show 3072 = 2560 + 512 from rfl, Finset.sum_range_add, ← acc4 c arg5 harg5 arg6 harg6 arg8 arg9 x4 x5 arg1 harg1 arg3 harg3 arg4 harg4 x0 x2 x3 m n]
  unfold kernelRun0_A.sl.r_557
  unfold k0_pay862
  refine congrArg (_ + ·) ?_
  refine (step512_apply _ (W2 x4 x5 x2 x3) 2560 _ ?h ?r m n).trans ?e
  case r =>
    refine Planes.cons ?_ (Planes.cons ?_ Planes.nil)
    · intro ρ q
      refine concat_rows (K := 512) (W x4 x5 x2 0) 2560 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 512) (W x4 x5 x3 1) 2560 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load512_apply harg1 x0 2560 (by decide) (by decide) m k)).trans ?_
    exact Fin.sum_univ_eq_sum_range (fun k => term x0 x2 x3 x4 x5 m n (2560 + k)) 512

/-- The accumulator after the first 112 groups. -/
theorem acc6 (m : Fin 128) (n : Fin 256) :
    kernelRun0_A.sl.r_655 (F := Ideal) c arg1 harg1 arg3 harg3 arg4 harg4 arg5 harg5 arg6 harg6 arg8 arg9 x0 x2 x3 x4 x5 (ix2 m n)
      = ∑ ρ ∈ Finset.range 3584, term x0 x2 x3 x4 x5 m n ρ := by
  rw [show 3584 = 3072 + 512 from rfl, Finset.sum_range_add, ← acc5 c arg5 harg5 arg6 harg6 arg8 arg9 x4 x5 arg1 harg1 arg3 harg3 arg4 harg4 x0 x2 x3 m n]
  unfold kernelRun0_A.sl.r_655
  unfold k0_pay1010
  refine congrArg (_ + ·) ?_
  refine (step512_apply _ (W2 x4 x5 x2 x3) 3072 _ ?h ?r m n).trans ?e
  case r =>
    refine Planes.cons ?_ (Planes.cons ?_ Planes.nil)
    · intro ρ q
      refine concat_rows (K := 512) (W x4 x5 x2 0) 3072 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 512) (W x4 x5 x3 1) 3072 _ ?_ ?_ ρ q
      try
        show Shape.Concatenates (List.replicate 32 ⟨2, ![16, 128]⟩) ⟨2, ![512, 128]⟩ 0
        decide
      iterate 32
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load512_apply harg1 x0 3072 (by decide) (by decide) m k)).trans ?_
    exact Fin.sum_univ_eq_sum_range (fun k => term x0 x2 x3 x4 x5 m n (3072 + k)) 512

end Cert.DownIdeal
-- ==== Proof.DownBlock.lean ====
/- One block of the down projection: what the kernel's grid point leaves in its block of the result, at an index. -/
module

public import proofs.«01_k».proof.Proof.DownAcc2

@[expose] public section

set_option maxRecDepth 16384
set_option maxHeartbeats 1000000

noncomputable section

namespace Cert.DownIdeal

open Idealize.ShloMosaic Idealize.ShloMosaic.TcCoe Idealize.SL.Sem Cert.DownIdeal.Gen Q4

variable (c : Dev nD) (arg5 : Memref sig .tc .vmem S116x256 .bf16) (harg5 : arg5.IsWhole)
  (arg6 : Memref sig .tc .vmem S116x256 .bf16) (harg6 : arg6.IsWhole)
  (arg8 : Memref sig .tc .vmem S2x116x128 .f32) (arg9 : Memref sig .tc .vmem S2x116x128 .f32)
  (x4 x5 : Vec Ideal S116x256 .bf16)
  (arg1 : Memref sig .tc .vmem S128x3712 .bf16) (harg1 : arg1.IsWhole)
  (arg2 : Memref sig .tc .vmem S128x256 .f32) (harg2 : arg2.IsWhole)
  (arg3 : Memref sig .tc .vmem S116x16x128 .i8) (harg3 : arg3.IsWhole)
  (arg4 : Memref sig .tc .vmem S116x16x128 .i8) (harg4 : arg4.IsWhole)
  (x0 : Vec Ideal S128x3712 .bf16) (x1 : Vec Ideal S128x256 .f32) (x2 x3 : Vec Ideal S116x16x128 .i8)

/-- The load of the whole residual block. -/
theorem load_whole {mA : Memref sig .tc .vmem S128x256 .f32} (hA : mA.IsWhole) (x : Vec Ideal S128x256 .f32)
    (inb : ∀ a, (![0, 0] : Fin 2 → ℕ) a + (![128, 256] : Fin 2 → ℕ) a ≤ (![128, 256] : Fin 2 → ℕ) a)
    (m : Fin 128) (k : Fin 256) :
    View.readAt (Elt Ideal) mA.view (Rect.unit (s := S128x256) ![0, 0] ![128, 256] inb).toLoadRect (hA.unread x) (ix2 m k)
      = x (ix2 m k) := by
  rw [hA.readAt_unread]
  congr 1
  funext a
  apply Fin.ext
  match a with
  | ⟨0, _⟩ => show 0 + 1 * m.val = m.val; omega
  | ⟨1, _⟩ => show 0 + 1 * k.val = k.val; omega

/-- The block's result: the residual plus the contraction over all 116 groups. -/
theorem out_apply (p : grid0.Coords) (arg7 : Memref sig .tc .vmem S128x256 .bf16) (harg7 : arg7.IsWhole) (harg8 : arg8.IsWhole) (harg9 : arg9.IsWhole)
    (m : Fin 128) (n : Fin 256) :
    out0_A_6 (F := Ideal) c p arg1 harg1 arg2 harg2 arg3 harg3 arg4 harg4 arg5 harg5 arg6 harg6 arg7 harg7
        arg8 harg8 arg9 harg9 x0 x1 x2 x3 x4 x5 (ix2 m n)
      = x1 (ix2 m n) + ∑ ρ ∈ Finset.range 3712, term x0 x2 x3 x4 x5 m n ρ := by
  rw [show 3712 = 3584 + 128 from rfl, Finset.sum_range_add, ← acc6 c arg5 harg5 arg6 harg6 arg8 arg9 x4 x5 arg1 harg1 arg3 harg3 arg4 harg4 x0 x2 x3 m n]
  unfold out0_A_6
  delta kernelRun0_A
  refine (congrFun (read_whole (A := 128) (B := 256) _ _ _ _) _).trans ?_
  unfold k0_pay1
  refine congrArg₂ (· + ·) (load_whole harg2 x1 _ m n) (congrArg (_ + ·) ?_)
  refine (step128_apply _ (W2 x4 x5 x2 x3) 3584 _ ?h ?r m n).trans ?e
  case r =>
    refine Planes.cons ?_ (Planes.cons ?_ Planes.nil)
    · intro ρ q
      refine concat_rows (K := 128) (W x4 x5 x2 0) 3584 _ ?_ ?_ ρ q
      try
        show Shape.Concatenates (List.replicate 8 ⟨2, ![16, 128]⟩) ⟨2, ![128, 128]⟩ 0
        decide
      iterate 8
        refine tile_cons c arg5 harg5 arg6 harg6 arg8 arg9 x4 x5 harg3 x2 0 (by decide) (by decide) (by decide) (by decide) (by decide) (by decide) (by decide) (by decide) ?_ ?_
        · rfl
      exact Rows.nil
    · intro ρ q
      refine concat_rows (K := 128) (W x4 x5 x3 1) 3584 _ ?_ ?_ ρ q
      try
        show Shape.Concatenates (List.replicate 8 ⟨2, ![16, 128]⟩) ⟨2, ![128, 128]⟩ 0
        decide
      iterate 8
        refine tile_cons c arg5 harg5 arg6 harg6 arg8 arg9 x4 x5 harg4 x3 1 (by decide) (by decide) (by decide) (by decide) (by decide) (by decide) (by decide) (by decide) ?_ ?_
        · rfl
      exact Rows.nil
  case e =>
    refine (Finset.sum_congr rfl fun k _ => congrArg (· * _) (load128_apply harg1 x0 3584 (by decide) (by decide) m k)).trans ?_
    exact Fin.sum_univ_eq_sum_range (fun k => term x0 x2 x3 x4 x5 m n (3584 + k)) 128

end Cert.DownIdeal
-- ==== Proof.DownValue.lean ====
/- The down projection's result array: at every index the residual plus the quantised linear map. -/
module

public import proofs.«01_k».proof.Proof.DownBlock
public import proofs.«01_k».proof.Proof.Linear
public import Idealize.ShloMosaic.Lib.Pointwise

@[expose] public section

set_option maxRecDepth 16384

noncomputable section

namespace Cert.DownIdeal

open Idealize.ShloMosaic Idealize.ShloMosaic.TcCoe Idealize.SL.Sem Cert.DownIdeal.Gen Cert.DownIdeal.Value Q4

variable (m : (ℓ : Loc nD τ sig) → Buf (Elt Ideal) ℓ) (ρ : Dev nD → PrngReg)

/-- The arguments as arrays. -/
abbrev argO (c : Dev nD) : FVec Ideal S128x3712 .bf16 := m ((c : Thread nD τ).loc main_arg0)
abbrev argX (c : Dev nD) : FVec Ideal S128x8192 .f32 := m ((c : Thread nD τ).loc main_arg1)
abbrev argC (c : Dev nD) : IVec S8192x116x16 8 := m ((c : Thread nD τ).loc main_arg2)
abbrev argS (c : Dev nD) : FVec Ideal S8192x116 .bf16 := m ((c : Thread nD τ).loc main_arg3)
abbrev argZ (c : Dev nD) : FVec Ideal S8192x116 .bf16 := m ((c : Thread nD τ).loc main_arg4)

theorem V_v2 (c : Dev nD) : V m c main_v2 = shapeCast S128x3712 (transpose S128x116x16x2 [0, 1, 3, 2] (shapeCast S128x116x2x16 (argO m c) shapeCasts_S128x3712_S128x116x2x16)
    transposes_S128x116x2x16_S128x116x16x2_0_1_3_2) shapeCasts_S128x116x16x2_S128x3712 := by
  show StableHlo.after hostOps0 _ (Proc.devRef .tc main_v2) = _
  after_results
  rfl

theorem V_v3 (c : Dev nD) : V m c main_v3 = transpose S116x16x8192 [1, 2, 0] (argC m c) transposes_S8192x116x16_S116x16x8192_1_2_0 := by
  show StableHlo.after hostOps0 _ (Proc.devRef .tc main_v3) = _
  after_results

theorem V_v4 (c : Dev nD) : V m c main_v4 = transpose S116x8192 [1, 0] (argS m c) transposes_S8192x116_S116x8192_1_0 := by
  show StableHlo.after hostOps0 _ (Proc.devRef .tc main_v4) = _
  after_results

theorem V_v5 (c : Dev nD) : V m c main_v5 = transpose S116x8192 [1, 0] (argZ m c) transposes_S8192x116_S116x8192_1_0 := by
  show StableHlo.after hostOps0 _ (Proc.devRef .tc main_v5) = _
  after_results

theorem V_v2_apply (c : Dev nD) (r : Fin 128) (k : Fin 3712) : V m c main_v2 (ix2 r k) = act (argO m c) r k.val := by
  rw [V_v2]
  unfold act
  pointwise
  refine congrArg (argO m c) (congrArg (ix2 r) (Fin.ext ?_))
  rw [Fin.val_ofNat, Nat.mod_eq_of_lt (col_lt 116 k.val k.isLt)]
  exact col_eq k.val

theorem V_v3_apply (c : Dev nD) (g : Fin 116) (j : Fin 16) (n : Fin 8192) : V m c main_v3 (ix3 g j n) = argC m c (ix3 n g j) := by
  rw [V_v3]
  pointwise

theorem V_v4_apply (c : Dev nD) (g : Fin 116) (n : Fin 8192) : V m c main_v4 (ix2 g n) = argS m c (ix2 n g) := by
  rw [V_v4]
  pointwise

theorem V_v5_apply (c : Dev nD) (g : Fin 116) (n : Fin 8192) : V m c main_v5 (ix2 g n) = argZ m c (ix2 n g) := by
  rw [V_v5]
  pointwise

/-- Where each window's block lies. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 3) = 0 ∧ win0_2.index t (1 : Fin 3) = 0 ∧ win0_2.index t (2 : Fin 3) = 2 * t.val := (by decide +kernel : ∀ t : Fin grid0.N, _)
theorem idx3 : ∀ t : Fin cfg0.N, win0_3.index t (0 : Fin 3) = 0 ∧ win0_3.index t (1 : Fin 3) = 0 ∧ win0_3.index t (2 : Fin 3) = 2 * t.val + 1 := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)

theorem lt32 (t : Fin cfg0.N) : t.val < 32 := t.isLt

/-- The column of the result that column `n` of point `t`'s block is. -/
def colAt (t : Fin cfg0.N) (n : ℕ) (h : n < 256) : Fin 8192 := ⟨256 * t.val + n, by have := lt32 t; omega⟩

theorem blk0 (c : Dev nD) (t : Fin cfg0.N) (r : Fin 128) (k : Fin 3712) : iblk m c 0 t (ix2 r k) = act (argO m c) r k.val := by
  obtain ⟨e0, e1⟩ := idx0 t
  rw [← V_v2_apply]
  refine congrArg (V m c main_v2) (funext fun a => Fin.ext ?_)
  match a with
  | ⟨0, _⟩ => show win0_0.index t (0 : Fin 2) * 128 + 1 * r.val = r.val; omega
  | ⟨1, _⟩ => show win0_0.index t (1 : Fin 2) * 3712 + 1 * k.val = k.val; omega

theorem blk1 (c : Dev nD) (t : Fin cfg0.N) (r : Fin 128) (n : Fin 256) : iblk m c 1 t (ix2 r n) = argX m c (ix2 r (colAt t n.val n.isLt)) := by
  obtain ⟨e0, e1⟩ := idx1 t
  show V m c main_arg1 _ = _
  rw [V_main_arg1]
  refine congrArg (argX m c) (funext fun a => Fin.ext ?_)
  match a with
  | ⟨0, _⟩ => show win0_1.index t (0 : Fin 2) * 128 + 1 * r.val = r.val; omega
  | ⟨1, _⟩ => show win0_1.index t (1 : Fin 2) * 256 + 1 * n.val = 256 * t.val + n.val; omega

theorem blk2 (c : Dev nD) (t : Fin cfg0.N) (g : Fin 116) (j : Fin 16) (q : Fin 128) : iblk m c 2 t (ix3 g j q) = argC m c (ix3 (colAt t (128 * 0 + q.val) (by omega)) g j) := by
  obtain ⟨e0, e1, e2⟩ := idx2 t
  rw [← V_v3_apply]
  refine congrArg (V m c main_v3) (funext fun a => Fin.ext ?_)
  match a with
  | ⟨0, _⟩ => show win0_2.index t (0 : Fin 3) * 116 + 1 * g.val = g.val; omega
  | ⟨1, _⟩ => show win0_2.index t (1 : Fin 3) * 16 + 1 * j.val = j.val; omega
  | ⟨2, _⟩ => show win0_2.index t (2 : Fin 3) * 128 + 1 * q.val = 256 * t.val + (128 * 0 + q.val); omega

theorem blk3 (c : Dev nD) (t : Fin cfg0.N) (g : Fin 116) (j : Fin 16) (q : Fin 128) : iblk m c 3 t (ix3 g j q) = argC m c (ix3 (colAt t (128 * 1 + q.val) (by omega)) g j) := by
  obtain ⟨e0, e1, e2⟩ := idx3 t
  rw [← V_v3_apply]
  refine congrArg (V m c main_v3) (funext fun a => Fin.ext ?_)
  match a with
  | ⟨0, _⟩ => show win0_3.index t (0 : Fin 3) * 116 + 1 * g.val = g.val; omega
  | ⟨1, _⟩ => show win0_3.index t (1 : Fin 3) * 16 + 1 * j.val = j.val; omega
  | ⟨2, _⟩ => show win0_3.index t (2 : Fin 3) * 128 + 1 * q.val = 256 * t.val + (128 * 1 + q.val); omega

theorem blk4 (c : Dev nD) (t : Fin cfg0.N) (g : Fin 116) (n : Fin 256) : iblk m c 4 t (ix2 g n) = argS m c (ix2 (colAt t n.val n.isLt) g) := by
  obtain ⟨e0, e1⟩ := idx4 t
  rw [← V_v4_apply]
  refine congrArg (V m c main_v4) (funext fun a => Fin.ext ?_)
  match a with
  | ⟨0, _⟩ => show win0_4.index t (0 : Fin 2) * 116 + 1 * g.val = g.val; omega
  | ⟨1, _⟩ => show win0_4.index t (1 : Fin 2) * 256 + 1 * n.val = 256 * t.val + n.val; omega

theorem blk5 (c : Dev nD) (t : Fin cfg0.N) (g : Fin 116) (n : Fin 256) : iblk m c 5 t (ix2 g n) = argZ m c (ix2 (colAt t n.val n.isLt) g) := by
  obtain ⟨e0, e1⟩ := idx5 t
  rw [← V_v5_apply]
  refine congrArg (V m c main_v5) (funext fun a => Fin.ext ?_)
  match a with
  | ⟨0, _⟩ => show win0_5.index t (0 : Fin 2) * 116 + 1 * g.val = g.val; omega
  | ⟨1, _⟩ => show win0_5.index t (1 : Fin 2) * 256 + 1 * n.val = 256 * t.val + n.val; omega

theorem emb6 (t : Fin cfg0.N) (r : Fin 128) (n : Fin 256) : ((cfg0.win 6).blk t).view.emb (ix2 r n) = (ix2 r (colAt t n.val n.isLt) : S128x8192.Idx) := by
  obtain ⟨e0, e1⟩ := idx6 t
  funext a; apply Fin.ext
  match a with
  | ⟨0, _⟩ => show win0_6.index t (0 : Fin 2) * 128 + 1 * r.val = r.val; omega
  | ⟨1, _⟩ => show win0_6.index t (1 : Fin 2) * 256 + 1 * n.val = 256 * t.val + n.val; omega

/-- The weights that the kernel forms at point `t` are the dequantised weights of the result's columns. -/
theorem weights (c : Dev nD) (t : Fin cfg0.N) (n : Fin 256) (k : ℕ) :
    W2 (iblk m c 4 t) (iblk m c 5 t) (iblk m c 2 t) (iblk m c 3 t) (n.val / 128) k ⟨n.val % 128, Nat.mod_lt _ (by decide)⟩
      = wt (argC m c) (argS m c) (argZ m c) (colAt t n.val n.isLt) k := by
  have hn := n.isLt
  have key : ∀ (l : Fin 2) (x : Vec Ideal S116x16x128 .i8), n.val / 128 = l.val →
      (∀ (g : Fin 116) (j : Fin 16) (q : Fin 128), x (ix3 g j q) = argC m c (ix3 (colAt t (128 * l.val + q.val) (by omega)) g j)) →
      W (iblk m c 4 t) (iblk m c 5 t) x l k ⟨n.val % 128, Nat.mod_lt _ (by decide)⟩ = wt (argC m c) (argS m c) (argZ m c) (colAt t n.val n.isLt) k := by
    intro l x hl hx
    unfold W weight bytesOf scaleOf wt
    beta_reduce
    rw [hx, blk4, blk5]
    have e : 128 * l.val + n.val % 128 = n.val := by omega
    simp only [e]
  rcases (by omega : n.val / 128 = 0 ∨ n.val / 128 = 1) with h | h
  · rw [h]; exact key 0 _ h fun g j q => blk2 m c t g j q
  · rw [h]; exact key 1 _ h fun g j q => blk3 m c t g j q

/-- The result array as one function of the arguments. -/
def G (c : Dev nD) : Vec Ideal S128x8192 .bf16 := fun i => argX m c i + linear (argO m c) (argC m c) (argS m c) (argZ m c) (i 0) (i 1)

theorem flushed_eq (c : Dev nD) (t : Fin cfg0.N) :
    (dats m 0 c).flushed 6 t = ((cfg0.win 6).blk t).view.read (Elt Ideal) (G m c) := by
  rw [flushed6_A]
  funext i
  obtain ⟨r, n, rfl⟩ : ∃ (r : Fin 128) (n : Fin 256), i = ix2 r n := ⟨i 0, i 1, by funext a; match a with | ⟨0, _⟩ => rfl | ⟨1, _⟩ => rfl⟩
  show out0_A_6 (F := Ideal) _ _ _ _ _ _ _ _ _ _ _ _ _ _ _ _ _ _ _ _ _ _ _ _ _ _ (ix2 r n) = G m c (((cfg0.win 6).blk t).view.emb (ix2 r n))
  rw [emb6, out_apply, blk1]
  unfold term
  show _ = argX m c _ + linear _ _ _ _ r (colAt t n.val n.isLt)
  refine congrArg _ ?_
  unfold linear
  refine Finset.sum_congr rfl fun k hk => ?_
  have hk' : k < 3712 := Finset.mem_range.mp hk
  rw [weights, blk0, Fin.val_ofNat, Nat.mod_eq_of_lt hk']

theorem covered (i : S128x8192.Idx) : ∃ t : Fin cfg0.N, (cfg0.win 6).flush t = true ∧ i ∈ ((cfg0.win 6).blk t).view.set := by
  obtain ⟨r, n, rfl⟩ : ∃ (r : Fin 128) (n : Fin 8192), i = ix2 r n := ⟨i 0, i 1, by funext a; match a with | ⟨0, _⟩ => rfl | ⟨1, _⟩ => rfl⟩
  have hn := n.isLt
  refine ⟨(⟨n.val / 256, by show _ < 32; omega⟩ : Fin cfg0.N), flush0_6 _, ?_⟩
  have h := ((cfg0.win 6).blk (⟨n.val / 256, by show _ < 32; omega⟩ : Fin cfg0.N)).view.emb_mem_set (ix2 r (⟨n.val % 256, Nat.mod_lt _ (by decide)⟩ : Fin 256))
  rw [emb6] at h
  have e : colAt (⟨n.val / 256, by show _ < 32; omega⟩ : Fin cfg0.N) (n.val % 256) (Nat.mod_lt _ (by decide)) = n :=
    Fin.ext (by show 256 * (n.val / 256) + n.val % 256 = n.val; omega)
  rwa [e] at h

theorem final (c : Dev nD) : (dats m 0 c).arrAt 6 cfg0.N = G m c :=
  (dats m 0 c).arrAt_eq_of_cover 6 (G m c) (fun t _ => flushed_eq m c t) covered

end Cert.DownIdeal
-- ==== Proof.DownRef.lean ====
/- The reference down projection's result at an index. -/
module

public import proofs.«01_k».proof.Proof.Linear
public import proofs.«01_k».proof.Proof.Gen.DownRefIdeal.Run
public import Idealize.ShloMosaic.Lib.Pointwise

@[expose] public section

set_option maxRecDepth 16384

noncomputable section

namespace Cert.DownRefIdeal

open Idealize.ShloMosaic Idealize.ShloMosaic.TcCoe Cert.DownRefIdeal.Gen Q4

/-- The reference's result as a term of its arguments. -/
def value (o : FVec Ideal S128x3712 .bf16) (x : FVec Ideal S128x8192 .f32) (C : IVec S8192x116x16 8) (S Z : FVec Ideal S8192x116 .bf16) : FVec Ideal S128x8192 .bf16 :=
  truncf .bf16 (addf x (addf (Host.dotGeneral dot_S128x116x16_S8192x116x16_S128x8192_12_12_0_0_n_n none (extractStridedSlice S128x116x16 ![0, 0, 0] (shapeCast _ o shapeCasts_S128x3712_S128x116x32) slices_S128x116x32_S128x116x16_0_0_0) (addf (mulf (sitofp .bf16 (andi (extui 32 C natLt_8_32) (broadcastInDim S8192x116x16 ![] bcast_S_S8192x116x16 (constantI S_ 32 15#32)))) (broadcastInDim S8192x116x16 ![0, 1, 2] bcast_S8192x116x1_S8192x116x16_0_1_2 (broadcastInDim S8192x116x1 ![0, 1] bcast_S8192x116_S8192x116x1_0_1 S))) (broadcastInDim S8192x116x16 ![0, 1, 2] bcast_S8192x116x1_S8192x116x16_0_1_2 (broadcastInDim S8192x116x1 ![0, 1] bcast_S8192x116_S8192x116x1_0_1 Z)))) (Host.dotGeneral dot_S128x116x16_S8192x116x16_S128x8192_12_12_0_0_n_n none (extractStridedSlice S128x116x16 ![0, 0, 16] (shapeCast _ o shapeCasts_S128x3712_S128x116x32) slices_S128x116x32_S128x116x16_0_0_16) (addf (mulf (sitofp .bf16 (Host.shrsi (extui 32 C natLt_8_32) (broadcastInDim S8192x116x16 ![] bcast_S_S8192x116x16 (constantI S_ 32 4#32)))) (broadcastInDim S8192x116x16 ![0, 1, 2] bcast_S8192x116x1_S8192x116x16_0_1_2 (broadcastInDim S8192x116x1 ![0, 1] bcast_S8192x116_S8192x116x1_0_1 S))) (broadcastInDim S8192x116x16 ![0, 1, 2] bcast_S8192x116x1_S8192x116x16_0_1_2 (broadcastInDim S8192x116x1 ![0, 1] bcast_S8192x116_S8192x116x1_0_1 Z)))))) bitsLt_bf16_f32

theorem value_apply (o : FVec Ideal S128x3712 .bf16) (x : FVec Ideal S128x8192 .f32) (C : IVec S8192x116x16 8) (S Z : FVec Ideal S8192x116 .bf16) (m : Fin 128) (n : Fin 8192) :
    value o x C S Z (ix2 m n) = x (ix2 m n) + linear o C S Z m n := by
  unfold value
  pointwise
  have h := halves_linear (M := 128) (K := 3712) (N := 8192) (G := 116) (by decide) o C S Z m n (fun g j => by omega) (fun g j => by omega)
  rw [← h]

end Cert.DownRefIdeal
-- ==== Proof.DownClaim.lean ====
/- The down projection: its claims. -/
module

public import proofs.«01_k».proof.Defs
public import proofs.«01_k».proof.Proof.DownValue
public import proofs.«01_k».proof.Proof.DownRef
public import proofs.«01_k».proof.Proof.Gen.Down.Frame

@[expose] public section

noncomputable section

namespace Cert.Proof

open Idealize.ShloMosaic Idealize.ShloMosaic.TcCoe Idealize.SL.Sem

theorem down_frame : Cert.quiescent_Down := fun m ρ _ => Cert.Down.Gen.frame m ρ

theorem downIdeal_frame : Cert.quiescent_DownIdeal := fun m ρ _ => Cert.DownIdeal.Gen.frame m ρ

/-- The reference's run read at its arguments; the program declares no semaphore. -/
theorem downRef_frame : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

/-- The kernel's result array and the reference's are one function of the arguments. -/
theorem down_algebraic : Cert.algebraic_DownIdeal_DownRefIdeal := by
  intro m g m' g' _ hagree
  refine ⟨fun c => Cert.DownIdeal.G m c, ?_, ?_⟩
  · exact (θ_run Cert.DownIdeal.defs _ _).mono (fun r h c => ⟨(h c).1.trans (Cert.DownIdeal.final m c), (h c).2⟩)
      (Cert.DownIdeal.Value.run_blocks m g)
  · refine (θ_run Cert.DownRefIdeal.defs _ _).mono (fun r h c => ⟨(h c).1.trans ?_, (h c).2⟩)
      (Cert.DownRefIdeal.Value.run (F := Ideal) m' g')
    obtain ⟨h0, h1, h2, h3, h4⟩ := hagree c
    rw [h0, h1, h2, h3, h4]
    refine funext fun i => ?_
    obtain ⟨r, n, rfl⟩ : ∃ (r : Fin 128) (n : Fin 8192), i = ix2 r n := ⟨i 0, i 1, by funext a; match a with | ⟨0, _⟩ => rfl | ⟨1, _⟩ => rfl⟩
    exact Cert.DownRefIdeal.value_apply _ _ _ _ _ r n

end Cert.Proof
-- ==== Proof.Words.lean ====
/- Codes that a kernel turns round before it uses them: it bit-casts a block of bytes to 32-bit words, transposes the
   words (they hold the codes of one group of one output column) and stores them in strides into a plane of a scratch array, from where it
   loads eight word rows at a time. The scales and minima are transposed and stored likewise. -/
module

public import proofs.«01_k».proof.Proof.Planes

@[expose] public section

set_option maxRecDepth 16384

noncomputable section

namespace Q4

open Idealize.ShloMosaic

/-- A rectangle of one plane of a three-axis array, as a rectangle of the array. -/
abbrev planeRect {P R : ℕ} (p : ℕ)
    (inb : ∀ a, (![p, 0, 0] : Fin 3 → ℕ) a + (![1, R, 128] : Fin 3 → ℕ) a ≤ (![P, R, 128] : Fin 3 → ℕ) a)
    (r : Rect ⟨2, ![R, 128]⟩) (hst : ∀ a, (Rect.unit (s := ⟨3, ![P, R, 128]⟩) ![p, 0, 0] ![1, R, 128] inb).stride a = 1) :
    Rect ⟨3, ![P, R, 128]⟩ :=
  (Rect.unit (s := ⟨3, ![P, R, 128]⟩) ![p, 0, 0] ![1, R, 128] inb).within (r.consLift ![1, R, 128] rfl (succ_sizes R)) hst

/-- Where an index of the rectangle lies in the array. -/
theorem planeRect_emb {P R : ℕ} (p : ℕ) (inb) (r : Rect ⟨2, ![R, 128]⟩) (hst) (x : (planeRect (P := P) p inb r hst).shape.Idx)
    (z : r.shape.Idx) (hz : ∀ i : Fin 2, (z i).val = (x i.succ).val) :
    ((planeRect (P := P) p inb r hst).emb x 0).val = p ∧ ((planeRect (P := P) p inb r hst).emb x 1).val = (r.emb z 0).val
      ∧ ((planeRect (P := P) p inb r hst).emb x 2).val = (r.emb z 1).val := by
  have x0 : (x 0).val = 0 := by have h : (x 0).val < 1 := (x 0).isLt; omega
  have z0 : (z 0).val = (x 1).val := hz 0
  have z1 : (z 1).val = (x 2).val := hz 1
  refine ⟨?_, ?_, ?_⟩
  · show p + 0 + 1 * (x 0).val = p
    omega
  · show 0 + r.off 0 + r.stride 0 * (x 1).val = r.off 0 + r.stride 0 * (z 0).val
    rw [z0, Nat.zero_add]
  · show 0 + r.off 1 + r.stride 1 * (x 2).val = r.off 1 + r.stride 1 * (z 1).val
    rw [z1, Nat.zero_add]

/-- A store stores `V`: its payload is `V` at the places of the store's rectangle. -/
def Stores {P R : ℕ} {e : EltTy} (V : Fin P → Fin R → Fin 128 → Elt Ideal e) (p : View.Piece (Elt Ideal) ⟨3, ![P, R, 128]⟩ e) : Prop :=
  ∀ x : p.1.shape.Idx, p.2 x = V (p.1.emb x 0) (p.1.emb x 1) (p.1.emb x 2)

/-- A store into the rectangle stores `V`, where its payload is `V` at the rectangle's places. -/
theorem piece_at {α : Type} {P R : ℕ} (V : Fin P → Fin R → Fin 128 → α) (p : ℕ) (hp : p < P) (inb) (r : Rect ⟨2, ![R, 128]⟩) (hst)
    (w : r.shape.Idx → α) (hw : ∀ z, w z = V ⟨p, hp⟩ (r.emb z 0) (r.emb z 1))
    (hR : (planeRect (P := P) p inb r hst).shape.numel = r.shape.numel) (x : (planeRect (P := P) p inb r hst).shape.Idx) :
    Rect.payAlong (R := planeRect (P := P) p inb r hst) hR w x
      = V ((planeRect (P := P) p inb r hst).emb x 0) ((planeRect (P := P) p inb r hst).emb x 1) ((planeRect (P := P) p inb r hst).emb x 2) := by
  have e := Rect.payAlong_consLift (r := r) (sz := ![1, R, 128]) (h0 := rfl) (hs := succ_sizes R) w hR x (Shape.reshapeEquiv hR x)
    (fun i => (r.reshapeEquiv_consLift_succ ![1, R, 128] rfl (succ_sizes R) x i).symm)
  obtain ⟨e0, e1, e2⟩ := planeRect_emb (P := P) p inb r hst x (Shape.reshapeEquiv hR x)
    (fun i => (r.reshapeEquiv_consLift_succ ![1, R, 128] rfl (succ_sizes R) x i).symm)
  refine e.trans ((hw _).trans ?_)
  have f0 : (⟨p, hp⟩ : Fin P) = (planeRect (P := P) p inb r hst).emb x 0 := Fin.ext e0.symm
  have f1 : (r.emb (Shape.reshapeEquiv hR x) 0 : Fin R) = (planeRect (P := P) p inb r hst).emb x 1 := Fin.ext e1.symm
  have f2 : (r.emb (Shape.reshapeEquiv hR x) 1 : Fin 128) = (planeRect (P := P) p inb r hst).emb x 2 := Fin.ext e2.symm
  exact (congrArg (fun u => V u _ _) f0).trans ((congrArg (fun u => V _ u _) f1).trans (congrArg (fun u => V _ _ u) f2))

/-- An index of the array lies in the rectangle, where it is the place of an index of the rectangle. -/
theorem mem_at {P R : ℕ} (p : ℕ) (inb) (r : Rect ⟨2, ![R, 128]⟩) (hst) (y : (⟨3, ![P, R, 128]⟩ : Shape).Idx) (hy : (y 0).val = p)
    (z : r.shape.Idx) (h1 : (r.emb z 0).val = (y 1).val) (h2 : (r.emb z 1).val = (y 2).val) :
    y ∈ (planeRect (P := P) p inb r hst).set := by
  obtain ⟨e0, e1, e2⟩ := planeRect_emb (P := P) p inb r hst (Fin.cons ⟨0, Nat.one_pos⟩ z) z (fun i => rfl)
  have e : (planeRect (P := P) p inb r hst).emb (Fin.cons ⟨0, Nat.one_pos⟩ z) = y := by
    funext a
    apply Fin.ext
    match a with
    | ⟨0, _⟩ => exact e0.trans hy.symm
    | ⟨1, _⟩ => exact e1.trans h1
    | ⟨2, _⟩ => exact e2.trans h2
  rw [← e]
  refine (LoadRect.mem_set _).mpr ?_
  exact fun a => ⟨((Fin.cons ⟨0, Nat.one_pos⟩ z : (planeRect (P := P) p inb r hst).shape.Idx) a).val, ((Fin.cons ⟨0, Nat.one_pos⟩ z : (planeRect (P := P) p inb r hst).shape.Idx) a).isLt, rfl⟩

/-- The word of group `r / 4` and of bytes `4 (r % 4) … 4 (r % 4) + 3` at output column `n` of a block of 128 columns' bytes. -/
def word (y : IVec ⟨3, ![128, 16, 128]⟩ 8) (r : ℕ) (n : Fin 128) : BitVec 32 :=
  bitcast ⟨2, ![512, 128]⟩ 32 (shapeCast ⟨2, ![2048, 128]⟩ y (by decide)) (by decide)
    (ix2 ⟨4 * n.val + r % 4, by omega⟩ ⟨r / 4 % 128, Nat.mod_lt _ (by decide)⟩)

/-- Four bits of a word that are four bits of a byte. -/
theorem bits_half (a : BitVec 32) (b : BitVec 8) (t : ℕ) (h : ∀ i < 4, a.getLsbD (4 * t + i) = b.getLsbD (4 * (t % 2) + i)) :
    a.toNat / 2 ^ (4 * t) % 16 = half b (t % 2) := by
  unfold half
  rw [show 16 ^ (t % 2) = 2 ^ (4 * (t % 2)) from by rw [pow_mul]; norm_num,
    ← Nat.shiftRight_eq_div_pow, ← Nat.shiftRight_eq_div_pow, show (16 : ℕ) = 2 ^ 4 from rfl]
  apply Nat.eq_of_testBit_eq
  intro i
  rw [Nat.testBit_mod_two_pow, Nat.testBit_mod_two_pow, Nat.testBit_shiftRight, Nat.testBit_shiftRight]
  by_cases hi : i < 4
  · simp only [hi, decide_true, Bool.true_and]
    exact h i hi
  · simp [hi]

/-- Code `t` of the word is byte `4 (r % 4) + t / 2`'s code at place `t % 2`. -/
theorem word_code (y : IVec ⟨3, ![128, 16, 128]⟩ 8) (r : ℕ) (n : Fin 128) (t : ℕ) (ht : t < 8) :
    (word y r n).toNat / 2 ^ (4 * t) % 16
      = half (y (ix3 n ⟨4 * (r % 4) + t / 2, by omega⟩ ⟨r / 4 % 128, Nat.mod_lt _ (by decide)⟩)) (t % 2) := by
  refine bits_half _ _ t fun i hi => ?_
  unfold word
  have := bitcast_8_32_getLsbD_ix2 (shapeCast ⟨2, ![2048, 128]⟩ y (by decide)) (by decide) (⟨4 * n.val + r % 4, by omega⟩ : Fin 512)
    (⟨r / 4 % 128, Nat.mod_lt _ (by decide)⟩ : Fin 128) (4 * t + i) (by omega) (⟨4 * (4 * n.val + r % 4) + t / 2, by omega⟩ : Fin 2048)
    (by show 4 * (4 * n.val + r % 4) + t / 2 = 4 * (4 * n.val + r % 4) + (4 * t + i) / 8; omega)
  rw [← ix2_eq_valueIdx, ← ix2_eq_valueIdx] at this
  rw [show (4 * t + i) % 8 = 4 * (t % 2) + i from by omega] at this
  refine this.trans ?_
  refine congrArg (fun b : BitVec 8 => b.getLsbD (4 * (t % 2) + i)) ?_
  pointwise
  have e1 : (⟨(4 * (4 * n.val + r % 4) + t / 2) / 16, by omega⟩ : Fin 128) = n := Fin.ext (by show (4 * (4 * n.val + r % 4) + t / 2) / 16 = n.val; omega)
  have e2 : (⟨(4 * (4 * n.val + r % 4) + t / 2) % 16, by omega⟩ : Fin 16) = ⟨4 * (r % 4) + t / 2, by omega⟩ :=
    Fin.ext (by show (4 * (4 * n.val + r % 4) + t / 2) % 16 = 4 * (r % 4) + t / 2; omega)
  rw [e1, e2]

/-- The words of place `j` in their groups, transposed, as the kernels compute them. -/
def strip (j : ℕ) (X : IVec ⟨3, ![128, 16, 128]⟩ 8) (h : (⟨3, ![128, 4, 128]⟩ : Shape).Slices ![0, j, 0] ⟨3, ![128, 1, 128]⟩) :
    IVec ⟨2, ![128, 128]⟩ 32 :=
  shapeCast ⟨2, ![128, 128]⟩ (transpose ⟨2, ![128, 128]⟩ [1, 0] (shapeCast ⟨2, ![128, 128]⟩ (extractStridedSlice ⟨3, ![128, 1, 128]⟩ ![0, j, 0]
    (shapeCast ⟨3, ![128, 4, 128]⟩ (bitcast ⟨2, ![512, 128]⟩ 32 (shapeCast ⟨2, ![2048, 128]⟩ (shapeCast ⟨3, ![128, 16, 128]⟩ X)) (by decide))) h)))

theorem strip_apply (j : ℕ) (X : IVec ⟨3, ![128, 16, 128]⟩ 8) (h) (o : ℕ) (ho : o % 4 = j) (ho' : o / 4 % 128 = 0) (a n : Fin 128) :
    strip j X h (ix2 a n) = word X (o + 4 * a.val) n := by
  have hj : j < 4 := by omega
  unfold strip word
  pointwise
  refine congrArg _ (congrArg₂ ix2 (Fin.ext ?_) (Fin.ext ?_))
  · show n.val * 4 + j = 4 * n.val + (o + 4 * a.val) % 4
    omega
  · show a.val = (o + 4 * a.val) / 4 % 128
    have := a.isLt
    omega

/-- A load of a whole three-axis block. -/
theorem read_block {sig : RefSig} {A B C : ℕ} {e : EltTy} {m : Memref sig .tc .vmem ⟨3, ![A, B, C]⟩ e} (hm : m.IsWhole)
    (x : Vec Ideal ⟨3, ![A, B, C]⟩ e)
    (inb : ∀ a, (![0, 0, 0] : Fin 3 → ℕ) a + (![A, B, C] : Fin 3 → ℕ) a ≤ (![A, B, C] : Fin 3 → ℕ) a) :
    View.readAt (Elt Ideal) m.view (Rect.unit (s := ⟨3, ![A, B, C]⟩) ![0, 0, 0] ![A, B, C] inb).toLoadRect (hm.unread x) = x := by
  funext i
  rw [hm.readAt_unread]
  congr 1
  funext a
  apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- The rows a strided store of words fills. -/
abbrev wordRect (o : ℕ) (inb : ∀ a, (![128, 128] : Fin 2 → ℕ) a = 0 ∨ (![o, 0] : Fin 2 → ℕ) a + (![4, 1] : Fin 2 → ℕ) a * ((![128, 128] : Fin 2 → ℕ) a - 1) < (![1024, 128] : Fin 2 → ℕ) a)
    (sp : ∀ a, 0 < (![4, 1] : Fin 2 → ℕ) a) : Rect ⟨2, ![1024, 128]⟩ := { off := ![o, 0], size := ![128, 128], stride := ![4, 1], inb := inb, stride_pos := sp }

/-- The words of a part, both of its blocks, by row of the scratch array's plane. -/
def words (blk : Fin 2 → ℕ → IVec ⟨3, ![128, 16, 128]⟩ 8) (p : Fin 2) (r : Fin 1024) (n : Fin 128) : BitVec 32 := word (blk p (r.val / 512)) r.val n

/-- A strided store of words stores `words`. -/
theorem words_piece {sig : RefSig} {m : Memref sig .tc .vmem ⟨3, ![128, 16, 128]⟩ .i8} (hm : m.IsWhole) (blk : Fin 2 → ℕ → IVec ⟨3, ![128, 16, 128]⟩ 8)
    (p : ℕ) (hp : p < 2) (lt : ℕ) (x : Vec Ideal ⟨3, ![128, 16, 128]⟩ .i8) (hx : x = blk ⟨p, hp⟩ lt) (o j : ℕ) (ho : o = 512 * lt + j) (hj : j < 4)
    (inb) (oinb) (osp) (hst) (binb) (h) (w : (wordRect o oinb osp).shape.Idx → BitVec 32)
    (hw : strip j (View.readAt (Elt Ideal) m.view (Rect.unit (s := ⟨3, ![128, 16, 128]⟩) ![0, 0, 0] ![128, 16, 128] binb).toLoadRect (hm.unread x)) h = w)
    (hR : (planeRect (P := 2) p inb (wordRect o oinb osp) hst).shape.numel = (wordRect o oinb osp).shape.numel) :
    Stores (e := .i32) (words blk) ⟨planeRect (P := 2) p inb (wordRect o oinb osp) hst, Rect.payAlong (R := planeRect (P := 2) p inb (wordRect o oinb osp) hst) hR w⟩ := by
  intro i
  refine piece_at (words blk) p hp inb _ hst w (fun z => ?_) hR i
  subst hw
  rw [read_block, hx]
  have hz0 : (z 0).val < 128 := (z 0).isLt
  have e := strip_apply j (blk ⟨p, hp⟩ lt) h o (by omega) (by omega) (z 0) (z 1)
  have ez : z = (ix2 (z 0) (z 1) : (⟨2, ![128, 128]⟩ : Shape).Idx) := by funext a; match a with | ⟨0, _⟩ => rfl | ⟨1, _⟩ => rfl
  refine (congrArg _ ez).trans (e.trans ?_)
  unfold words
  have e0 : ((wordRect o oinb osp).emb z 0).val = o + 4 * (z 0).val := rfl
  have e1 : ((wordRect o oinb osp).emb z 1 : Fin 128) = z 1 := Fin.ext (by show 0 + 1 * (z 1).val = (z 1).val; omega)
  rw [e0, e1, show (o + 4 * (z 0).val) / 512 = lt by omega]

/-- A strided store of words fills the rows of its place. -/
theorem words_mem (p : ℕ) (inb) (o : ℕ) (oinb osp) (hst) (y : (⟨3, ![2, 1024, 128]⟩ : Shape).Idx) (hy : (y 0).val = p)
    (h1 : (y 1).val / 512 = o / 512) (h2 : (y 1).val % 4 = o % 512) : y ∈ (planeRect (P := 2) p inb (wordRect o oinb osp) hst).set := by
  have hy2 : (y 2).val < 128 := (y 2).isLt
  refine mem_at p inb (wordRect o oinb osp) hst y hy (fun a => match a with | ⟨0, _⟩ => (⟨((y 1).val - o) / 4, by show _ < 128; omega⟩ : Fin 128) | ⟨1, _⟩ => (⟨(y 2).val, hy2⟩ : Fin 128)) ?_ ?_
  · show o + 4 * (((y 1).val - o) / 4) = (y 1).val
    omega
  · show 0 + 1 * (y 2).val = (y 2).val
    omega

/-- A transposed half of a block of scales, as the kernels compute it. -/
def scaleStrip (X : FVec Ideal ⟨2, ![128, 128]⟩ .bf16) : FVec Ideal ⟨2, ![128, 128]⟩ .f32 :=
  shapeCast ⟨2, ![128, 128]⟩ (transpose ⟨2, ![128, 128]⟩ [1, 0] (extf (F := Ideal) .f32 X (by decide)))

theorem scaleStrip_apply (X : FVec Ideal ⟨2, ![128, 128]⟩ .bf16) (a n : Fin 128) : scaleStrip X (ix2 a n) = X (ix2 n a) := by
  unfold scaleStrip
  pointwise

/-- The scale of a part at a group and an output column of the part's block. -/
def scales (s : Fin 2 → Vec Ideal ⟨2, ![128, 256]⟩ .bf16) (p : Fin 2) (g : Fin 256) (n : Fin 128) : EReal := s p (ix2 n g)

/-- A store of a transposed half of a block of scales stores `scales`. -/
theorem scales_piece {sig : RefSig} {m : Memref sig .tc .vmem ⟨2, ![128, 256]⟩ .bf16} (hm : m.IsWhole) (s : Fin 2 → Vec Ideal ⟨2, ![128, 256]⟩ .bf16)
    (p : ℕ) (hp : p < 2) (x : Vec Ideal ⟨2, ![128, 256]⟩ .bf16) (hx : x = s ⟨p, hp⟩) (o : ℕ)
    (inb) (oinb : ∀ a, (![o, 0] : Fin 2 → ℕ) a + (![128, 128] : Fin 2 → ℕ) a ≤ (![256, 128] : Fin 2 → ℕ) a) (hst)
    (binb : ∀ a, (![0, o] : Fin 2 → ℕ) a + (![128, 128] : Fin 2 → ℕ) a ≤ (![128, 256] : Fin 2 → ℕ) a)
    (w : (Rect.unit (s := ⟨2, ![256, 128]⟩) ![o, 0] ![128, 128] oinb).shape.Idx → EReal)
    (hw : scaleStrip (View.readAt (Elt Ideal) m.view (Rect.unit (s := ⟨2, ![128, 256]⟩) ![0, o] ![128, 128] binb).toLoadRect (hm.unread x)) = w)
    (hR : (planeRect (P := 2) p inb (Rect.unit (s := ⟨2, ![256, 128]⟩) ![o, 0] ![128, 128] oinb) hst).shape.numel = (Rect.unit (s := ⟨2, ![256, 128]⟩) ![o, 0] ![128, 128] oinb).shape.numel) :
    Stores (e := .f32) (scales s) ⟨planeRect (P := 2) p inb (Rect.unit (s := ⟨2, ![256, 128]⟩) ![o, 0] ![128, 128] oinb) hst, Rect.payAlong (R := planeRect (P := 2) p inb (Rect.unit (s := ⟨2, ![256, 128]⟩) ![o, 0] ![128, 128] oinb) hst) hR w⟩ := by
  intro i
  refine piece_at (scales s) p hp inb _ hst w (fun z => ?_) hR i
  subst hw
  have e := scaleStrip_apply (View.readAt (Elt Ideal) m.view (Rect.unit (s := ⟨2, ![128, 256]⟩) ![0, o] ![128, 128] binb).toLoadRect (hm.unread x)) (z 0) (z 1)
  have ez : z = (ix2 (z 0) (z 1) : (⟨2, ![128, 128]⟩ : Shape).Idx) := by funext a; match a with | ⟨0, _⟩ => rfl | ⟨1, _⟩ => rfl
  refine (congrArg _ ez).trans (e.trans ?_)
  rw [hm.readAt_unread, hx]
  unfold scales
  refine congrArg _ (funext fun a => Fin.ext ?_)
  match a with
  | ⟨0, _⟩ => show 0 + 1 * (z 1).val = 0 + 1 * (z 1).val; rfl
  | ⟨1, _⟩ => show o + 1 * (z 0).val = o + 1 * (z 0).val; rfl

/-- Such a store fills its half of the rows. -/
theorem scales_mem (p : ℕ) (inb) (o : ℕ) (oinb : ∀ a, (![o, 0] : Fin 2 → ℕ) a + (![128, 128] : Fin 2 → ℕ) a ≤ (![256, 128] : Fin 2 → ℕ) a) (hst)
    (y : (⟨3, ![2, 256, 128]⟩ : Shape).Idx) (hy : (y 0).val = p) (h1 : (y 1).val / 128 * 128 = o) :
    y ∈ (planeRect (P := 2) p inb (Rect.unit (s := ⟨2, ![256, 128]⟩) ![o, 0] ![128, 128] oinb) hst).set := by
  have hy2 : (y 2).val < 128 := (y 2).isLt
  refine mem_at p inb (Rect.unit (s := ⟨2, ![256, 128]⟩) ![o, 0] ![128, 128] oinb) hst y hy (fun a => match a with | ⟨0, _⟩ => (⟨(y 1).val - o, by show _ < 128; omega⟩ : Fin 128) | ⟨1, _⟩ => (⟨(y 2).val, hy2⟩ : Fin 128)) ?_ ?_
  · show o + 1 * ((y 1).val - o) = (y 1).val
    omega
  · show 0 + 1 * (y 2).val = (y 2).val
    omega

/-- Eight word rows of one plane of a scratch array that stores filled, read back through a slice of the array. -/
def wordsAt {sig : RefSig} {P G : ℕ} (m : Memref sig .tc .vmem ⟨3, ![P, G, 128]⟩ .i32)
    (L : List (View.Piece (Elt Ideal) ⟨3, ![P, G, 128]⟩ .i32)) (l g : ℕ)
    (inb : ∀ a, (![l, 0, 0] : Fin 3 → ℕ) a + (![1, G, 128] : Fin 3 → ℕ) a ≤ (![P, G, 128] : Fin 3 → ℕ) a)
    (inb' : ∀ a, (![g, 0] : Fin 2 → ℕ) a + (![8, 128] : Fin 2 → ℕ) a ≤ (![G, 128] : Fin 2 → ℕ) a)
    (hst : ∀ a, (Rect.unit (s := ⟨3, ![P, G, 128]⟩) ![l, 0, 0] ![1, G, 128] inb).stride a = 1) : IVec ⟨2, ![8, 128]⟩ 32 :=
  LoadRect.valAlong (lr := (Rect.unit (s := ⟨2, ![G, 128]⟩) ![g, 0] ![8, 128] inb').toLoadRect)
    ((Rect.unit (s := ⟨2, ![G, 128]⟩) ![g, 0] ![8, 128] inb').numel_consLift ![1, G, 128] rfl (succ_sizes G)).symm
    (m.view.readCov L ((Rect.unit (s := ⟨3, ![P, G, 128]⟩) ![l, 0, 0] ![1, G, 128] inb).withinL
      ((Rect.unit (s := ⟨2, ![G, 128]⟩) ![g, 0] ![8, 128] inb').consLift ![1, G, 128] rfl (succ_sizes G)).toLoadRect hst))

theorem wordsAt_apply {sig : RefSig} {P G : ℕ} (m : Memref sig .tc .vmem ⟨3, ![P, G, 128]⟩ .i32)
    (L : List (View.Piece (Elt Ideal) ⟨3, ![P, G, 128]⟩ .i32)) (V : Fin P → Fin G → Fin 128 → BitVec 32)
    (hL : ∀ p ∈ L, ∀ x : p.1.shape.Idx, p.2 x = V (p.1.emb x 0) (p.1.emb x 1) (p.1.emb x 2))
    (hc : ∀ y, ∃ p ∈ L, y ∈ p.1.set) (l g : ℕ) (inb inb' hst) (hl : l < P) (q : Fin 8) (hg : g + q.val < G) (c : Fin 128) :
    wordsAt m L l g inb inb' hst (ix2 q c) = V ⟨l, hl⟩ ⟨g + q.val, hg⟩ c := by
  unfold wordsAt
  rw [View.readCov_eq_canon _ _ _ fun j => hc _]
  refine (View.canon_apply_of_pieces (fun y => V (y 0) (y 1) (y 2)) L hL _ (hc _)).trans ?_
  have hn := (Rect.unit (s := ⟨2, ![G, 128]⟩) ![g, 0] ![8, 128] inb').numel_consLift ![1, G, 128] rfl (succ_sizes G)
  generalize hy : Shape.reshapeEquiv hn.symm (ix2 q c) = y
  have hx : Shape.reshapeEquiv hn y = ix2 q c := by
    rw [← hy, Shape.reshapeEquiv_reshapeEquiv, Shape.reshapeEquiv_self]
  have e := fun i => (Rect.unit (s := ⟨2, ![G, 128]⟩) ![g, 0] ![8, 128] inb').reshapeEquiv_consLift_succ ![1, G, 128] rfl (succ_sizes G) y i
  rw [hx] at e
  have y0 : (y 0).val = 0 := by have : (y 0).val < 1 := (y 0).isLt; omega
  have y1 : (y 1).val = q.val := e 0
  have y2 : (y 2).val = c.val := e 1
  congr 1
  · apply Fin.ext
    show l + 0 + 1 * (y 0).val = l
    omega
  · apply Fin.ext
    show 0 + g + 1 * (y 1).val = g + q.val
    omega
  · apply Fin.ext
    show 0 + 0 + 1 * (y 2).val = c.val
    omega

/-- The code bytes of a part by group, byte and output column. -/
def bytesW (blk : ℕ → IVec ⟨3, ![128, 16, 128]⟩ 8) (g j : ℕ) (n : Fin 128) : BitVec 8 := blk (g / 128) (ix3 n (Fin.ofNat 16 j) (Fin.ofNat 128 g))

/-- Sixteen rows of a concatenation, as a kernel computes them from a scratch array of words and two scratch arrays of scales
    and minima: the weights of those rows. -/
theorem piece_words {sig : RefSig} (mT : Memref sig .tc .vmem ⟨3, ![2, 1024, 128]⟩ .i32) (mS mZ : Memref sig .tc .vmem ⟨3, ![2, 256, 128]⟩ .f32)
    (LT : List (View.Piece (Elt Ideal) ⟨3, ![2, 1024, 128]⟩ .i32)) (LS LZ : List (View.Piece (Elt Ideal) ⟨3, ![2, 256, 128]⟩ .f32))
    (blk : Fin 2 → ℕ → IVec ⟨3, ![128, 16, 128]⟩ 8) (s z : Fin 2 → Vec Ideal ⟨2, ![128, 256]⟩ .bf16)
    (hLT : ∀ p ∈ LT, ∀ x : p.1.shape.Idx, p.2 x = words blk (p.1.emb x 0) (p.1.emb x 1) (p.1.emb x 2))
    (hcT : ∀ y, ∃ p ∈ LT, y ∈ p.1.set)
    (hLS : ∀ p ∈ LS, ∀ x : p.1.shape.Idx, p.2 x = scales s (p.1.emb x 0) (p.1.emb x 1) (p.1.emb x 2))
    (hcS : ∀ y, ∃ p ∈ LS, y ∈ p.1.set)
    (hLZ : ∀ p ∈ LZ, ∀ x : p.1.shape.Idx, p.2 x = scales z (p.1.emb x 0) (p.1.emb x 1) (p.1.emb x 2))
    (hcZ : ∀ y, ∃ p ∈ LZ, y ∈ p.1.set)
    (l b : ℕ) (hl : l < 2) (hb : b % 16 = 0) (hG : b / 32 < 256) (h inbT inbT' hstT inb inb' hst) (r : Fin 16) (c : Fin 128) :
    weight (bytesW (blk ⟨l, hl⟩)) (fun g c => scales s ⟨l, hl⟩ (Fin.ofNat 256 g) c) (fun g c => scales z ⟨l, hl⟩ (Fin.ofNat 256 g) c) (b + r.val) c
      = rows16 (b % 64) (unpack (wordsAt mT LT l (b / 64 * 8) inbT inbT' hstT)) (rowAt mS LS l (b / 32) inb inb' hst)
        (rowAt mZ LZ l (b / 32) inb inb' hst) h (ix2 r c) := by
  symm
  have hr := r.isLt
  have e : Fin.ofNat 256 (b / 32) = ⟨b / 32, hG⟩ := Fin.ext (Nat.mod_eq_of_lt hG)
  rw [rows16_apply _ (by omega), rowAt_apply mS LS (scales s) hLS hcS l _ _ _ _ hl hG, rowAt_apply mZ LZ (scales z) hLZ hcZ l _ _ _ _ hl hG,
    unpack_apply, wordsAt_apply mT LT (words blk) hLT hcT l _ _ _ _ hl _ (by show b / 64 * 8 + (b % 64 + r.val) / 8 < 1024; omega)]
  have e1 : (b + r.val) / 32 = b / 32 := by omega
  unfold weight code bytesW words
  beta_reduce
  rw [e1, e, word_code _ _ _ _ (by omega)]
  have e2 : (b / 64 * 8 + (b % 64 + r.val) / 8) / 512 = b / 32 / 128 := by omega
  have e3 : 4 * ((b / 64 * 8 + (b % 64 + r.val) / 8) % 4) + (b % 64 + r.val) % 8 / 2 = (b + r.val) % 32 / 2 % 16 := by omega
  have e4 : (b / 64 * 8 + (b % 64 + r.val) / 8) / 4 % 128 = b / 32 % 128 := by omega
  have e5 : (b % 64 + r.val) % 8 % 2 = (b + r.val) % 2 := by omega
  have e6 : (Fin.ofNat 16 ((b + r.val) % 32 / 2)) = ⟨(b + r.val) % 32 / 2 % 16, Nat.mod_lt _ (by decide)⟩ := rfl
  have e7 : (Fin.ofNat 128 (b / 32)) = ⟨b / 32 % 128, Nat.mod_lt _ (by decide)⟩ := rfl
  simp only [e2, e3, e4, e5, e6, e7]

end Q4
-- ==== Proof.FfnInTile.lean ====
/- The gate and up projections' weights: what the scratch arrays hold, and sixteen rows of a tile as the kernel computes them. -/
module

public import proofs.«01_k».proof.Proof.Words
public import proofs.«01_k».proof.Proof.Gen.FfnInIdeal.Value

@[expose] public section

set_option maxRecDepth 16384
set_option maxHeartbeats 400000

noncomputable section

namespace Cert.FfnInIdeal

open Idealize.ShloMosaic Idealize.ShloMosaic.TcCoe Idealize.SL.Sem Cert.FfnInIdeal.Gen Q4

/-- The code blocks by part (0: gate, 1: up) and half of the groups. -/
def blkOf (x1 x2 x5 x6 : Vec Ideal S128x16x128 .i8) (p : Fin 2) (lt : ℕ) : IVec S128x16x128 8 :=
  match p, lt with
  | 0, 0 => x1
  | 0, _ => x2
  | 1, 0 => x5
  | 1, _ => x6

/-- The scale blocks by part. -/
def sOf (x3 x7 : Vec Ideal S128x256 .bf16) (p : Fin 2) : Vec Ideal S128x256 .bf16 :=
  match p with
  | 0 => x3
  | 1 => x7

/-- The weights of a block's part `p`. -/
def W (x1 x2 : Vec Ideal S128x16x128 .i8) (x3 x4 : Vec Ideal S128x256 .bf16)
    (x5 x6 : Vec Ideal S128x16x128 .i8) (x7 x8 : Vec Ideal S128x256 .bf16) (p : Fin 2) : ℕ → Fin 128 → EReal :=
  weight (bytesW (blkOf x1 x2 x5 x6 p)) (fun g c => scales (sOf x3 x7) p (Fin.ofNat 256 g) c) (fun g c => scales (sOf x4 x8) p (Fin.ofNat 256 g) c)

/-- The weights of the block, both parts. -/
def W2 (x1 x2 : Vec Ideal S128x16x128 .i8) (x3 x4 : Vec Ideal S128x256 .bf16)
    (x5 x6 : Vec Ideal S128x16x128 .i8) (x7 x8 : Vec Ideal S128x256 .bf16) (p : ℕ) : ℕ → Fin 128 → EReal :=
  match p with
  | 0 => W x1 x2 x3 x4 x5 x6 x7 x8 0
  | _ => W x1 x2 x3 x4 x5 x6 x7 x8 1

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)

/-- Each store into the scratch array of words stores the words of its part. -/
theorem pieces_words : ∀ p ∈ kernelRun0_A.sl.HS0_16 (F := Ideal) c arg2 harg2 arg3 harg3 arg6 harg6 arg7 harg7 x1 x2 x5 x6,
    Stores (e := .i32) (words (blkOf x1 x2 x5 x6)) p := by
  unfold kernelRun0_A.sl.HS0_16 kernelRun0_A.sl.HS0_10 kernelRun0_A.sl.HS0_2 kernelRun0_A.sl.HS0_1
  refine List.forall_mem_cons.mpr ⟨words_piece harg7 (blkOf x1 x2 x5 x6) 1 (by decide) 1 x6 rfl 515 3 rfl (by decide) (by decide) (by decide) (by decide) (by decide) (by decide) (by decide) _ ?_ _, ?_⟩
  · rfl
  refine List.forall_mem_cons.mpr ⟨words_piece harg7 (blkOf x1 x2 x5 x6) 1 (by decide) 1 x6 rfl 514 2 rfl (by decide) (by decide) (by decide) (by decide) (by decide) (by decide) (by decide) _ ?_ _, ?_⟩
  · rfl
  refine List.forall_mem_cons.mpr ⟨words_piece harg7 (blkOf x1 x2 x5 x6) 1 (by decide) 1 x6 rfl 513 1 rfl (by decide) (by decide) (by decide) (by decide) (by decide) (by decide) (by decide) _ ?_ _, ?_⟩
  · rfl
  refine List.forall_mem_cons.mpr ⟨words_piece harg7 (blkOf x1 x2 x5 x6) 1 (by decide) 1 x6 rfl 512 0 rfl (by decide) (by decide) (by decide) (by decide) (by decide) (by decide) (by decide) _ ?_ _, ?_⟩
  · rfl
  refine List.forall_mem_cons.mpr ⟨words_piece harg6 (blkOf x1 x2 x5 x6) 1 (by decide) 0 x5 rfl 3 3 rfl (by decide) (by decide) (by decide) (by decide) (by decide) (by decide) (by decide) _ ?_ _, ?_⟩
  · rfl
  refine List.forall_mem_cons.mpr ⟨words_piece harg6 (blkOf x1 x2 x5 x6) 1 (by decide) 0 x5 rfl 2 2 rfl (by decide) (by decide) (by decide) (by decide) (by decide) (by decide) (by decide) _ ?_ _, ?_⟩
  · rfl
  refine List.forall_mem_cons.mpr ⟨words_piece harg6 (blkOf x1 x2 x5 x6) 1 (by decide) 0 x5 rfl 1 1 rfl (by decide) (by decide) (by decide) (by decide) (by decide) (by decide) (by decide) _ ?_ _, ?_⟩
  · rfl
  refine List.forall_mem_cons.mpr ⟨words_piece harg6 (blkOf x1 x2 x5 x6) 1 (by decide) 0 x5 rfl 0 0 rfl (by decide) (by decide) (by decide) (by decide) (by decide) (by decide) (by decide) _ ?_ _, ?_⟩
  · rfl
  refine List.forall_mem_cons.mpr ⟨words_piece harg3 (blkOf x1 x2 x5 x6) 0 (by decide) 1 x2 rfl 515 3 rfl (by decide) (by decide) (by decide) (by decide) (by decide) (by decide) (by decide) _ ?_ _, ?_⟩
  · rfl
  refine List.forall_mem_cons.mpr ⟨words_piece harg3 (blkOf x1 x2 x5 x6) 0 (by decide) 1 x2 rfl 514 2 rfl (by decide) (by decide) (by decide) (by decide) (by decide) (by decide) (by decide) _ ?_ _, ?_⟩
  · rfl
  refine List.forall_mem_cons.mpr ⟨words_piece harg3 (blkOf x1 x2 x5 x6) 0 (by decide) 1 x2 rfl 513 1 rfl (by decide) (by decide) (by decide) (by decide) (by decide) (by decide) (by decide) _ ?_ _, ?_⟩
  · rfl
  refine List.forall_mem_cons.mpr ⟨words_piece harg3 (blkOf x1 x2 x5 x6) 0 (by decide) 1 x2 rfl 512 0 rfl (by decide) (by decide) (by decide) (by decide) (by decide) (by decide) (by decide) _ ?_ _, ?_⟩
  · rfl
  refine List.forall_mem_cons.mpr ⟨words_piece harg2 (blkOf x1 x2 x5 x6) 0 (by decide) 0 x1 rfl 3 3 rfl (by decide) (by decide) (by decide) (by decide) (by decide) (by decide) (by decide) _ ?_ _, ?_⟩
  · rfl
  refine List.forall_mem_cons.mpr ⟨words_piece harg2 (blkOf x1 x2 x5 x6) 0 (by decide) 0 x1 rfl 2 2 rfl (by decide) (by decide) (by decide) (by decide) (by decide) (by decide) (by decide) _ ?_ _, ?_⟩
  · rfl
  refine List.forall_mem_cons.mpr ⟨words_piece harg2 (blkOf x1 x2 x5 x6) 0 (by decide) 0 x1 rfl 1 1 rfl (by decide) (by decide) (by decide) (by decide) (by decide) (by decide) (by decide) _ ?_ _, ?_⟩
  · rfl
  refine List.forall_mem_cons.mpr ⟨words_piece harg2 (blkOf x1 x2 x5 x6) 0 (by decide) 0 x1 rfl 0 0 rfl (by decide) (by decide) (by decide) (by decide) (by decide) (by decide) (by decide) _ ?_ _, ?_⟩
  · rfl
  exact List.forall_mem_nil _

/-- The stores cover the scratch array of words. -/
theorem cover_words : ∀ y, ∃ p ∈ kernelRun0_A.sl.HS0_16 (F := Ideal) c arg2 harg2 arg3 harg3 arg6 harg6 arg7 harg7 x1 x2 x5 x6, y ∈ p.1.set := by
  intro y
  unfold kernelRun0_A.sl.HS0_16 kernelRun0_A.sl.HS0_10 kernelRun0_A.sl.HS0_2 kernelRun0_A.sl.HS0_1
  have h0 : (y 0).val < 2 := (y 0).isLt
  have h1 : (y 1).val < 1024 := (y 1).isLt
  rcases (by omega : (y 0).val = 0 ∨ (y 0).val = 1) with e | e <;> rcases (by omega : (y 1).val / 512 = 0 ∨ (y 1).val / 512 = 1) with e1 | e1 <;>
    rcases (by omega : (y 1).val % 4 = 0 ∨ (y 1).val % 4 = 1 ∨ (y 1).val % 4 = 2 ∨ (y 1).val % 4 = 3) with e2 | e2 | e2 | e2
  · exact ⟨_, .tail _ (.tail _ (.tail _ (.tail _ (.tail _ (.tail _ (.tail _ (.tail _ (.tail _ (.tail _ (.tail _ (.tail _ (.tail _ (.tail _ (.tail _ (.head _))))))))))))))), words_mem 0 (by decide) 0 (by decide) (by decide) (by decide) y e e1 e2⟩
  · exact ⟨_, .tail _ (.tail _ (.tail _ (.tail _ (.tail _ (.tail _ (.tail _ (.tail _ (.tail _ (.tail _ (.tail _ (.tail _ (.tail _ (.tail _ (.head _)))))))))))))), words_mem 0 (by decide) 1 (by decide) (by decide) (by decide) y e e1 e2⟩
  · exact ⟨_, .tail _ (.tail _ (.tail _ (.tail _ (.tail _ (.tail _ (.tail _ (.tail _ (.tail _ (.tail _ (.tail _ (.tail _ (.tail _ (.head _))))))))))))), words_mem 0 (by decide) 2 (by decide) (by decide) (by decide) y e e1 e2⟩
  · exact ⟨_, .tail _ (.tail _ (.tail _ (.tail _ (.tail _ (.tail _ (.tail _ (.tail _ (.tail _ (.tail _ (.tail _ (.tail _ (.head _)))))))))))), words_mem 0 (by decide) 3 (by decide) (by decide) (by decide) y e e1 e2⟩
  · exact ⟨_, .tail _ (.tail _ (.tail _ (.tail _ (.tail _ (.tail _ (.tail _ (.tail _ (.tail _ (.tail _ (.tail _ (.head _))))))))))), words_mem 0 (by decide) 512 (by decide) (by decide) (by decide) y e e1 e2⟩
  · exact ⟨_, .tail _ (.tail _ (.tail _ (.tail _ (.tail _ (.tail _ (.tail _ (.tail _ (.tail _ (.tail _ (.head _)))))))))), words_mem 0 (by decide) 513 (by decide) (by decide) (by decide) y e e1 e2⟩
  · exact ⟨_, .tail _ (.tail _ (.tail _ (.tail _ (.tail _ (.tail _ (.tail _ (.tail _ (.tail _ (.head _))))))))), words_mem 0 (by decide) 514 (by decide) (by decide) (by decide) y e e1 e2⟩
  · exact ⟨_, .tail _ (.tail _ (.tail _ (.tail _ (.tail _ (.tail _ (.tail _ (.tail _ (.head _)))))))), words_mem 0 (by decide) 515 (by decide) (by decide) (by decide) y e e1 e2⟩
  · exact ⟨_, .tail _ (.tail _ (.tail _ (.tail _ (.tail _ (.tail _ (.tail _ (.head _))))))), words_mem 1 (by decide) 0 (by decide) (by decide) (by decide) y e e1 e2⟩
  · exact ⟨_, .tail _ (.tail _ (.tail _ (.tail _ (.tail _ (.tail _ (.head _)))))), words_mem 1 (by decide) 1 (by decide) (by decide) (by decide) y e e1 e2⟩
  · exact ⟨_, .tail _ (.tail _ (.tail _ (.tail _ (.tail _ (.head _))))), words_mem 1 (by decide) 2 (by decide) (by decide) (by decide) y e e1 e2⟩
  · exact ⟨_, .tail _ (.tail _ (.tail _ (.tail _ (.head _)))), words_mem 1 (by decide) 3 (by decide) (by decide) (by decide) y e e1 e2⟩
  · exact ⟨_, .tail _ (.tail _ (.tail _ (.head _))), words_mem 1 (by decide) 512 (by decide) (by decide) (by decide) y e e1 e2⟩
  · exact ⟨_, .tail _ (.tail _ (.head _)), words_mem 1 (by decide) 513 (by decide) (by decide) (by decide) y e e1 e2⟩
  · exact ⟨_, .tail _ (.head _), words_mem 1 (by decide) 514 (by decide) (by decide) (by decide) y e e1 e2⟩
  · exact ⟨_, .head _, words_mem 1 (by decide) 515 (by decide) (by decide) (by decide) y e e1 e2⟩

/-- Each store into the scratch array of scales stores those of its part. -/
theorem pieces_scale : ∀ p ∈ kernelRun0_A.sl.HS1_4 (F := Ideal) c arg4 harg4 arg8 harg8 x3 x7,
    Stores (e := .f32) (scales (sOf x3 x7)) p := by
  unfold kernelRun0_A.sl.HS1_4
  refine List.forall_mem_cons.mpr ⟨scales_piece harg8 (sOf x3 x7) 1 (by decide) x7 rfl 128 (by decide) (by decide) (by decide) (by decide) _ ?_ _, ?_⟩
  · rfl
  refine List.forall_mem_cons.mpr ⟨scales_piece harg8 (sOf x3 x7) 1 (by decide) x7 rfl 0 (by decide) (by decide) (by decide) (by decide) _ ?_ _, ?_⟩
  · rfl
  refine List.forall_mem_cons.mpr ⟨scales_piece harg4 (sOf x3 x7) 0 (by decide) x3 rfl 128 (by decide) (by decide) (by decide) (by decide) _ ?_ _, ?_⟩
  · rfl
  refine List.forall_mem_cons.mpr ⟨scales_piece harg4 (sOf x3 x7) 0 (by decide) x3 rfl 0 (by decide) (by decide) (by decide) (by decide) _ ?_ _, ?_⟩
  · rfl
  exact List.forall_mem_nil _

/-- The stores cover the scratch array of scales. -/
theorem cover_scale : ∀ y, ∃ p ∈ kernelRun0_A.sl.HS1_4 (F := Ideal) c arg4 harg4 arg8 harg8 x3 x7, y ∈ p.1.set := by
  intro y
  unfold kernelRun0_A.sl.HS1_4
  have h0 : (y 0).val < 2 := (y 0).isLt
  have h1 : (y 1).val < 256 := (y 1).isLt
  rcases (by omega : (y 0).val = 0 ∨ (y 0).val = 1) with e | e <;> rcases (by omega : (y 1).val / 128 * 128 = 0 ∨ (y 1).val / 128 * 128 = 128) with e1 | e1
  · exact ⟨_, .tail _ (.tail _ (.tail _ (.head _))), scales_mem 0 (by decide) 0 (by decide) (by decide) y e e1⟩
  · exact ⟨_, .tail _ (.tail _ (.head _)), scales_mem 0 (by decide) 128 (by decide) (by decide) y e e1⟩
  · exact ⟨_, .tail _ (.head _), scales_mem 1 (by decide) 0 (by decide) (by decide) y e e1⟩
  · exact ⟨_, .head _, scales_mem 1 (by decide) 128 (by decide) (by decide) y e e1⟩

/-- Each store into the scratch array of minima stores those of its part. -/
theorem pieces_min : ∀ p ∈ kernelRun0_A.sl.HS2_4 (F := Ideal) c arg5 harg5 arg9 harg9 x4 x8,
    Stores (e := .f32) (scales (sOf x4 x8)) p := by
  unfold kernelRun0_A.sl.HS2_4
  refine List.forall_mem_cons.mpr ⟨scales_piece harg9 (sOf x4 x8) 1 (by decide) x8 rfl 128 (by decide) (by decide) (by decide) (by decide) _ ?_ _, ?_⟩
  · rfl
  refine List.forall_mem_cons.mpr ⟨scales_piece harg9 (sOf x4 x8) 1 (by decide) x8 rfl 0 (by decide) (by decide) (by decide) (by decide) _ ?_ _, ?_⟩
  · rfl
  refine List.forall_mem_cons.mpr ⟨scales_piece harg5 (sOf x4 x8) 0 (by decide) x4 rfl 128 (by decide) (by decide) (by decide) (by decide) _ ?_ _, ?_⟩
  · rfl
  refine List.forall_mem_cons.mpr ⟨scales_piece harg5 (sOf x4 x8) 0 (by decide) x4 rfl 0 (by decide) (by decide) (by decide) (by decide) _ ?_ _, ?_⟩
  · rfl
  exact List.forall_mem_nil _

/-- The stores cover the scratch array of minima. -/
theorem cover_min : ∀ y, ∃ p ∈ kernelRun0_A.sl.HS2_4 (F := Ideal) c arg5 harg5 arg9 harg9 x4 x8, y ∈ p.1.set := by
  intro y
  unfold kernelRun0_A.sl.HS2_4
  have h0 : (y 0).val < 2 := (y 0).isLt
  have h1 : (y 1).val < 256 := (y 1).isLt
  rcases (by omega : (y 0).val = 0 ∨ (y 0).val = 1) with e | e <;> rcases (by omega : (y 1).val / 128 * 128 = 0 ∨ (y 1).val / 128 * 128 = 128) with e1 | e1
  · exact ⟨_, .tail _ (.tail _ (.tail _ (.head _))), scales_mem 0 (by decide) 0 (by decide) (by decide) y e e1⟩
  · exact ⟨_, .tail _ (.tail _ (.head _)), scales_mem 0 (by decide) 128 (by decide) (by decide) y e e1⟩
  · exact ⟨_, .tail _ (.head _), scales_mem 1 (by decide) 0 (by decide) (by decide) y e e1⟩
  · exact ⟨_, .head _, scales_mem 1 (by decide) 128 (by decide) (by decide) y e e1⟩

/-- Sixteen rows of part `l`, as the kernel computes them. -/
theorem tile_piece (l b : ℕ) (hl : l < 2) (hb : b % 16 = 0) (hG : b / 32 < 256) (h inbT inbT' hstT inb inb' hst) (r : Fin 16) (q : Fin 128) :
    W x1 x2 x3 x4 x5 x6 x7 x8 ⟨l, hl⟩ (b + r.val) q
      = rows16 (b % 64) (unpack (wordsAt arg11 (kernelRun0_A.sl.HS0_16 (F := Ideal) c arg2 harg2 arg3 harg3 arg6 harg6 arg7 harg7 x1 x2 x5 x6) l (b / 64 * 8) inbT inbT' hstT))
          (rowAt arg12 (kernelRun0_A.sl.HS1_4 (F := Ideal) c arg4 harg4 arg8 harg8 x3 x7) l (b / 32) inb inb' hst)
          (rowAt arg13 (kernelRun0_A.sl.HS2_4 (F := Ideal) c arg5 harg5 arg9 harg9 x4 x8) l (b / 32) inb inb' hst) h (ix2 r q) :=
  piece_words arg11 arg12 arg13 _ _ _ _ _ _ (pieces_words c arg2 harg2 arg3 harg3 arg6 harg6 arg7 harg7 x1 x2 x5 x6) (cover_words c arg2 harg2 arg3 harg3 arg6 harg6 arg7 harg7 x1 x2 x5 x6)
    (pieces_scale c arg4 harg4 arg8 harg8 x3 x7) (cover_scale c arg4 harg4 arg8 harg8 x3 x7)
    (pieces_min c arg5 harg5 arg9 harg9 x4 x8) (cover_min c arg5 harg5 arg9 harg9 x4 x8) l b hl hb hG h inbT inbT' hstT inb inb' hst r q

/-- Sixteen rows of part `l` more in front. -/
theorem tile_cons (l : ℕ) {b : ℕ} (hl : l < 2) (hb : b % 16 = 0) (hG : b / 32 < 256) (h inbT inbT' hstT inb inb' hst)
    {y : FVec Ideal S16x128 .bf16} {ps : List ((s : Shape) × (s.Idx → EReal))}
    (e : rows16 (b % 64) (unpack (wordsAt arg11 (kernelRun0_A.sl.HS0_16 (F := Ideal) c arg2 harg2 arg3 harg3 arg6 harg6 arg7 harg7 x1 x2 x5 x6) l (b / 64 * 8) inbT inbT' hstT))
          (rowAt arg12 (kernelRun0_A.sl.HS1_4 (F := Ideal) c arg4 harg4 arg8 harg8 x3 x7) l (b / 32) inb inb' hst)
          (rowAt arg13 (kernelRun0_A.sl.HS2_4 (F := Ideal) c arg5 harg5 arg9 harg9 x4 x8) l (b / 32) inb inb' hst) h = y)
    (hp : Rows (W x1 x2 x3 x4 x5 x6 x7 x8 ⟨l, hl⟩) (b + 16) ps) : Rows (W x1 x2 x3 x4 x5 x6 x7 x8 ⟨l, hl⟩) b (⟨S16x128, y⟩ :: ps) := by
  subst e
  exact Rows.cons (fun r q => tile_piece c arg2 harg2 arg3 harg3 arg4 harg4 arg5 harg5 arg6 harg6 arg7 harg7 arg8 harg8 arg9 harg9 arg11 arg12 arg13 x1 x2 x3 x4 x5 x6 x7 x8 l b hl hb hG h inbT inbT' hstT inb inb' hst r q) hp

end Cert.FfnInIdeal
-- ==== Proof.FfnInDot.lean ====
/- The gate and up projections' contraction by steps: the products, the loads of the left operand, and the term of a row. -/
module

public import proofs.«01_k».proof.Proof.FfnInTile

@[expose] public section

set_option maxRecDepth 16384
set_option maxHeartbeats 400000

noncomputable section

namespace Cert.FfnInIdeal

open Idealize.ShloMosaic Idealize.ShloMosaic.TcCoe Idealize.SL.Sem Cert.FfnInIdeal.Gen Q4

/-- A contraction over 512 columns, at an index. -/
theorem dot512_apply (A : FVec Ideal S128x512 .bf16) (B : FVec Ideal S512x256 .bf16) (m : Fin 128) (n : Fin 256) :
    matmul dot_S128x512_S512x256_S128x256_1_0_0_1_n_n none A B (constant S128x256 .f32 0#32) (ix2 m n)
      = ∑ k : Fin 512, A (ix2 m k) * B (ix2 k n) := by
  pointwise

/-- A load of 512 columns of the left operand. -/
theorem load512_apply {mA : Memref sig .tc .vmem S128x8192 .bf16} (hA : mA.IsWhole) (x : Vec Ideal S128x8192 .bf16) (o : ℕ)
    (inb : ∀ a, (![0, o] : Fin 2 → ℕ) a + (![128, 512] : Fin 2 → ℕ) a ≤ (![128, 8192] : Fin 2 → ℕ) a)
    (h : S128x512.ShapeCasts S128x512) (m : Fin 128) (k : Fin 512) :
    shapeCast S128x512 (View.readAt (Elt Ideal) mA.view (Rect.unit (s := S128x8192) ![0, o] ![128, 512] inb).toLoadRect (hA.unread x)) h (ix2 m k)
      = x (ix2 m (Fin.ofNat 8192 (o + k.val))) := by
  show View.readAt (Elt Ideal) mA.view (Rect.unit (s := S128x8192) ![0, o] ![128, 512] inb).toLoadRect (hA.unread x) (Shape.reshapeEquiv h (ix2 m k)) = _
  rw [Shape.reshapeEquiv_self, hA.readAt_unread]
  congr 1
  funext a
  apply Fin.ext
  have hk : o + k.val < 8192 := by have := inb 1; have := k.isLt; change o + 512 ≤ 8192 at *; omega
  match a with
  | ⟨0, _⟩ => show 0 + 1 * m.val = m.val; omega
  | ⟨1, _⟩ => show o + 1 * k.val = (o + k.val) % 8192; rw [Nat.mod_eq_of_lt hk]; omega

/-- One step of the contraction: the left operand against the two tiles' weights from row `b` on. -/
theorem step512_apply (A : FVec Ideal S128x512 .bf16) (V : ℕ → ℕ → Fin 128 → EReal) (b : ℕ)
    (xs : List ((s : Shape) × (s.Idx → EReal))) (h) (hr : Planes (K := 512) (fun l k q => V l (b + k.val) q) 0 xs) (m : Fin 128) (n : Fin 256) :
    matmul (F := Ideal) (φ₁ := .bf16) (φ₂ := .bf16) dot_S128x512_S512x256_S128x256_1_0_0_1_n_n none A (concatenate S512x256 1 xs h) (constant S128x256 .f32 0#32) (ix2 m n)
      = ∑ k : Fin 512, A (ix2 m k) * V (n.val / 128) (b + k.val) ⟨n.val % 128, Nat.mod_lt _ (by decide)⟩ := by
  rw [dot512_apply]
  refine Finset.sum_congr rfl fun k _ => ?_
  exact congrArg (A (ix2 m k) * ·) (concat_planes (fun l k q => V l (b + k.val) q) xs h hr k n)

/-- The product of the left operand and the weight at row `ρ` of the contraction. -/
def term (x0 : Vec Ideal S128x8192 .bf16) (x1 x2 : Vec Ideal S128x16x128 .i8) (x3 x4 : Vec Ideal S128x256 .bf16)
    (x5 x6 : Vec Ideal S128x16x128 .i8) (x7 x8 : Vec Ideal S128x256 .bf16)
    (m : Fin 128) (n : Fin 256) (ρ : ℕ) : EReal :=
  x0 (ix2 m (Fin.ofNat 8192 ρ)) * W2 x1 x2 x3 x4 x5 x6 x7 x8 (n.val / 128) ρ ⟨n.val % 128, Nat.mod_lt _ (by decide)⟩

end Cert.FfnInIdeal
-- ==== Proof.FfnInAcc0.lean ====
/- The gate and up projections' accumulator, steps 1 to 3. -/
module

public import proofs.«01_k».proof.Proof.FfnInDot

@[expose] public section

set_option maxRecDepth 16384
set_option maxHeartbeats 400000

noncomputable section

namespace Cert.FfnInIdeal

open Idealize.ShloMosaic Idealize.ShloMosaic.TcCoe Idealize.SL.Sem Cert.FfnInIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- The accumulator after the first step. -/
theorem acc0 (m : Fin 128) (n : Fin 256) :
    kernelRun0_A.sl.r_103 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = ∑ ρ ∈ Finset.range 512, term x0 x1 x2 x3 x4 x5 x6 x7 x8 m n (0 + ρ) := by
  refine (step512_apply _ (W2 x1 x2 x3 x4 x5 x6 x7 x8) 0 _ ?h ?r m n).trans ?e
  case r =>
    refine Planes.cons ?_ (Planes.cons ?_ Planes.nil)
    · intro ρ q
      refine concat_rows (K := 512) (W x1 x2 x3 x4 x5 x6 x7 x8 0) 0 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 0 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 0 (by decide) (by decide) m k)).trans ?_
    exact Fin.sum_univ_eq_sum_range (fun k => term x0 x1 x2 x3 x4 x5 x6 x7 x8 m n (0 + k)) 512

/-- Step 2 of the contraction: the accumulator before it, plus its 512 products. -/
theorem acc1 (m : Fin 128) (n : Fin 256) :
    kernelRun0_A.sl.r_194 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_103 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (512 + ρ) := by
  unfold kernelRun0_A.sl.r_194
  unfold k0_pay322
  refine congrArg (_ + ·) ?_
  refine (step512_apply _ (W2 x1 x2 x3 x4 x5 x6 x7 x8) 512 _ ?h ?r m n).trans ?e
  case r =>
    refine Planes.cons ?_ (Planes.cons ?_ Planes.nil)
    · intro ρ q
      refine concat_rows (K := 512) (W x1 x2 x3 x4 x5 x6 x7 x8 0) 512 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 512 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 512 (by decide) (by decide) m k)).trans ?_
    exact Fin.sum_univ_eq_sum_range (fun k => term x0 x1 x2 x3 x4 x5 x6 x7 x8 m n (512 + k)) 512

/-- Step 3 of the contraction: the accumulator before it, plus its 512 products. -/
theorem acc2 (m : Fin 128) (n : Fin 256) :
    kernelRun0_A.sl.r_289 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_194 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (1024 + ρ) := by
  unfold kernelRun0_A.sl.r_289
  unfold k0_pay463
  refine congrArg (_ + ·) ?_
  refine (step512_apply _ (W2 x1 x2 x3 x4 x5 x6 x7 x8) 1024 _ ?h ?r m n).trans ?e
  case r =>
    refine Planes.cons ?_ (Planes.cons ?_ Planes.nil)
    · intro ρ q
      refine concat_rows (K := 512) (W x1 x2 x3 x4 x5 x6 x7 x8 0) 1024 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 1024 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 1024 (by decide) (by decide) m k)).trans ?_
    exact Fin.sum_univ_eq_sum_range (fun k => term x0 x1 x2 x3 x4 x5 x6 x7 x8 m n (1024 + k)) 512

end Cert.FfnInIdeal
-- ==== Proof.FfnInAcc1.lean ====
/- The gate and up projections' accumulator, steps 4 to 6. -/
module

public import proofs.«01_k».proof.Proof.FfnInDot

@[expose] public section

set_option maxRecDepth 16384
set_option maxHeartbeats 400000

noncomputable section

namespace Cert.FfnInIdeal

open Idealize.ShloMosaic Idealize.ShloMosaic.TcCoe Idealize.SL.Sem Cert.FfnInIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 4 of the contraction: the accumulator before it, plus its 512 products. -/
theorem acc3 (m : Fin 128) (n : Fin 256) :
    kernelRun0_A.sl.r_384 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_289 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (1536 + ρ) := by
  unfold kernelRun0_A.sl.r_384
  unfold k0_pay610
  refine congrArg (_ + ·) ?_
  refine (step512_apply _ (W2 x1 x2 x3 x4 x5 x6 x7 x8) 1536 _ ?h ?r m n).trans ?e
  case r =>
    refine Planes.cons ?_ (Planes.cons ?_ Planes.nil)
    · intro ρ q
      refine concat_rows (K := 512) (W x1 x2 x3 x4 x5 x6 x7 x8 0) 1536 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 1536 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 1536 (by decide) (by decide) m k)).trans ?_
    exact Fin.sum_univ_eq_sum_range (fun k => term x0 x1 x2 x3 x4 x5 x6 x7 x8 m n (1536 + k)) 512

/-- Step 5 of the contraction: the accumulator before it, plus its 512 products. -/
theorem acc4 (m : Fin 128) (n : Fin 256) :
    kernelRun0_A.sl.r_479 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_384 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (2048 + ρ) := by
  unfold kernelRun0_A.sl.r_479
  unfold k0_pay758
  refine congrArg (_ + ·) ?_
  refine (step512_apply _ (W2 x1 x2 x3 x4 x5 x6 x7 x8) 2048 _ ?h ?r m n).trans ?e
  case r =>
    refine Planes.cons ?_ (Planes.cons ?_ Planes.nil)
    · intro ρ q
      refine concat_rows (K := 512) (W x1 x2 x3 x4 x5 x6 x7 x8 0) 2048 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 2048 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 2048 (by decide) (by decide) m k)).trans ?_
    exact Fin.sum_univ_eq_sum_range (fun k => term x0 x1 x2 x3 x4 x5 x6 x7 x8 m n (2048 + k)) 512

/-- Step 6 of the contraction: the accumulator before it, plus its 512 products. -/
theorem acc5 (m : Fin 128) (n : Fin 256) :
    kernelRun0_A.sl.r_572 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_479 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (2560 + ρ) := by
  unfold kernelRun0_A.sl.r_572
  unfold k0_pay905
  refine congrArg (_ + ·) ?_
  refine (step512_apply _ (W2 x1 x2 x3 x4 x5 x6 x7 x8) 2560 _ ?h ?r m n).trans ?e
  case r =>
    refine Planes.cons ?_ (Planes.cons ?_ Planes.nil)
    · intro ρ q
      refine concat_rows (K := 512) (W x1 x2 x3 x4 x5 x6 x7 x8 0) 2560 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 2560 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 2560 (by decide) (by decide) m k)).trans ?_
    exact Fin.sum_univ_eq_sum_range (fun k => term x0 x1 x2 x3 x4 x5 x6 x7 x8 m n (2560 + k)) 512

end Cert.FfnInIdeal
-- ==== Proof.FfnInAcc2.lean ====
/- The gate and up projections' accumulator, steps 7 to 9. -/
module

public import proofs.«01_k».proof.Proof.FfnInDot

@[expose] public section

set_option maxRecDepth 16384
set_option maxHeartbeats 400000

noncomputable section

namespace Cert.FfnInIdeal

open Idealize.ShloMosaic Idealize.ShloMosaic.TcCoe Idealize.SL.Sem Cert.FfnInIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 7 of the contraction: the accumulator before it, plus its 512 products. -/
theorem acc6 (m : Fin 128) (n : Fin 256) :
    kernelRun0_A.sl.r_666 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_572 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (3072 + ρ) := by
  unfold kernelRun0_A.sl.r_666
  unfold k0_pay1043
  refine congrArg (_ + ·) ?_
  refine (step512_apply _ (W2 x1 x2 x3 x4 x5 x6 x7 x8) 3072 _ ?h ?r m n).trans ?e
  case r =>
    refine Planes.cons ?_ (Planes.cons ?_ Planes.nil)
    · intro ρ q
      refine concat_rows (K := 512) (W x1 x2 x3 x4 x5 x6 x7 x8 0) 3072 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 3072 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 3072 (by decide) (by decide) m k)).trans ?_
    exact Fin.sum_univ_eq_sum_range (fun k => term x0 x1 x2 x3 x4 x5 x6 x7 x8 m n (3072 + k)) 512

/-- Step 8 of the contraction: the accumulator before it, plus its 512 products. -/
theorem acc7 (m : Fin 128) (n : Fin 256) :
    kernelRun0_A.sl.r_762 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_666 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (3584 + ρ) := by
  unfold kernelRun0_A.sl.r_762
  unfold k0_pay1187
  refine congrArg (_ + ·) ?_
  refine (step512_apply _ (W2 x1 x2 x3 x4 x5 x6 x7 x8) 3584 _ ?h ?r m n).trans ?e
  case r =>
    refine Planes.cons ?_ (Planes.cons ?_ Planes.nil)
    · intro ρ q
      refine concat_rows (K := 512) (W x1 x2 x3 x4 x5 x6 x7 x8 0) 3584 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 3584 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 3584 (by decide) (by decide) m k)).trans ?_
    exact Fin.sum_univ_eq_sum_range (fun k => term x0 x1 x2 x3 x4 x5 x6 x7 x8 m n (3584 + k)) 512

/-- Step 9 of the contraction: the accumulator before it, plus its 512 products. -/
theorem acc8 (m : Fin 128) (n : Fin 256) :
    kernelRun0_A.sl.r_860 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_762 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (4096 + ρ) := by
  unfold kernelRun0_A.sl.r_860
  unfold k0_pay1334
  refine congrArg (_ + ·) ?_
  refine (step512_apply _ (W2 x1 x2 x3 x4 x5 x6 x7 x8) 4096 _ ?h ?r m n).trans ?e
  case r =>
    refine Planes.cons ?_ (Planes.cons ?_ Planes.nil)
    · intro ρ q
      refine concat_rows (K := 512) (W x1 x2 x3 x4 x5 x6 x7 x8 0) 4096 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 4096 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 4096 (by decide) (by decide) m k)).trans ?_
    exact Fin.sum_univ_eq_sum_range (fun k => term x0 x1 x2 x3 x4 x5 x6 x7 x8 m n (4096 + k)) 512

end Cert.FfnInIdeal
-- ==== Proof.FfnInAcc3.lean ====
/- The gate and up projections' accumulator, steps 10 to 12. -/
module

public import proofs.«01_k».proof.Proof.FfnInDot

@[expose] public section

set_option maxRecDepth 16384
set_option maxHeartbeats 400000

noncomputable section

namespace Cert.FfnInIdeal

open Idealize.ShloMosaic Idealize.ShloMosaic.TcCoe Idealize.SL.Sem Cert.FfnInIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 10 of the contraction: the accumulator before it, plus its 512 products. -/
theorem acc9 (m : Fin 128) (n : Fin 256) :
    kernelRun0_A.sl.r_956 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_860 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (4608 + ρ) := by
  unfold kernelRun0_A.sl.r_956
  unfold k0_pay1478
  unfold kernelRun0_A.sl.r_955 kernelRun0_A.sl.r_954
  unfold k0_pay1477
  refine congrArg (_ + ·) ?_
  refine (step512_apply _ (W2 x1 x2 x3 x4 x5 x6 x7 x8) 4608 _ ?h ?r m n).trans ?e
  case r =>
    refine Planes.cons ?_ (Planes.cons ?_ Planes.nil)
    · intro ρ q
      refine concat_rows (K := 512) (W x1 x2 x3 x4 x5 x6 x7 x8 0) 4608 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 4608 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 4608 (by decide) (by decide) m k)).trans ?_
    exact Fin.sum_univ_eq_sum_range (fun k => term x0 x1 x2 x3 x4 x5 x6 x7 x8 m n (4608 + k)) 512

/-- Step 11 of the contraction: the accumulator before it, plus its 512 products. -/
theorem acc10 (m : Fin 128) (n : Fin 256) :
    kernelRun0_A.sl.r_1043 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_956 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (5120 + ρ) := by
  unfold kernelRun0_A.sl.r_1043
  unfold k0_pay1616
  refine congrArg (_ + ·) ?_
  refine (step512_apply _ (W2 x1 x2 x3 x4 x5 x6 x7 x8) 5120 _ ?h ?r m n).trans ?e
  case r =>
    refine Planes.cons ?_ (Planes.cons ?_ Planes.nil)
    · intro ρ q
      refine concat_rows (K := 512) (W x1 x2 x3 x4 x5 x6 x7 x8 0) 5120 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 5120 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 5120 (by decide) (by decide) m k)).trans ?_
    exact Fin.sum_univ_eq_sum_range (fun k => term x0 x1 x2 x3 x4 x5 x6 x7 x8 m n (5120 + k)) 512

/-- Step 12 of the contraction: the accumulator before it, plus its 512 products. -/
theorem acc11 (m : Fin 128) (n : Fin 256) :
    kernelRun0_A.sl.r_1136 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1043 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (5632 + ρ) := by
  unfold kernelRun0_A.sl.r_1136
  unfold k0_pay1761
  refine congrArg (_ + ·) ?_
  refine (step512_apply _ (W2 x1 x2 x3 x4 x5 x6 x7 x8) 5632 _ ?h ?r m n).trans ?e
  case r =>
    refine Planes.cons ?_ (Planes.cons ?_ Planes.nil)
    · intro ρ q
      refine concat_rows (K := 512) (W x1 x2 x3 x4 x5 x6 x7 x8 0) 5632 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 5632 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 5632 (by decide) (by decide) m k)).trans ?_
    exact Fin.sum_univ_eq_sum_range (fun k => term x0 x1 x2 x3 x4 x5 x6 x7 x8 m n (5632 + k)) 512

end Cert.FfnInIdeal
-- ==== Proof.FfnInAcc4.lean ====
/- The gate and up projections' accumulator, steps 13 to 15. -/
module

public import proofs.«01_k».proof.Proof.FfnInDot

@[expose] public section

set_option maxRecDepth 16384
set_option maxHeartbeats 400000

noncomputable section

namespace Cert.FfnInIdeal

open Idealize.ShloMosaic Idealize.ShloMosaic.TcCoe Idealize.SL.Sem Cert.FfnInIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 13 of the contraction: the accumulator before it, plus its 512 products. -/
theorem acc12 (m : Fin 128) (n : Fin 256) :
    kernelRun0_A.sl.r_1229 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1136 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (6144 + ρ) := by
  unfold kernelRun0_A.sl.r_1229
  unfold k0_pay1908
  refine congrArg (_ + ·) ?_
  refine (step512_apply _ (W2 x1 x2 x3 x4 x5 x6 x7 x8) 6144 _ ?h ?r m n).trans ?e
  case r =>
    refine Planes.cons ?_ (Planes.cons ?_ Planes.nil)
    · intro ρ q
      refine concat_rows (K := 512) (W x1 x2 x3 x4 x5 x6 x7 x8 0) 6144 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 6144 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 6144 (by decide) (by decide) m k)).trans ?_
    exact Fin.sum_univ_eq_sum_range (fun k => term x0 x1 x2 x3 x4 x5 x6 x7 x8 m n (6144 + k)) 512

/-- Step 14 of the contraction: the accumulator before it, plus its 512 products. -/
theorem acc13 (m : Fin 128) (n : Fin 256) :
    kernelRun0_A.sl.r_1324 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1229 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (6656 + ρ) := by
  unfold kernelRun0_A.sl.r_1324
  unfold k0_pay2053
  refine congrArg (_ + ·) ?_
  refine (step512_apply _ (W2 x1 x2 x3 x4 x5 x6 x7 x8) 6656 _ ?h ?r m n).trans ?e
  case r =>
    refine Planes.cons ?_ (Planes.cons ?_ Planes.nil)
    · intro ρ q
      refine concat_rows (K := 512) (W x1 x2 x3 x4 x5 x6 x7 x8 0) 6656 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 6656 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 6656 (by decide) (by decide) m k)).trans ?_
    exact Fin.sum_univ_eq_sum_range (fun k => term x0 x1 x2 x3 x4 x5 x6 x7 x8 m n (6656 + k)) 512

/-- Step 15 of the contraction: the accumulator before it, plus its 512 products. -/
theorem acc14 (m : Fin 128) (n : Fin 256) :
    kernelRun0_A.sl.r_1417 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1324 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (7168 + ρ) := by
  unfold kernelRun0_A.sl.r_1417
  unfold k0_pay2192
  refine congrArg (_ + ·) ?_
  refine (step512_apply _ (W2 x1 x2 x3 x4 x5 x6 x7 x8) 7168 _ ?h ?r m n).trans ?e
  case r =>
    refine Planes.cons ?_ (Planes.cons ?_ Planes.nil)
    · intro ρ q
      refine concat_rows (K := 512) (W x1 x2 x3 x4 x5 x6 x7 x8 0) 7168 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 7168 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 7168 (by decide) (by decide) m k)).trans ?_
    exact Fin.sum_univ_eq_sum_range (fun k => term x0 x1 x2 x3 x4 x5 x6 x7 x8 m n (7168 + k)) 512

end Cert.FfnInIdeal
-- ==== Proof.FfnInBlock.lean ====
/- One block of the gate and up projections: what the kernel's grid point leaves in its block of the result, at an index. -/
module

public import proofs.«01_k».proof.Proof.FfnInAcc0
public import proofs.«01_k».proof.Proof.FfnInAcc1
public import proofs.«01_k».proof.Proof.FfnInAcc2
public import proofs.«01_k».proof.Proof.FfnInAcc3
public import proofs.«01_k».proof.Proof.FfnInAcc4
public import proofs.«01_k».proof.Proof.Linear
public import proofs.«01_k».proof.Proof.Planes

@[expose] public section

set_option maxRecDepth 16384
set_option maxHeartbeats 1000000

noncomputable section

namespace Cert.FfnInIdeal

open Idealize.ShloMosaic Idealize.ShloMosaic.TcCoe Idealize.SL.Sem Cert.FfnInIdeal.Gen Q4

/-- The gated product: the logistic unit of the gate, times the up value. -/
def silu (g u : EReal) : EReal := g * Ideal.div 1 (1 + Ideal.exp (-g)) * u

/-- The gated product of the two halves of an accumulator, at an index. -/
theorem gate_of (y : FVec Ideal S128x256 .f32) (f : Fin 256 → EReal) (m : Fin 128) (hf : ∀ q : Fin 256, y (ix2 m q) = f q) (n : Fin 128) (h0 h1) :
    mulf (mulf (extractStridedSlice S128x128 ![0, 0] y h0)
        (divf (broadcast S128x128 (Scalar.ofBits (F := Ideal) .f32 0x3F800000#32)) (addf (broadcast S128x128 (Scalar.ofBits (F := Ideal) .f32 0x3F800000#32))
          (exp (subf (broadcast S128x128 (Scalar.ofBits (F := Ideal) .f32 0x00000000#32)) (extractStridedSlice S128x128 ![0, 0] y h0))))))
      (extractStridedSlice S128x128 ![0, 128] y h1) (ix2 m n)
      = silu (f ⟨n.val, by omega⟩) (f ⟨128 + n.val, by omega⟩) := by
  pointwise
  rw [hf, hf]
  unfold silu
  simp

/-- The lane index that the kernel computes is `col`. -/
theorem lane : ∀ n : Fin 128,
    (Scalar.select (IntOp.cmpi .slt (IntOp.addi (IntOp.addi (IntOp.andi (BitVec.ofNat 32 n.val) 4294967264#32) (IntOp.shrsi .vector (IntOp.andi (BitVec.ofNat 32 n.val) 31#32) 1#32)) (IntOp.shli .vector (IntOp.andi (BitVec.ofNat 32 n.val) 1#32) 4#32)) 0#32)
      (IntOp.addi (IntOp.addi (IntOp.addi (IntOp.andi (BitVec.ofNat 32 n.val) 4294967264#32) (IntOp.shrsi .vector (IntOp.andi (BitVec.ofNat 32 n.val) 31#32) 1#32)) (IntOp.shli .vector (IntOp.andi (BitVec.ofNat 32 n.val) 1#32) 4#32)) 128#32)
      (IntOp.addi (IntOp.addi (IntOp.andi (BitVec.ofNat 32 n.val) 4294967264#32) (IntOp.shrsi .vector (IntOp.andi (BitVec.ofNat 32 n.val) 31#32) 1#32)) (IntOp.shli .vector (IntOp.andi (BitVec.ofNat 32 n.val) 1#32) 4#32))).toNat % 128 = col n.val := by
  decide +kernel

/-- The store's lane order: lane `n` of the block holds column `col n`. -/
theorem pay1_apply (v : FVec Ideal S128x128 .f32) (m n : Fin 128) :
    k0_pay1 (F := Ideal) v (iota .tc S128x128 32 [1] iota_S128x128_d1_w32) k0_pay2334 k0_pay2335 (ix2 m n)
      = v (ix2 m ⟨col n.val, col_lt 4 n.val n.isLt⟩) := by
  unfold k0_pay1 k0_pay2334 k0_pay2335
  pointwise
  refine congrArg v ?_
  funext a
  apply Fin.ext
  match a with
  | ⟨0, _⟩ => rfl
  | ⟨1, _⟩ => exact lane n

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- A sum over 512 rows more. -/
theorem sum_more {s t : EReal} (f : ℕ → EReal) (b : ℕ) (hs : s = t + ∑ ρ ∈ Finset.range 512, f (b + ρ)) (ht : t = ∑ ρ ∈ Finset.range b, f ρ) :
    s = ∑ ρ ∈ Finset.range (b + 512), f ρ := by
  rw [hs, ht, Finset.sum_range_add]

/-- The accumulator before the last step. -/
theorem acc_all (m : Fin 128) (n : Fin 256) :
    kernelRun0_A.sl.r_1417 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = ∑ ρ ∈ Finset.range 7680, term x0 x1 x2 x3 x4 x5 x6 x7 x8 m n ρ := by
  have s0 := acc0 c arg2 harg2 arg3 harg3 arg4 harg4 arg5 harg5 arg6 harg6 arg7 harg7 arg8 harg8 arg9 harg9 arg11 arg12 arg13 x1 x2 x3 x4 x5 x6 x7 x8 arg1 harg1 x0 m n
  simp only [Nat.zero_add] at s0
  have s1 := sum_more _ 512 (acc1 c arg2 harg2 arg3 harg3 arg4 harg4 arg5 harg5 arg6 harg6 arg7 harg7 arg8 harg8 arg9 harg9 arg11 arg12 arg13 x1 x2 x3 x4 x5 x6 x7 x8 arg1 harg1 x0 m n) s0
  have s2 := sum_more _ 1024 (acc2 c arg2 harg2 arg3 harg3 arg4 harg4 arg5 harg5 arg6 harg6 arg7 harg7 arg8 harg8 arg9 harg9 arg11 arg12 arg13 x1 x2 x3 x4 x5 x6 x7 x8 arg1 harg1 x0 m n) s1
  have s3 := sum_more _ 1536 (acc3 c arg2 harg2 arg3 harg3 arg4 harg4 arg5 harg5 arg6 harg6 arg7 harg7 arg8 harg8 arg9 harg9 arg11 arg12 arg13 x1 x2 x3 x4 x5 x6 x7 x8 arg1 harg1 x0 m n) s2
  have s4 := sum_more _ 2048 (acc4 c arg2 harg2 arg3 harg3 arg4 harg4 arg5 harg5 arg6 harg6 arg7 harg7 arg8 harg8 arg9 harg9 arg11 arg12 arg13 x1 x2 x3 x4 x5 x6 x7 x8 arg1 harg1 x0 m n) s3
  have s5 := sum_more _ 2560 (acc5 c arg2 harg2 arg3 harg3 arg4 harg4 arg5 harg5 arg6 harg6 arg7 harg7 arg8 harg8 arg9 harg9 arg11 arg12 arg13 x1 x2 x3 x4 x5 x6 x7 x8 arg1 harg1 x0 m n) s4
  have s6 := sum_more _ 3072 (acc6 c arg2 harg2 arg3 harg3 arg4 harg4 arg5 harg5 arg6 harg6 arg7 harg7 arg8 harg8 arg9 harg9 arg11 arg12 arg13 x1 x2 x3 x4 x5 x6 x7 x8 arg1 harg1 x0 m n) s5
  have s7 := sum_more _ 3584 (acc7 c arg2 harg2 arg3 harg3 arg4 harg4 arg5 harg5 arg6 harg6 arg7 harg7 arg8 harg8 arg9 harg9 arg11 arg12 arg13 x1 x2 x3 x4 x5 x6 x7 x8 arg1 harg1 x0 m n) s6
  have s8 := sum_more _ 4096 (acc8 c arg2 harg2 arg3 harg3 arg4 harg4 arg5 harg5 arg6 harg6 arg7 harg7 arg8 harg8 arg9 harg9 arg11 arg12 arg13 x1 x2 x3 x4 x5 x6 x7 x8 arg1 harg1 x0 m n) s7
  have s9 := sum_more _ 4608 (acc9 c arg2 harg2 arg3 harg3 arg4 harg4 arg5 harg5 arg6 harg6 arg7 harg7 arg8 harg8 arg9 harg9 arg11 arg12 arg13 x1 x2 x3 x4 x5 x6 x7 x8 arg1 harg1 x0 m n) s8
  have s10 := sum_more _ 5120 (acc10 c arg2 harg2 arg3 harg3 arg4 harg4 arg5 harg5 arg6 harg6 arg7 harg7 arg8 harg8 arg9 harg9 arg11 arg12 arg13 x1 x2 x3 x4 x5 x6 x7 x8 arg1 harg1 x0 m n) s9
  have s11 := sum_more _ 5632 (acc11 c arg2 harg2 arg3 harg3 arg4 harg4 arg5 harg5 arg6 harg6 arg7 harg7 arg8 harg8 arg9 harg9 arg11 arg12 arg13 x1 x2 x3 x4 x5 x6 x7 x8 arg1 harg1 x0 m n) s10
  have s12 := sum_more _ 6144 (acc12 c arg2 harg2 arg3 harg3 arg4 harg4 arg5 harg5 arg6 harg6 arg7 harg7 arg8 harg8 arg9 harg9 arg11 arg12 arg13 x1 x2 x3 x4 x5 x6 x7 x8 arg1 harg1 x0 m n) s11
  have s13 := sum_more _ 6656 (acc13 c arg2 harg2 arg3 harg3 arg4 harg4 arg5 harg5 arg6 harg6 arg7 harg7 arg8 harg8 arg9 harg9 arg11 arg12 arg13 x1 x2 x3 x4 x5 x6 x7 x8 arg1 harg1 x0 m n) s12
  have s14 := sum_more _ 7168 (acc14 c arg2 harg2 arg3 harg3 arg4 harg4 arg5 harg5 arg6 harg6 arg7 harg7 arg8 harg8 arg9 harg9 arg11 arg12 arg13 x1 x2 x3 x4 x5 x6 x7 x8 arg1 harg1 x0 m n) s13
  exact s14

/-- The gated product before the store's lane order. -/
theorem gated (m n : Fin 128) :
    kernelRun0_A.sl.r_1511 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = silu (∑ ρ ∈ Finset.range 8192, term x0 x1 x2 x3 x4 x5 x6 x7 x8 m ⟨n.val, by omega⟩ ρ) (∑ ρ ∈ Finset.range 8192, term x0 x1 x2 x3 x4 x5 x6 x7 x8 m ⟨128 + n.val, by omega⟩ ρ) := by
  unfold kernelRun0_A.sl.r_1511
  unfold k0_pay2333
  refine gate_of _ (fun q => ∑ ρ ∈ Finset.range 8192, term x0 x1 x2 x3 x4 x5 x6 x7 x8 m q ρ) m (fun n => ?_) n _ _
  refine sum_more (fun ρ => term x0 x1 x2 x3 x4 x5 x6 x7 x8 m n ρ) 7680 ?_ (acc_all c arg2 harg2 arg3 harg3 arg4 harg4 arg5 harg5 arg6 harg6 arg7 harg7 arg8 harg8 arg9 harg9 arg11 arg12 arg13 x1 x2 x3 x4 x5 x6 x7 x8 arg1 harg1 x0 m n)
  refine congrArg (_ + ·) ?_
  refine (step512_apply _ (W2 x1 x2 x3 x4 x5 x6 x7 x8) 7680 _ ?h ?r m n).trans ?e
  case r =>
    refine Planes.cons ?_ (Planes.cons ?_ Planes.nil)
    · intro ρ q
      refine concat_rows (K := 512) (W x1 x2 x3 x4 x5 x6 x7 x8 0) 7680 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 7680 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 7680 (by decide) (by decide) m k)).trans ?_
    exact Fin.sum_univ_eq_sum_range (fun k => term x0 x1 x2 x3 x4 x5 x6 x7 x8 m n (7680 + k)) 512

/-- The block's result: the gated product of the contractions over all 256 groups, in the store's lane order. -/
theorem out_apply (p : grid0.Coords) (arg10 : Memref sig .tc .vmem S128x128 .bf16) (harg10 : arg10.IsWhole)
    (harg11 : arg11.IsWhole) (harg12 : arg12.IsWhole) (harg13 : arg13.IsWhole) (m n : Fin 128) :
    out0_A_9 (F := Ideal) c p arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 m n)
      = silu (∑ ρ ∈ Finset.range 8192, term x0 x1 x2 x3 x4 x5 x6 x7 x8 m ⟨col n.val, lt_trans (col_lt 4 n.val n.isLt) (by decide)⟩ ρ)
          (∑ ρ ∈ Finset.range 8192, term x0 x1 x2 x3 x4 x5 x6 x7 x8 m ⟨128 + col n.val, Nat.add_lt_add_left (col_lt 4 n.val n.isLt) 128⟩ ρ) := by
  unfold out0_A_9
  delta kernelRun0_A
  refine (congrFun (read_whole (A := 128) (B := 128) _ _ _ _) _).trans ?_
  refine (pay1_apply _ m n).trans ?_
  exact gated c arg2 harg2 arg3 harg3 arg4 harg4 arg5 harg5 arg6 harg6 arg7 harg7 arg8 harg8 arg9 harg9 arg11 arg12 arg13 x1 x2 x3 x4 x5 x6 x7 x8 arg1 harg1 x0 m _

end Cert.FfnInIdeal
-- ==== Proof.FfnInValue.lean ====
/- The gate and up projections' result array: at every index the gated product of the two quantised linear maps. -/
module

public import proofs.«01_k».proof.Proof.FfnInBlock
public import proofs.«01_k».proof.Proof.Linear
public import Idealize.ShloMosaic.Lib.Pointwise

@[expose] public section

set_option maxRecDepth 16384

noncomputable section

namespace Cert.FfnInIdeal

open Idealize.ShloMosaic Idealize.ShloMosaic.TcCoe Idealize.SL.Sem Cert.FfnInIdeal.Gen Cert.FfnInIdeal.Value Q4

variable (m : (ℓ : Loc nD τ sig) → Buf (Elt Ideal) ℓ) (ρ : Dev nD → PrngReg)

/-- The arguments as arrays. -/
abbrev argH (c : Dev nD) : FVec Ideal S128x8192 .bf16 := m ((c : Thread nD τ).loc main_arg0)
abbrev argCg (c : Dev nD) : IVec S3712x256x16 8 := m ((c : Thread nD τ).loc main_arg1)
abbrev argSg (c : Dev nD) : FVec Ideal S3712x256 .bf16 := m ((c : Thread nD τ).loc main_arg2)
abbrev argZg (c : Dev nD) : FVec Ideal S3712x256 .bf16 := m ((c : Thread nD τ).loc main_arg3)
abbrev argCu (c : Dev nD) : IVec S3712x256x16 8 := m ((c : Thread nD τ).loc main_arg4)
abbrev argSu (c : Dev nD) : FVec Ideal S3712x256 .bf16 := m ((c : Thread nD τ).loc main_arg5)
abbrev argZu (c : Dev nD) : FVec Ideal S3712x256 .bf16 := m ((c : Thread nD τ).loc main_arg6)

theorem V_v2 (c : Dev nD) : V m c main_v2 = shapeCast S128x8192 (transpose S128x256x16x2 [0, 1, 3, 2] (shapeCast S128x256x2x16 (argH m c) shapeCasts_S128x8192_S128x256x2x16)
    transposes_S128x256x2x16_S128x256x16x2_0_1_3_2) shapeCasts_S128x256x16x2_S128x8192 := by
  show StableHlo.after hostOps0 _ (Proc.devRef .tc main_v2) = _
  after_results
  rfl

theorem V_v3 (c : Dev nD) : V m c main_v3 = transpose S3712x16x256 [0, 2, 1] (argCg m c) transposes_S3712x256x16_S3712x16x256_0_2_1 := by
  show StableHlo.after hostOps0 _ (Proc.devRef .tc main_v3) = _
  after_results

theorem V_v4 (c : Dev nD) : V m c main_v4 = transpose S3712x16x256 [0, 2, 1] (argCu m c) transposes_S3712x256x16_S3712x16x256_0_2_1 := by
  show StableHlo.after hostOps0 _ (Proc.devRef .tc main_v4) = _
  after_results

theorem V_v2_apply (c : Dev nD) (r : Fin 128) (k : Fin 8192) : V m c main_v2 (ix2 r k) = act (argH m c) r k.val := by
  rw [V_v2]
  unfold act
  pointwise
  refine congrArg (argH m c) (congrArg (ix2 r) (Fin.ext ?_))
  rw [Fin.val_ofNat, Nat.mod_eq_of_lt (col_lt 256 k.val k.isLt)]
  exact col_eq k.val

theorem V_v3_apply (c : Dev nD) (n : Fin 3712) (j : Fin 16) (g : Fin 256) : V m c main_v3 (ix3 n j g) = argCg m c (ix3 n g j) := by
  rw [V_v3]
  pointwise

theorem V_v4_apply (c : Dev nD) (n : Fin 3712) (j : Fin 16) (g : Fin 256) : V m c main_v4 (ix3 n j g) = argCu m c (ix3 n g j) := by
  rw [V_v4]
  pointwise

/-- Where each window's block lies. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 := (by decide +kernel : ∀ t : Fin grid0.N, _)
theorem idx2 : ∀ t : Fin cfg0.N, win0_2.index t (0 : Fin 3) = t.val ∧ win0_2.index t (1 : Fin 3) = 0 ∧ win0_2.index t (2 : Fin 3) = 1 := (by decide +kernel : ∀ t : Fin grid0.N, _)
theorem idx5 : ∀ t : Fin cfg0.N, win0_5.index t (0 : Fin 3) = t.val ∧ win0_5.index t (1 : Fin 3) = 0 ∧ win0_5.index t (2 : Fin 3) = 0 := (by decide +kernel : ∀ t : Fin grid0.N, _)
theorem idx6 : ∀ t : Fin cfg0.N, win0_6.index t (0 : Fin 3) = t.val ∧ win0_6.index t (1 : Fin 3) = 0 ∧ win0_6.index t (2 : Fin 3) = 1 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = 0 ∧ win0_9.index t (1 : Fin 2) = t.val := (by decide +kernel : ∀ t : Fin grid0.N, _)

theorem lt29 (t : Fin cfg0.N) : t.val < 29 := t.isLt

/-- The column of the linear maps that column `n` of point `t`'s block is. -/
def colAt (t : Fin cfg0.N) (n : ℕ) (h : n < 128) : Fin 3712 := ⟨128 * t.val + n, by have := lt29 t; omega⟩

theorem blk0 (c : Dev nD) (t : Fin cfg0.N) (r : Fin 128) (k : Fin 8192) : iblk m c 0 t (ix2 r k) = act (argH m c) r k.val := by
  obtain ⟨e0, e1⟩ := idx0 t
  rw [← V_v2_apply]
  refine congrArg (V m c main_v2) (funext fun a => Fin.ext ?_)
  match a with
  | ⟨0, _⟩ => show win0_0.index t (0 : Fin 2) * 128 + 1 * r.val = r.val; omega
  | ⟨1, _⟩ => show win0_0.index t (1 : Fin 2) * 8192 + 1 * k.val = k.val; omega

theorem blk1 (c : Dev nD) (t : Fin cfg0.N) (n : Fin 128) (j : Fin 16) (g : Fin 128) :
    iblk m c 1 t (ix3 n j g) = argCg m c (ix3 (colAt t n.val n.isLt) ⟨128 * 0 + g.val, by omega⟩ j) := by
  obtain ⟨e0, e1, e2⟩ := idx1 t
  rw [← V_v3_apply]
  refine congrArg (V m c main_v3) (funext fun a => Fin.ext ?_)
  match a with
  | ⟨0, _⟩ => show win0_1.index t (0 : Fin 3) * 128 + 1 * n.val = 128 * t.val + n.val; omega
  | ⟨1, _⟩ => show win0_1.index t (1 : Fin 3) * 16 + 1 * j.val = j.val; omega
  | ⟨2, _⟩ => show win0_1.index t (2 : Fin 3) * 128 + 1 * g.val = 128 * 0 + g.val; omega

theorem blk2 (c : Dev nD) (t : Fin cfg0.N) (n : Fin 128) (j : Fin 16) (g : Fin 128) :
    iblk m c 2 t (ix3 n j g) = argCg m c (ix3 (colAt t n.val n.isLt) ⟨128 * 1 + g.val, by omega⟩ j) := by
  obtain ⟨e0, e1, e2⟩ := idx2 t
  rw [← V_v3_apply]
  refine congrArg (V m c main_v3) (funext fun a => Fin.ext ?_)
  match a with
  | ⟨0, _⟩ => show win0_2.index t (0 : Fin 3) * 128 + 1 * n.val = 128 * t.val + n.val; omega
  | ⟨1, _⟩ => show win0_2.index t (1 : Fin 3) * 16 + 1 * j.val = j.val; omega
  | ⟨2, _⟩ => show win0_2.index t (2 : Fin 3) * 128 + 1 * g.val = 128 * 1 + g.val; omega

theorem blk5 (c : Dev nD) (t : Fin cfg0.N) (n : Fin 128) (j : Fin 16) (g : Fin 128) :
    iblk m c 5 t (ix3 n j g) = argCu m c (ix3 (colAt t n.val n.isLt) ⟨128 * 0 + g.val, by omega⟩ j) := by
  obtain ⟨e0, e1, e2⟩ := idx5 t
  rw [← V_v4_apply]
  refine congrArg (V m c main_v4) (funext fun a => Fin.ext ?_)
  match a with
  | ⟨0, _⟩ => show win0_5.index t (0 : Fin 3) * 128 + 1 * n.val = 128 * t.val + n.val; omega
  | ⟨1, _⟩ => show win0_5.index t (1 : Fin 3) * 16 + 1 * j.val = j.val; omega
  | ⟨2, _⟩ => show win0_5.index t (2 : Fin 3) * 128 + 1 * g.val = 128 * 0 + g.val; omega

theorem blk6 (c : Dev nD) (t : Fin cfg0.N) (n : Fin 128) (j : Fin 16) (g : Fin 128) :
    iblk m c 6 t (ix3 n j g) = argCu m c (ix3 (colAt t n.val n.isLt) ⟨128 * 1 + g.val, by omega⟩ j) := by
  obtain ⟨e0, e1, e2⟩ := idx6 t
  rw [← V_v4_apply]
  refine congrArg (V m c main_v4) (funext fun a => Fin.ext ?_)
  match a with
  | ⟨0, _⟩ => show win0_6.index t (0 : Fin 3) * 128 + 1 * n.val = 128 * t.val + n.val; omega
  | ⟨1, _⟩ => show win0_6.index t (1 : Fin 3) * 16 + 1 * j.val = j.val; omega
  | ⟨2, _⟩ => show win0_6.index t (2 : Fin 3) * 128 + 1 * g.val = 128 * 1 + g.val; omega

theorem blk3 (c : Dev nD) (t : Fin cfg0.N) (n : Fin 128) (g : Fin 256) : iblk m c 3 t (ix2 n g) = argSg m c (ix2 (colAt t n.val n.isLt) g) := by
  obtain ⟨e0, e1⟩ := idx3 t
  show V m c main_arg2 _ = _
  rw [V_main_arg2]
  refine congrArg (argSg m c) (funext fun a => Fin.ext ?_)
  match a with
  | ⟨0, _⟩ => show win0_3.index t (0 : Fin 2) * 128 + 1 * n.val = 128 * t.val + n.val; omega
  | ⟨1, _⟩ => show win0_3.index t (1 : Fin 2) * 256 + 1 * g.val = g.val; omega

theorem blk4 (c : Dev nD) (t : Fin cfg0.N) (n : Fin 128) (g : Fin 256) : iblk m c 4 t (ix2 n g) = argZg m c (ix2 (colAt t n.val n.isLt) g) := by
  obtain ⟨e0, e1⟩ := idx4 t
  show V m c main_arg3 _ = _
  rw [V_main_arg3]
  refine congrArg (argZg m c) (funext fun a => Fin.ext ?_)
  match a with
  | ⟨0, _⟩ => show win0_4.index t (0 : Fin 2) * 128 + 1 * n.val = 128 * t.val + n.val; omega
  | ⟨1, _⟩ => show win0_4.index t (1 : Fin 2) * 256 + 1 * g.val = g.val; omega

theorem blk7 (c : Dev nD) (t : Fin cfg0.N) (n : Fin 128) (g : Fin 256) : iblk m c 7 t (ix2 n g) = argSu m c (ix2 (colAt t n.val n.isLt) g) := by
  obtain ⟨e0, e1⟩ := idx7 t
  show V m c main_arg5 _ = _
  rw [V_main_arg5]
  refine congrArg (argSu m c) (funext fun a => Fin.ext ?_)
  match a with
  | ⟨0, _⟩ => show win0_7.index t (0 : Fin 2) * 128 + 1 * n.val = 128 * t.val + n.val; omega
  | ⟨1, _⟩ => show win0_7.index t (1 : Fin 2) * 256 + 1 * g.val = g.val; omega

theorem blk8 (c : Dev nD) (t : Fin cfg0.N) (n : Fin 128) (g : Fin 256) : iblk m c 8 t (ix2 n g) = argZu m c (ix2 (colAt t n.val n.isLt) g) := by
  obtain ⟨e0, e1⟩ := idx8 t
  show V m c main_arg6 _ = _
  rw [V_main_arg6]
  refine congrArg (argZu m c) (funext fun a => Fin.ext ?_)
  match a with
  | ⟨0, _⟩ => show win0_8.index t (0 : Fin 2) * 128 + 1 * n.val = 128 * t.val + n.val; omega
  | ⟨1, _⟩ => show win0_8.index t (1 : Fin 2) * 256 + 1 * g.val = g.val; omega

theorem emb9 (t : Fin cfg0.N) (r n : Fin 128) : ((cfg0.win 9).blk t).view.emb (ix2 r n) = (ix2 r (colAt t n.val n.isLt) : S128x3712.Idx) := by
  obtain ⟨e0, e1⟩ := idx9 t
  funext a; apply Fin.ext
  match a with
  | ⟨0, _⟩ => show win0_9.index t (0 : Fin 2) * 128 + 1 * r.val = r.val; omega
  | ⟨1, _⟩ => show win0_9.index t (1 : Fin 2) * 128 + 1 * n.val = 128 * t.val + n.val; omega

/-- The weights that the kernel forms from its blocks are the dequantised weights, where the blocks hold the codes,
    scales and minima. -/
theorem weights_of (x1 x2 : Vec Ideal S128x16x128 .i8) (x3 x4 : Vec Ideal S128x256 .bf16) (x5 x6 : Vec Ideal S128x16x128 .i8) (x7 x8 : Vec Ideal S128x256 .bf16)
    (C : IVec S3712x256x16 8) (S Z : FVec Ideal S3712x256 .bf16) (p : Fin 2) (t : Fin cfg0.N)
    (h0 : ∀ (n : Fin 128) (j : Fin 16) (g : Fin 128), blkOf x1 x2 x5 x6 p 0 (ix3 n j g) = C (ix3 (colAt t n.val n.isLt) ⟨128 * 0 + g.val, by omega⟩ j))
    (h1 : ∀ (n : Fin 128) (j : Fin 16) (g : Fin 128), blkOf x1 x2 x5 x6 p 1 (ix3 n j g) = C (ix3 (colAt t n.val n.isLt) ⟨128 * 1 + g.val, by omega⟩ j))
    (hS : ∀ (n : Fin 128) (g : Fin 256), sOf x3 x7 p (ix2 n g) = S (ix2 (colAt t n.val n.isLt) g))
    (hZ : ∀ (n : Fin 128) (g : Fin 256), sOf x4 x8 p (ix2 n g) = Z (ix2 (colAt t n.val n.isLt) g))
    (q : Fin 128) (k : ℕ) (hk : k < 8192) :
    W x1 x2 x3 x4 x5 x6 x7 x8 p k q = wt C S Z (colAt t q.val q.isLt) k := by
  have hC : blkOf x1 x2 x5 x6 p (k / 32 / 128) (ix3 q (Fin.ofNat 16 (k % 32 / 2)) (Fin.ofNat 128 (k / 32)))
      = C (ix3 (colAt t q.val q.isLt) (Fin.ofNat 256 (k / 32)) (Fin.ofNat 16 (k % 32 / 2))) := by
    rcases (by omega : k / 32 / 128 = 0 ∨ k / 32 / 128 = 1) with h | h
    · rw [h, h0]
      refine congrArg (fun g => C (ix3 _ g _)) (Fin.ext ?_)
      show 128 * 0 + k / 32 % 128 = k / 32 % 256
      omega
    · rw [h, h1]
      refine congrArg (fun g => C (ix3 _ g _)) (Fin.ext ?_)
      show 128 * 1 + k / 32 % 128 = k / 32 % 256
      omega
  unfold W weight bytesW scales wt
  beta_reduce
  rw [hS, hZ, hC]

/-- The gate's weights at point `t`. -/
theorem weights0 (c : Dev nD) (t : Fin cfg0.N) (q : Fin 128) (k : ℕ) (hk : k < 8192) :
    W (iblk m c 1 t) (iblk m c 2 t) (iblk m c 3 t) (iblk m c 4 t) (iblk m c 5 t) (iblk m c 6 t) (iblk m c 7 t) (iblk m c 8 t) 0 k q
      = wt (argCg m c) (argSg m c) (argZg m c) (colAt t q.val q.isLt) k :=
  weights_of _ _ _ _ _ _ _ _ _ _ _ 0 t (fun n j g => blk1 m c t n j g) (fun n j g => blk2 m c t n j g) (fun n g => blk3 m c t n g) (fun n g => blk4 m c t n g) q k hk

/-- The up projection's weights at point `t`. -/
theorem weights1 (c : Dev nD) (t : Fin cfg0.N) (q : Fin 128) (k : ℕ) (hk : k < 8192) :
    W (iblk m c 1 t) (iblk m c 2 t) (iblk m c 3 t) (iblk m c 4 t) (iblk m c 5 t) (iblk m c 6 t) (iblk m c 7 t) (iblk m c 8 t) 1 k q
      = wt (argCu m c) (argSu m c) (argZu m c) (colAt t q.val q.isLt) k :=
  weights_of _ _ _ _ _ _ _ _ _ _ _ 1 t (fun n j g => blk5 m c t n j g) (fun n j g => blk6 m c t n j g) (fun n g => blk7 m c t n g) (fun n g => blk8 m c t n g) q k hk

/-- The result array as one function of the arguments. -/
def G (c : Dev nD) : Vec Ideal S128x3712 .bf16 := fun i =>
  silu (linear (argH m c) (argCg m c) (argSg m c) (argZg m c) (i 0) ⟨col (i 1).val, col_lt 116 _ (i 1).isLt⟩)
    (linear (argH m c) (argCu m c) (argSu m c) (argZu m c) (i 0) ⟨col (i 1).val, col_lt 116 _ (i 1).isLt⟩)

/-- The lane order within a block of 128 columns is the column order of the whole. -/
theorem col_block (a n : ℕ) : col (128 * a + n) = 128 * a + col n := by
  unfold col
  omega

theorem flushed_eq (c : Dev nD) (t : Fin cfg0.N) :
    (dats m 0 c).flushed 9 t = ((cfg0.win 9).blk t).view.read (Elt Ideal) (G m c) := by
  rw [flushed9_A]
  funext i
  obtain ⟨r, n, rfl⟩ : ∃ (r n : Fin 128), i = ix2 r n := ⟨i 0, i 1, by funext a; match a with | ⟨0, _⟩ => rfl | ⟨1, _⟩ => rfl⟩
  show out0_A_9 (F := Ideal) _ _ _ _ _ _ _ _ _ _ _ _ _ _ _ _ _ _ _ _ _ _ _ _ _ _ _ _ _ _ _ _ _ _ _ _ _ (ix2 r n) = G m c (((cfg0.win 9).blk t).view.emb (ix2 r n))
  rw [emb9, out_apply]
  have hn : col n.val < 128 := col_lt 4 n.val n.isLt
  have ec : (⟨col (colAt t n.val n.isLt).val, col_lt 116 _ (colAt t n.val n.isLt).isLt⟩ : Fin 3712) = colAt t (col n.val) hn :=
    Fin.ext (col_block t.val n.val)
  show _ = silu (linear _ _ _ _ r ⟨col (colAt t n.val n.isLt).val, _⟩) (linear _ _ _ _ r ⟨col (colAt t n.val n.isLt).val, _⟩)
  rw [ec]
  unfold linear
  refine congrArg₂ silu (Finset.sum_congr rfl fun k hk => ?_) (Finset.sum_congr rfl fun k hk => ?_)
  · have hk' : k < 8192 := Finset.mem_range.mp hk
    unfold term
    rw [blk0, Fin.val_ofNat, Nat.mod_eq_of_lt hk', ← weights0 m c t ⟨col n.val, hn⟩ k hk']
    have e1 : col n.val / 128 = 0 := by omega
    have e2 : col n.val % 128 = col n.val := Nat.mod_eq_of_lt hn
    simp only [e1, e2]
    rfl
  · have hk' : k < 8192 := Finset.mem_range.mp hk
    unfold term
    rw [blk0, Fin.val_ofNat, Nat.mod_eq_of_lt hk', ← weights1 m c t ⟨col n.val, hn⟩ k hk']
    have e1 : (128 + col n.val) / 128 = 1 := by omega
    have e2 : (128 + col n.val) % 128 = col n.val := by omega
    simp only [e1, e2]
    rfl

theorem covered (i : S128x3712.Idx) : ∃ t : Fin cfg0.N, (cfg0.win 9).flush t = true ∧ i ∈ ((cfg0.win 9).blk t).view.set := by
  obtain ⟨r, n, rfl⟩ : ∃ (r : Fin 128) (n : Fin 3712), i = ix2 r n := ⟨i 0, i 1, by funext a; match a with | ⟨0, _⟩ => rfl | ⟨1, _⟩ => rfl⟩
  have hn := n.isLt
  refine ⟨(⟨n.val / 128, by show _ < 29; omega⟩ : Fin cfg0.N), flush0_9 _, ?_⟩
  have h := ((cfg0.win 9).blk (⟨n.val / 128, by show _ < 29; omega⟩ : Fin cfg0.N)).view.emb_mem_set (ix2 r (⟨n.val % 128, Nat.mod_lt _ (by decide)⟩ : Fin 128))
  rw [emb9] at h
  have e : colAt (⟨n.val / 128, by show _ < 29; omega⟩ : Fin cfg0.N) (n.val % 128) (Nat.mod_lt _ (by decide)) = n :=
    Fin.ext (by show 128 * (n.val / 128) + n.val % 128 = n.val; omega)
  rwa [e] at h

theorem final (c : Dev nD) : (dats m 0 c).arrAt 9 cfg0.N = G m c :=
  (dats m 0 c).arrAt_eq_of_cover 9 (G m c) (fun t _ => flushed_eq m c t) covered

end Cert.FfnInIdeal
-- ==== Proof.FfnInRef.lean ====
/- The reference gate and up projections' result at an index. -/
module

public import proofs.«01_k».proof.Proof.Linear
public import proofs.«01_k».proof.Proof.Gen.FfnInRefIdeal.Run
public import Idealize.ShloMosaic.Lib.Pointwise

@[expose] public section

set_option maxRecDepth 16384

noncomputable section

namespace Cert.FfnInRefIdeal

open Idealize.ShloMosaic Idealize.ShloMosaic.TcCoe Cert.FfnInRefIdeal.Gen Q4

/-- The reference's linear map as a term of its arguments. -/
def lin (o : FVec Ideal S128x8192 .bf16) (C : IVec S3712x256x16 8) (S Z : FVec Ideal S3712x256 .bf16) : FVec Ideal S128x3712 .f32 :=
  (addf (Host.dotGeneral dot_S128x256x16_S3712x256x16_S128x3712_12_12_0_0_n_n none (extractStridedSlice S128x256x16 ![0, 0, 0] (shapeCast _ o shapeCasts_S128x8192_S128x256x32) slices_S128x256x32_S128x256x16_0_0_0) (addf (mulf (sitofp .bf16 (andi (extui 32 C natLt_8_32) (broadcastInDim S3712x256x16 ![] bcast_S_S3712x256x16 (constantI S_ 32 15#32)))) (broadcastInDim S3712x256x16 ![0, 1, 2] bcast_S3712x256x1_S3712x256x16_0_1_2 (broadcastInDim S3712x256x1 ![0, 1] bcast_S3712x256_S3712x256x1_0_1 S))) (broadcastInDim S3712x256x16 ![0, 1, 2] bcast_S3712x256x1_S3712x256x16_0_1_2 (broadcastInDim S3712x256x1 ![0, 1] bcast_S3712x256_S3712x256x1_0_1 Z)))) (Host.dotGeneral dot_S128x256x16_S3712x256x16_S128x3712_12_12_0_0_n_n none (extractStridedSlice S128x256x16 ![0, 0, 16] (shapeCast _ o shapeCasts_S128x8192_S128x256x32) slices_S128x256x32_S128x256x16_0_0_16) (addf (mulf (sitofp .bf16 (Host.shrsi (extui 32 C natLt_8_32) (broadcastInDim S3712x256x16 ![] bcast_S_S3712x256x16 (constantI S_ 32 4#32)))) (broadcastInDim S3712x256x16 ![0, 1, 2] bcast_S3712x256x1_S3712x256x16_0_1_2 (broadcastInDim S3712x256x1 ![0, 1] bcast_S3712x256_S3712x256x1_0_1 S))) (broadcastInDim S3712x256x16 ![0, 1, 2] bcast_S3712x256x1_S3712x256x16_0_1_2 (broadcastInDim S3712x256x1 ![0, 1] bcast_S3712x256_S3712x256x1_0_1 Z)))))

/-- It is the quantised linear map. -/
theorem lin_apply (o : FVec Ideal S128x8192 .bf16) (C : IVec S3712x256x16 8) (S Z : FVec Ideal S3712x256 .bf16) (m : Fin 128) (n : Fin 3712) :
    lin o C S Z (ix2 m n) = linear o C S Z m n := by
  unfold lin
  pointwise
  have h := halves_linear (M := 128) (K := 8192) (N := 3712) (G := 256) (by decide) o C S Z m n (fun g j => by omega) (fun g j => by omega)
  rw [← h]

/-- The reference's gated product, its columns in the order in which the down projection takes them. -/
def gate (g u : FVec Ideal S128x3712 .f32) : FVec Ideal S128x3712 .bf16 :=
  shapeCast _ (transpose S128x116x16x2 [0, 1, 3, 2] (shapeCast _ (truncf .bf16 (mulf (mulf g (Host.divf (broadcastInDim S128x3712 ![] bcast_S_S128x3712 (constant S_ .f32 0x3F800000#32)) (addf (broadcastInDim S128x3712 ![] bcast_S_S128x3712 (constant S_ .f32 0x3F800000#32)) (Host.exp (Host.negf g))))) u) bitsLt_bf16_f32) shapeCasts_S128x3712_S128x116x2x16) transposes_S128x116x2x16_S128x116x16x2_0_1_3_2) shapeCasts_S128x116x16x2_S128x3712

/-- The gated product at an index. -/
theorem gate_apply (g u : FVec Ideal S128x3712 .f32) (m : Fin 128) (n : Fin 3712) :
    gate g u (ix2 m n) = g (ix2 m ⟨col n.val, col_lt 116 n.val n.isLt⟩)
      * Ideal.div 1 (1 + Ideal.exp (-g (ix2 m ⟨col n.val, col_lt 116 n.val n.isLt⟩)))
      * u (ix2 m ⟨col n.val, col_lt 116 n.val n.isLt⟩) := by
  unfold gate
  pointwise
  have e : ∀ h, (⟨n.val / 32 * 32 + n.val % 2 * 16 + n.val / 2 % 16, h⟩ : Fin 3712) = ⟨col n.val, col_lt 116 n.val n.isLt⟩ :=
    fun _ => Fin.ext (col_eq n.val)
  simp only [e]

/-- The reference's result is the gated product of its two linear maps. -/
theorem res_eq (m : (ℓ : Loc nD τ sig) → Buf (Elt Ideal) ℓ) (c : Dev nD) :
    Value.res_main_v57 (F := Ideal) m c = gate
      (lin (m ((c.tc : Thread nD τ).loc main_arg0)) (m ((c.tc : Thread nD τ).loc main_arg1)) (m ((c.tc : Thread nD τ).loc main_arg2)) (m ((c.tc : Thread nD τ).loc main_arg3)))
      (lin (m ((c.tc : Thread nD τ).loc main_arg0)) (m ((c.tc : Thread nD τ).loc main_arg4)) (m ((c.tc : Thread nD τ).loc main_arg5)) (m ((c.tc : Thread nD τ).loc main_arg6))) := rfl

end Cert.FfnInRefIdeal
-- ==== Proof.FfnInClaim.lean ====
/- The gate and up projections: their claims. -/
module

public import proofs.«01_k».proof.Defs
public import proofs.«01_k».proof.Proof.FfnInValue
public import proofs.«01_k».proof.Proof.FfnInRef
public import proofs.«01_k».proof.Proof.Gen.FfnIn.Frame

@[expose] public section

noncomputable section

namespace Cert.Proof

open Idealize.ShloMosaic Idealize.ShloMosaic.TcCoe Idealize.SL.Sem

theorem ffnIn_frame : Cert.quiescent_FfnIn := fun m ρ _ => Cert.FfnIn.Gen.frame m ρ

theorem ffnInIdeal_frame : Cert.quiescent_FfnInIdeal := fun m ρ _ => Cert.FfnInIdeal.Gen.frame m ρ

/-- The reference's run read at its arguments; the program declares no semaphore. -/
theorem ffnInRef_frame : Cert.quiescent_FfnInRefIdeal := fun m ρ _ =>
  (θ_run Cert.FfnInRefIdeal.defs _ _).mono (fun r h => ⟨fun c => (h c).2,
      Idealize.ShloMosaic.sem_eq_zero_of_no_sems (by decide) r.2⟩)
    (Cert.FfnInRefIdeal.Value.run (F := Ideal) m ρ)

/-- The kernel's result array and the reference's are one function of the arguments. -/
theorem ffnIn_algebraic : Cert.algebraic_FfnInIdeal_FfnInRefIdeal := by
  intro m g m' g' _ hagree
  refine ⟨fun c => Cert.FfnInIdeal.G m c, ?_, ?_⟩
  · exact (θ_run Cert.FfnInIdeal.defs _ _).mono (fun r h c => ⟨(h c).1.trans (Cert.FfnInIdeal.final m c), (h c).2⟩)
      (Cert.FfnInIdeal.Value.run_blocks m g)
  · refine (θ_run Cert.FfnInRefIdeal.defs _ _).mono (fun r h c => ⟨(h c).1.trans ?_, (h c).2⟩)
      (Cert.FfnInRefIdeal.Value.run (F := Ideal) m' g')
    obtain ⟨h0, h1, h2, h3, h4, h5, h6⟩ := hagree c
    refine (Cert.FfnInRefIdeal.res_eq m' c).trans ?_
    rw [h0, h1, h2, h3, h4, h5, h6]
    refine funext fun i => ?_
    obtain ⟨r, n, rfl⟩ : ∃ (r : Fin 128) (n : Fin 3712), i = ix2 r n := ⟨i 0, i 1, by funext a; match a with | ⟨0, _⟩ => rfl | ⟨1, _⟩ => rfl⟩
    refine (Cert.FfnInRefIdeal.gate_apply _ _ r n).trans ?_
    rw [Cert.FfnInRefIdeal.lin_apply, Cert.FfnInRefIdeal.lin_apply]
    rfl

end Cert.Proof
-- ==== Proof.QProjTile.lean ====
/- The query projection's weights: what the scratch arrays hold, and sixteen rows of a tile as the kernel computes them. -/
module

public import proofs.«01_k».proof.Proof.Words
public import proofs.«01_k».proof.Proof.Gen.QProjIdeal.Value

@[expose] public section

set_option maxRecDepth 16384
set_option maxHeartbeats 400000

noncomputable section

namespace Cert.QProjIdeal

open Idealize.ShloMosaic Idealize.ShloMosaic.TcCoe Idealize.SL.Sem Cert.QProjIdeal.Gen Q4

/-- The code blocks by part (0: the first 128 columns, 1: the last) and half of the groups. -/
def blkOf (x1 x2 x5 x6 : Vec Ideal S128x16x128 .i8) (p : Fin 2) (lt : ℕ) : IVec S128x16x128 8 :=
  match p, lt with
  | 0, 0 => x1
  | 0, _ => x2
  | 1, 0 => x5
  | 1, _ => x6

/-- The scale blocks by part. -/
def sOf (x3 x7 : Vec Ideal S128x256 .bf16) (p : Fin 2) : Vec Ideal S128x256 .bf16 :=
  match p with
  | 0 => x3
  | 1 => x7

/-- The weights of a block's part `p`. -/
def W (x1 x2 : Vec Ideal S128x16x128 .i8) (x3 x4 : Vec Ideal S128x256 .bf16)
    (x5 x6 : Vec Ideal S128x16x128 .i8) (x7 x8 : Vec Ideal S128x256 .bf16) (p : Fin 2) : ℕ → Fin 128 → EReal :=
  weight (bytesW (blkOf x1 x2 x5 x6 p)) (fun g c => scales (sOf x3 x7) p (Fin.ofNat 256 g) c) (fun g c => scales (sOf x4 x8) p (Fin.ofNat 256 g) c)

/-- The weights of the block, both parts. -/
def W2 (x1 x2 : Vec Ideal S128x16x128 .i8) (x3 x4 : Vec Ideal S128x256 .bf16)
    (x5 x6 : Vec Ideal S128x16x128 .i8) (x7 x8 : Vec Ideal S128x256 .bf16) (p : ℕ) : ℕ → Fin 128 → EReal :=
  match p with
  | 0 => W x1 x2 x3 x4 x5 x6 x7 x8 0
  | _ => W x1 x2 x3 x4 x5 x6 x7 x8 1

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)

/-- Each store into the scratch array of words stores the words of its part. -/
theorem pieces_words : ∀ p ∈ kernelRun0_A.sl.HS0_16 (F := Ideal) c arg2 harg2 arg3 harg3 arg6 harg6 arg7 harg7 x1 x2 x5 x6,
    Stores (e := .i32) (words (blkOf x1 x2 x5 x6)) p := by
  unfold kernelRun0_A.sl.HS0_16 kernelRun0_A.sl.HS0_10 kernelRun0_A.sl.HS0_2 kernelRun0_A.sl.HS0_1
  refine List.forall_mem_cons.mpr ⟨words_piece harg7 (blkOf x1 x2 x5 x6) 1 (by decide) 1 x6 rfl 515 3 rfl (by decide) (by decide) (by decide) (by decide) (by decide) (by decide) (by decide) _ ?_ _, ?_⟩
  · rfl
  refine List.forall_mem_cons.mpr ⟨words_piece harg7 (blkOf x1 x2 x5 x6) 1 (by decide) 1 x6 rfl 514 2 rfl (by decide) (by decide) (by decide) (by decide) (by decide) (by decide) (by decide) _ ?_ _, ?_⟩
  · rfl
  refine List.forall_mem_cons.mpr ⟨words_piece harg7 (blkOf x1 x2 x5 x6) 1 (by decide) 1 x6 rfl 513 1 rfl (by decide) (by decide) (by decide) (by decide) (by decide) (by decide) (by decide) _ ?_ _, ?_⟩
  · rfl
  refine List.forall_mem_cons.mpr ⟨words_piece harg7 (blkOf x1 x2 x5 x6) 1 (by decide) 1 x6 rfl 512 0 rfl (by decide) (by decide) (by decide) (by decide) (by decide) (by decide) (by decide) _ ?_ _, ?_⟩
  · rfl
  refine List.forall_mem_cons.mpr ⟨words_piece harg6 (blkOf x1 x2 x5 x6) 1 (by decide) 0 x5 rfl 3 3 rfl (by decide) (by decide) (by decide) (by decide) (by decide) (by decide) (by decide) _ ?_ _, ?_⟩
  · rfl
  refine List.forall_mem_cons.mpr ⟨words_piece harg6 (blkOf x1 x2 x5 x6) 1 (by decide) 0 x5 rfl 2 2 rfl (by decide) (by decide) (by decide) (by decide) (by decide) (by decide) (by decide) _ ?_ _, ?_⟩
  · rfl
  refine List.forall_mem_cons.mpr ⟨words_piece harg6 (blkOf x1 x2 x5 x6) 1 (by decide) 0 x5 rfl 1 1 rfl (by decide) (by decide) (by decide) (by decide) (by decide) (by decide) (by decide) _ ?_ _, ?_⟩
  · rfl
  refine List.forall_mem_cons.mpr ⟨words_piece harg6 (blkOf x1 x2 x5 x6) 1 (by decide) 0 x5 rfl 0 0 rfl (by decide) (by decide) (by decide) (by decide) (by decide) (by decide) (by decide) _ ?_ _, ?_⟩
  · rfl
  refine List.forall_mem_cons.mpr ⟨words_piece harg3 (blkOf x1 x2 x5 x6) 0 (by decide) 1 x2 rfl 515 3 rfl (by decide) (by decide) (by decide) (by decide) (by decide) (by decide) (by decide) _ ?_ _, ?_⟩
  · rfl
  refine List.forall_mem_cons.mpr ⟨words_piece harg3 (blkOf x1 x2 x5 x6) 0 (by decide) 1 x2 rfl 514 2 rfl (by decide) (by decide) (by decide) (by decide) (by decide) (by decide) (by decide) _ ?_ _, ?_⟩
  · rfl
  refine List.forall_mem_cons.mpr ⟨words_piece harg3 (blkOf x1 x2 x5 x6) 0 (by decide) 1 x2 rfl 513 1 rfl (by decide) (by decide) (by decide) (by decide) (by decide) (by decide) (by decide) _ ?_ _, ?_⟩
  · rfl
  refine List.forall_mem_cons.mpr ⟨words_piece harg3 (blkOf x1 x2 x5 x6) 0 (by decide) 1 x2 rfl 512 0 rfl (by decide) (by decide) (by decide) (by decide) (by decide) (by decide) (by decide) _ ?_ _, ?_⟩
  · rfl
  refine List.forall_mem_cons.mpr ⟨words_piece harg2 (blkOf x1 x2 x5 x6) 0 (by decide) 0 x1 rfl 3 3 rfl (by decide) (by decide) (by decide) (by decide) (by decide) (by decide) (by decide) _ ?_ _, ?_⟩
  · rfl
  refine List.forall_mem_cons.mpr ⟨words_piece harg2 (blkOf x1 x2 x5 x6) 0 (by decide) 0 x1 rfl 2 2 rfl (by decide) (by decide) (by decide) (by decide) (by decide) (by decide) (by decide) _ ?_ _, ?_⟩
  · rfl
  refine List.forall_mem_cons.mpr ⟨words_piece harg2 (blkOf x1 x2 x5 x6) 0 (by decide) 0 x1 rfl 1 1 rfl (by decide) (by decide) (by decide) (by decide) (by decide) (by decide) (by decide) _ ?_ _, ?_⟩
  · rfl
  refine List.forall_mem_cons.mpr ⟨words_piece harg2 (blkOf x1 x2 x5 x6) 0 (by decide) 0 x1 rfl 0 0 rfl (by decide) (by decide) (by decide) (by decide) (by decide) (by decide) (by decide) _ ?_ _, ?_⟩
  · rfl
  exact List.forall_mem_nil _

/-- The stores cover the scratch array of words. -/
theorem cover_words : ∀ y, ∃ p ∈ kernelRun0_A.sl.HS0_16 (F := Ideal) c arg2 harg2 arg3 harg3 arg6 harg6 arg7 harg7 x1 x2 x5 x6, y ∈ p.1.set := by
  intro y
  unfold kernelRun0_A.sl.HS0_16 kernelRun0_A.sl.HS0_10 kernelRun0_A.sl.HS0_2 kernelRun0_A.sl.HS0_1
  have h0 : (y 0).val < 2 := (y 0).isLt
  have h1 : (y 1).val < 1024 := (y 1).isLt
  rcases (by omega : (y 0).val = 0 ∨ (y 0).val = 1) with e | e <;> rcases (by omega : (y 1).val / 512 = 0 ∨ (y 1).val / 512 = 1) with e1 | e1 <;>
    rcases (by omega : (y 1).val % 4 = 0 ∨ (y 1).val % 4 = 1 ∨ (y 1).val % 4 = 2 ∨ (y 1).val % 4 = 3) with e2 | e2 | e2 | e2
  · exact ⟨_, .tail _ (.tail _ (.tail _ (.tail _ (.tail _ (.tail _ (.tail _ (.tail _ (.tail _ (.tail _ (.tail _ (.tail _ (.tail _ (.tail _ (.tail _ (.head _))))))))))))))), words_mem 0 (by decide) 0 (by decide) (by decide) (by decide) y e e1 e2⟩
  · exact ⟨_, .tail _ (.tail _ (.tail _ (.tail _ (.tail _ (.tail _ (.tail _ (.tail _ (.tail _ (.tail _ (.tail _ (.tail _ (.tail _ (.tail _ (.head _)))))))))))))), words_mem 0 (by decide) 1 (by decide) (by decide) (by decide) y e e1 e2⟩
  · exact ⟨_, .tail _ (.tail _ (.tail _ (.tail _ (.tail _ (.tail _ (.tail _ (.tail _ (.tail _ (.tail _ (.tail _ (.tail _ (.tail _ (.head _))))))))))))), words_mem 0 (by decide) 2 (by decide) (by decide) (by decide) y e e1 e2⟩
  · exact ⟨_, .tail _ (.tail _ (.tail _ (.tail _ (.tail _ (.tail _ (.tail _ (.tail _ (.tail _ (.tail _ (.tail _ (.tail _ (.head _)))))))))))), words_mem 0 (by decide) 3 (by decide) (by decide) (by decide) y e e1 e2⟩
  · exact ⟨_, .tail _ (.tail _ (.tail _ (.tail _ (.tail _ (.tail _ (.tail _ (.tail _ (.tail _ (.tail _ (.tail _ (.head _))))))))))), words_mem 0 (by decide) 512 (by decide) (by decide) (by decide) y e e1 e2⟩
  · exact ⟨_, .tail _ (.tail _ (.tail _ (.tail _ (.tail _ (.tail _ (.tail _ (.tail _ (.tail _ (.tail _ (.head _)))))))))), words_mem 0 (by decide) 513 (by decide) (by decide) (by decide) y e e1 e2⟩
  · exact ⟨_, .tail _ (.tail _ (.tail _ (.tail _ (.tail _ (.tail _ (.tail _ (.tail _ (.tail _ (.head _))))))))), words_mem 0 (by decide) 514 (by decide) (by decide) (by decide) y e e1 e2⟩
  · exact ⟨_, .tail _ (.tail _ (.tail _ (.tail _ (.tail _ (.tail _ (.tail _ (.tail _ (.head _)))))))), words_mem 0 (by decide) 515 (by decide) (by decide) (by decide) y e e1 e2⟩
  · exact ⟨_, .tail _ (.tail _ (.tail _ (.tail _ (.tail _ (.tail _ (.tail _ (.head _))))))), words_mem 1 (by decide) 0 (by decide) (by decide) (by decide) y e e1 e2⟩
  · exact ⟨_, .tail _ (.tail _ (.tail _ (.tail _ (.tail _ (.tail _ (.head _)))))), words_mem 1 (by decide) 1 (by decide) (by decide) (by decide) y e e1 e2⟩
  · exact ⟨_, .tail _ (.tail _ (.tail _ (.tail _ (.tail _ (.head _))))), words_mem 1 (by decide) 2 (by decide) (by decide) (by decide) y e e1 e2⟩
  · exact ⟨_, .tail _ (.tail _ (.tail _ (.tail _ (.head _)))), words_mem 1 (by decide) 3 (by decide) (by decide) (by decide) y e e1 e2⟩
  · exact ⟨_, .tail _ (.tail _ (.tail _ (.head _))), words_mem 1 (by decide) 512 (by decide) (by decide) (by decide) y e e1 e2⟩
  · exact ⟨_, .tail _ (.tail _ (.head _)), words_mem 1 (by decide) 513 (by decide) (by decide) (by decide) y e e1 e2⟩
  · exact ⟨_, .tail _ (.head _), words_mem 1 (by decide) 514 (by decide) (by decide) (by decide) y e e1 e2⟩
  · exact ⟨_, .head _, words_mem 1 (by decide) 515 (by decide) (by decide) (by decide) y e e1 e2⟩

/-- Each store into the scratch array of scales stores those of its part. -/
theorem pieces_scale : ∀ p ∈ kernelRun0_A.sl.HS1_4 (F := Ideal) c arg4 harg4 arg8 harg8 x3 x7,
    Stores (e := .f32) (scales (sOf x3 x7)) p := by
  unfold kernelRun0_A.sl.HS1_4
  refine List.forall_mem_cons.mpr ⟨scales_piece harg8 (sOf x3 x7) 1 (by decide) x7 rfl 128 (by decide) (by decide) (by decide) (by decide) _ ?_ _, ?_⟩
  · rfl
  refine List.forall_mem_cons.mpr ⟨scales_piece harg8 (sOf x3 x7) 1 (by decide) x7 rfl 0 (by decide) (by decide) (by decide) (by decide) _ ?_ _, ?_⟩
  · rfl
  refine List.forall_mem_cons.mpr ⟨scales_piece harg4 (sOf x3 x7) 0 (by decide) x3 rfl 128 (by decide) (by decide) (by decide) (by decide) _ ?_ _, ?_⟩
  · rfl
  refine List.forall_mem_cons.mpr ⟨scales_piece harg4 (sOf x3 x7) 0 (by decide) x3 rfl 0 (by decide) (by decide) (by decide) (by decide) _ ?_ _, ?_⟩
  · rfl
  exact List.forall_mem_nil _

/-- The stores cover the scratch array of scales. -/
theorem cover_scale : ∀ y, ∃ p ∈ kernelRun0_A.sl.HS1_4 (F := Ideal) c arg4 harg4 arg8 harg8 x3 x7, y ∈ p.1.set := by
  intro y
  unfold kernelRun0_A.sl.HS1_4
  have h0 : (y 0).val < 2 := (y 0).isLt
  have h1 : (y 1).val < 256 := (y 1).isLt
  rcases (by omega : (y 0).val = 0 ∨ (y 0).val = 1) with e | e <;> rcases (by omega : (y 1).val / 128 * 128 = 0 ∨ (y 1).val / 128 * 128 = 128) with e1 | e1
  · exact ⟨_, .tail _ (.tail _ (.tail _ (.head _))), scales_mem 0 (by decide) 0 (by decide) (by decide) y e e1⟩
  · exact ⟨_, .tail _ (.tail _ (.head _)), scales_mem 0 (by decide) 128 (by decide) (by decide) y e e1⟩
  · exact ⟨_, .tail _ (.head _), scales_mem 1 (by decide) 0 (by decide) (by decide) y e e1⟩
  · exact ⟨_, .head _, scales_mem 1 (by decide) 128 (by decide) (by decide) y e e1⟩

/-- Each store into the scratch array of minima stores those of its part. -/
theorem pieces_min : ∀ p ∈ kernelRun0_A.sl.HS2_4 (F := Ideal) c arg5 harg5 arg9 harg9 x4 x8,
    Stores (e := .f32) (scales (sOf x4 x8)) p := by
  unfold kernelRun0_A.sl.HS2_4
  refine List.forall_mem_cons.mpr ⟨scales_piece harg9 (sOf x4 x8) 1 (by decide) x8 rfl 128 (by decide) (by decide) (by decide) (by decide) _ ?_ _, ?_⟩
  · rfl
  refine List.forall_mem_cons.mpr ⟨scales_piece harg9 (sOf x4 x8) 1 (by decide) x8 rfl 0 (by decide) (by decide) (by decide) (by decide) _ ?_ _, ?_⟩
  · rfl
  refine List.forall_mem_cons.mpr ⟨scales_piece harg5 (sOf x4 x8) 0 (by decide) x4 rfl 128 (by decide) (by decide) (by decide) (by decide) _ ?_ _, ?_⟩
  · rfl
  refine List.forall_mem_cons.mpr ⟨scales_piece harg5 (sOf x4 x8) 0 (by decide) x4 rfl 0 (by decide) (by decide) (by decide) (by decide) _ ?_ _, ?_⟩
  · rfl
  exact List.forall_mem_nil _

/-- The stores cover the scratch array of minima. -/
theorem cover_min : ∀ y, ∃ p ∈ kernelRun0_A.sl.HS2_4 (F := Ideal) c arg5 harg5 arg9 harg9 x4 x8, y ∈ p.1.set := by
  intro y
  unfold kernelRun0_A.sl.HS2_4
  have h0 : (y 0).val < 2 := (y 0).isLt
  have h1 : (y 1).val < 256 := (y 1).isLt
  rcases (by omega : (y 0).val = 0 ∨ (y 0).val = 1) with e | e <;> rcases (by omega : (y 1).val / 128 * 128 = 0 ∨ (y 1).val / 128 * 128 = 128) with e1 | e1
  · exact ⟨_, .tail _ (.tail _ (.tail _ (.head _))), scales_mem 0 (by decide) 0 (by decide) (by decide) y e e1⟩
  · exact ⟨_, .tail _ (.tail _ (.head _)), scales_mem 0 (by decide) 128 (by decide) (by decide) y e e1⟩
  · exact ⟨_, .tail _ (.head _), scales_mem 1 (by decide) 0 (by decide) (by decide) y e e1⟩
  · exact ⟨_, .head _, scales_mem 1 (by decide) 128 (by decide) (by decide) y e e1⟩

/-- Sixteen rows of part `l`, as the kernel computes them. -/
theorem tile_piece (l b : ℕ) (hl : l < 2) (hb : b % 16 = 0) (hG : b / 32 < 256) (h inbT inbT' hstT inb inb' hst) (r : Fin 16) (q : Fin 128) :
    W x1 x2 x3 x4 x5 x6 x7 x8 ⟨l, hl⟩ (b + r.val) q
      = rows16 (b % 64) (unpack (wordsAt arg11 (kernelRun0_A.sl.HS0_16 (F := Ideal) c arg2 harg2 arg3 harg3 arg6 harg6 arg7 harg7 x1 x2 x5 x6) l (b / 64 * 8) inbT inbT' hstT))
          (rowAt arg12 (kernelRun0_A.sl.HS1_4 (F := Ideal) c arg4 harg4 arg8 harg8 x3 x7) l (b / 32) inb inb' hst)
          (rowAt arg13 (kernelRun0_A.sl.HS2_4 (F := Ideal) c arg5 harg5 arg9 harg9 x4 x8) l (b / 32) inb inb' hst) h (ix2 r q) :=
  piece_words arg11 arg12 arg13 _ _ _ _ _ _ (pieces_words c arg2 harg2 arg3 harg3 arg6 harg6 arg7 harg7 x1 x2 x5 x6) (cover_words c arg2 harg2 arg3 harg3 arg6 harg6 arg7 harg7 x1 x2 x5 x6)
    (pieces_scale c arg4 harg4 arg8 harg8 x3 x7) (cover_scale c arg4 harg4 arg8 harg8 x3 x7)
    (pieces_min c arg5 harg5 arg9 harg9 x4 x8) (cover_min c arg5 harg5 arg9 harg9 x4 x8) l b hl hb hG h inbT inbT' hstT inb inb' hst r q

/-- Sixteen rows of part `l` more in front. -/
theorem tile_cons (l : ℕ) {b : ℕ} (hl : l < 2) (hb : b % 16 = 0) (hG : b / 32 < 256) (h inbT inbT' hstT inb inb' hst)
    {y : FVec Ideal S16x128 .bf16} {ps : List ((s : Shape) × (s.Idx → EReal))}
    (e : rows16 (b % 64) (unpack (wordsAt arg11 (kernelRun0_A.sl.HS0_16 (F := Ideal) c arg2 harg2 arg3 harg3 arg6 harg6 arg7 harg7 x1 x2 x5 x6) l (b / 64 * 8) inbT inbT' hstT))
          (rowAt arg12 (kernelRun0_A.sl.HS1_4 (F := Ideal) c arg4 harg4 arg8 harg8 x3 x7) l (b / 32) inb inb' hst)
          (rowAt arg13 (kernelRun0_A.sl.HS2_4 (F := Ideal) c arg5 harg5 arg9 harg9 x4 x8) l (b / 32) inb inb' hst) h = y)
    (hp : Rows (W x1 x2 x3 x4 x5 x6 x7 x8 ⟨l, hl⟩) (b + 16) ps) : Rows (W x1 x2 x3 x4 x5 x6 x7 x8 ⟨l, hl⟩) b (⟨S16x128, y⟩ :: ps) := by
  subst e
  exact Rows.cons (fun r q => tile_piece c arg2 harg2 arg3 harg3 arg4 harg4 arg5 harg5 arg6 harg6 arg7 harg7 arg8 harg8 arg9 harg9 arg11 arg12 arg13 x1 x2 x3 x4 x5 x6 x7 x8 l b hl hb hG h inbT inbT' hstT inb inb' hst r q) hp

end Cert.QProjIdeal
-- ==== Proof.QProjDot.lean ====
/- The query projection's contraction by steps: the products, the loads of the left operand, and the term of a row. -/
module

public import proofs.«01_k».proof.Proof.QProjTile

@[expose] public section

set_option maxRecDepth 16384
set_option maxHeartbeats 400000

noncomputable section

namespace Cert.QProjIdeal

open Idealize.ShloMosaic Idealize.ShloMosaic.TcCoe Idealize.SL.Sem Cert.QProjIdeal.Gen Q4

/-- A contraction over 512 columns, at an index. -/
theorem dot512_apply (A : FVec Ideal S128x512 .bf16) (B : FVec Ideal S512x256 .bf16) (m : Fin 128) (n : Fin 256) :
    matmul dot_S128x512_S512x256_S128x256_1_0_0_1_n_n none A B (constant S128x256 .f32 0#32) (ix2 m n)
      = ∑ k : Fin 512, A (ix2 m k) * B (ix2 k n) := by
  pointwise

/-- A load of 512 columns of the left operand. -/
theorem load512_apply {mA : Memref sig .tc .vmem S128x8192 .bf16} (hA : mA.IsWhole) (x : Vec Ideal S128x8192 .bf16) (o : ℕ)
    (inb : ∀ a, (![0, o] : Fin 2 → ℕ) a + (![128, 512] : Fin 2 → ℕ) a ≤ (![128, 8192] : Fin 2 → ℕ) a)
    (h : S128x512.ShapeCasts S128x512) (m : Fin 128) (k : Fin 512) :
    shapeCast S128x512 (View.readAt (Elt Ideal) mA.view (Rect.unit (s := S128x8192) ![0, o] ![128, 512] inb).toLoadRect (hA.unread x)) h (ix2 m k)
      = x (ix2 m (Fin.ofNat 8192 (o + k.val))) := by
  show View.readAt (Elt Ideal) mA.view (Rect.unit (s := S128x8192) ![0, o] ![128, 512] inb).toLoadRect (hA.unread x) (Shape.reshapeEquiv h (ix2 m k)) = _
  rw [Shape.reshapeEquiv_self, hA.readAt_unread]
  congr 1
  funext a
  apply Fin.ext
  have hk : o + k.val < 8192 := by have := inb 1; have := k.isLt; change o + 512 ≤ 8192 at *; omega
  match a with
  | ⟨0, _⟩ => show 0 + 1 * m.val = m.val; omega
  | ⟨1, _⟩ => show o + 1 * k.val = (o + k.val) % 8192; rw [Nat.mod_eq_of_lt hk]; omega

/-- One step of the contraction: the left operand against the two tiles' weights from row `b` on. -/
theorem step512_apply (A : FVec Ideal S128x512 .bf16) (V : ℕ → ℕ → Fin 128 → EReal) (b : ℕ)
    (xs : List ((s : Shape) × (s.Idx → EReal))) (h) (hr : Planes (K := 512) (fun l k q => V l (b + k.val) q) 0 xs) (m : Fin 128) (n : Fin 256) :
    matmul (F := Ideal) (φ₁ := .bf16) (φ₂ := .bf16) dot_S128x512_S512x256_S128x256_1_0_0_1_n_n none A (concatenate S512x256 1 xs h) (constant S128x256 .f32 0#32) (ix2 m n)
      = ∑ k : Fin 512, A (ix2 m k) * V (n.val / 128) (b + k.val) ⟨n.val % 128, Nat.mod_lt _ (by decide)⟩ := by
  rw [dot512_apply]
  refine Finset.sum_congr rfl fun k _ => ?_
  exact congrArg (A (ix2 m k) * ·) (concat_planes (fun l k q => V l (b + k.val) q) xs h hr k n)

/-- The product of the left operand and the weight at row `ρ` of the contraction. -/
def term (x0 : Vec Ideal S128x8192 .bf16) (x1 x2 : Vec Ideal S128x16x128 .i8) (x3 x4 : Vec Ideal S128x256 .bf16)
    (x5 x6 : Vec Ideal S128x16x128 .i8) (x7 x8 : Vec Ideal S128x256 .bf16)
    (m : Fin 128) (n : Fin 256) (ρ : ℕ) : EReal :=
  x0 (ix2 m (Fin.ofNat 8192 ρ)) * W2 x1 x2 x3 x4 x5 x6 x7 x8 (n.val / 128) ρ ⟨n.val % 128, Nat.mod_lt _ (by decide)⟩

end Cert.QProjIdeal
-- ==== Proof.QProjAcc0.lean ====
/- The query projection's accumulator, steps 1 to 3. -/
module

public import proofs.«01_k».proof.Proof.QProjDot

@[expose] public section

set_option maxRecDepth 16384
set_option maxHeartbeats 400000

noncomputable section

namespace Cert.QProjIdeal

open Idealize.ShloMosaic Idealize.ShloMosaic.TcCoe Idealize.SL.Sem Cert.QProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- The accumulator after the first step. -/
theorem acc0 (m : Fin 128) (n : Fin 256) :
    kernelRun0_A.sl.r_103 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = ∑ ρ ∈ Finset.range 512, term x0 x1 x2 x3 x4 x5 x6 x7 x8 m n (0 + ρ) := by
  refine (step512_apply _ (W2 x1 x2 x3 x4 x5 x6 x7 x8) 0 _ ?h ?r m n).trans ?e
  case r =>
    refine Planes.cons ?_ (Planes.cons ?_ Planes.nil)
    · intro ρ q
      refine concat_rows (K := 512) (W x1 x2 x3 x4 x5 x6 x7 x8 0) 0 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 0 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 0 (by decide) (by decide) m k)).trans ?_
    exact Fin.sum_univ_eq_sum_range (fun k => term x0 x1 x2 x3 x4 x5 x6 x7 x8 m n (0 + k)) 512

/-- Step 2 of the contraction: the accumulator before it, plus its 512 products. -/
theorem acc1 (m : Fin 128) (n : Fin 256) :
    kernelRun0_A.sl.r_194 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_103 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (512 + ρ) := by
  unfold kernelRun0_A.sl.r_194
  unfold k0_pay322
  refine congrArg (_ + ·) ?_
  refine (step512_apply _ (W2 x1 x2 x3 x4 x5 x6 x7 x8) 512 _ ?h ?r m n).trans ?e
  case r =>
    refine Planes.cons ?_ (Planes.cons ?_ Planes.nil)
    · intro ρ q
      refine concat_rows (K := 512) (W x1 x2 x3 x4 x5 x6 x7 x8 0) 512 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 512 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 512 (by decide) (by decide) m k)).trans ?_
    exact Fin.sum_univ_eq_sum_range (fun k => term x0 x1 x2 x3 x4 x5 x6 x7 x8 m n (512 + k)) 512

/-- Step 3 of the contraction: the accumulator before it, plus its 512 products. -/
theorem acc2 (m : Fin 128) (n : Fin 256) :
    kernelRun0_A.sl.r_289 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_194 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (1024 + ρ) := by
  unfold kernelRun0_A.sl.r_289
  unfold k0_pay463
  refine congrArg (_ + ·) ?_
  refine (step512_apply _ (W2 x1 x2 x3 x4 x5 x6 x7 x8) 1024 _ ?h ?r m n).trans ?e
  case r =>
    refine Planes.cons ?_ (Planes.cons ?_ Planes.nil)
    · intro ρ q
      refine concat_rows (K := 512) (W x1 x2 x3 x4 x5 x6 x7 x8 0) 1024 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 1024 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 1024 (by decide) (by decide) m k)).trans ?_
    exact Fin.sum_univ_eq_sum_range (fun k => term x0 x1 x2 x3 x4 x5 x6 x7 x8 m n (1024 + k)) 512

end Cert.QProjIdeal
-- ==== Proof.QProjAcc1.lean ====
/- The query projection's accumulator, steps 4 to 6. -/
module

public import proofs.«01_k».proof.Proof.QProjDot

@[expose] public section

set_option maxRecDepth 16384
set_option maxHeartbeats 400000

noncomputable section

namespace Cert.QProjIdeal

open Idealize.ShloMosaic Idealize.ShloMosaic.TcCoe Idealize.SL.Sem Cert.QProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 4 of the contraction: the accumulator before it, plus its 512 products. -/
theorem acc3 (m : Fin 128) (n : Fin 256) :
    kernelRun0_A.sl.r_384 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_289 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (1536 + ρ) := by
  unfold kernelRun0_A.sl.r_384
  unfold k0_pay610
  refine congrArg (_ + ·) ?_
  refine (step512_apply _ (W2 x1 x2 x3 x4 x5 x6 x7 x8) 1536 _ ?h ?r m n).trans ?e
  case r =>
    refine Planes.cons ?_ (Planes.cons ?_ Planes.nil)
    · intro ρ q
      refine concat_rows (K := 512) (W x1 x2 x3 x4 x5 x6 x7 x8 0) 1536 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 1536 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 1536 (by decide) (by decide) m k)).trans ?_
    exact Fin.sum_univ_eq_sum_range (fun k => term x0 x1 x2 x3 x4 x5 x6 x7 x8 m n (1536 + k)) 512

/-- Step 5 of the contraction: the accumulator before it, plus its 512 products. -/
theorem acc4 (m : Fin 128) (n : Fin 256) :
    kernelRun0_A.sl.r_479 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_384 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (2048 + ρ) := by
  unfold kernelRun0_A.sl.r_479
  unfold k0_pay758
  refine congrArg (_ + ·) ?_
  refine (step512_apply _ (W2 x1 x2 x3 x4 x5 x6 x7 x8) 2048 _ ?h ?r m n).trans ?e
  case r =>
    refine Planes.cons ?_ (Planes.cons ?_ Planes.nil)
    · intro ρ q
      refine concat_rows (K := 512) (W x1 x2 x3 x4 x5 x6 x7 x8 0) 2048 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 2048 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 2048 (by decide) (by decide) m k)).trans ?_
    exact Fin.sum_univ_eq_sum_range (fun k => term x0 x1 x2 x3 x4 x5 x6 x7 x8 m n (2048 + k)) 512

/-- Step 6 of the contraction: the accumulator before it, plus its 512 products. -/
theorem acc5 (m : Fin 128) (n : Fin 256) :
    kernelRun0_A.sl.r_572 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_479 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (2560 + ρ) := by
  unfold kernelRun0_A.sl.r_572
  unfold k0_pay905
  refine congrArg (_ + ·) ?_
  refine (step512_apply _ (W2 x1 x2 x3 x4 x5 x6 x7 x8) 2560 _ ?h ?r m n).trans ?e
  case r =>
    refine Planes.cons ?_ (Planes.cons ?_ Planes.nil)
    · intro ρ q
      refine concat_rows (K := 512) (W x1 x2 x3 x4 x5 x6 x7 x8 0) 2560 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 2560 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 2560 (by decide) (by decide) m k)).trans ?_
    exact Fin.sum_univ_eq_sum_range (fun k => term x0 x1 x2 x3 x4 x5 x6 x7 x8 m n (2560 + k)) 512

end Cert.QProjIdeal
-- ==== Proof.QProjAcc2.lean ====
/- The query projection's accumulator, steps 7 to 9. -/
module

public import proofs.«01_k».proof.Proof.QProjDot

@[expose] public section

set_option maxRecDepth 16384
set_option maxHeartbeats 400000

noncomputable section

namespace Cert.QProjIdeal

open Idealize.ShloMosaic Idealize.ShloMosaic.TcCoe Idealize.SL.Sem Cert.QProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 7 of the contraction: the accumulator before it, plus its 512 products. -/
theorem acc6 (m : Fin 128) (n : Fin 256) :
    kernelRun0_A.sl.r_666 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_572 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (3072 + ρ) := by
  unfold kernelRun0_A.sl.r_666
  unfold k0_pay1043
  refine congrArg (_ + ·) ?_
  refine (step512_apply _ (W2 x1 x2 x3 x4 x5 x6 x7 x8) 3072 _ ?h ?r m n).trans ?e
  case r =>
    refine Planes.cons ?_ (Planes.cons ?_ Planes.nil)
    · intro ρ q
      refine concat_rows (K := 512) (W x1 x2 x3 x4 x5 x6 x7 x8 0) 3072 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 3072 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 3072 (by decide) (by decide) m k)).trans ?_
    exact Fin.sum_univ_eq_sum_range (fun k => term x0 x1 x2 x3 x4 x5 x6 x7 x8 m n (3072 + k)) 512

/-- Step 8 of the contraction: the accumulator before it, plus its 512 products. -/
theorem acc7 (m : Fin 128) (n : Fin 256) :
    kernelRun0_A.sl.r_762 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_666 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (3584 + ρ) := by
  unfold kernelRun0_A.sl.r_762
  unfold k0_pay1187
  refine congrArg (_ + ·) ?_
  refine (step512_apply _ (W2 x1 x2 x3 x4 x5 x6 x7 x8) 3584 _ ?h ?r m n).trans ?e
  case r =>
    refine Planes.cons ?_ (Planes.cons ?_ Planes.nil)
    · intro ρ q
      refine concat_rows (K := 512) (W x1 x2 x3 x4 x5 x6 x7 x8 0) 3584 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 3584 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 3584 (by decide) (by decide) m k)).trans ?_
    exact Fin.sum_univ_eq_sum_range (fun k => term x0 x1 x2 x3 x4 x5 x6 x7 x8 m n (3584 + k)) 512

/-- Step 9 of the contraction: the accumulator before it, plus its 512 products. -/
theorem acc8 (m : Fin 128) (n : Fin 256) :
    kernelRun0_A.sl.r_860 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_762 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (4096 + ρ) := by
  unfold kernelRun0_A.sl.r_860
  unfold k0_pay1334
  refine congrArg (_ + ·) ?_
  refine (step512_apply _ (W2 x1 x2 x3 x4 x5 x6 x7 x8) 4096 _ ?h ?r m n).trans ?e
  case r =>
    refine Planes.cons ?_ (Planes.cons ?_ Planes.nil)
    · intro ρ q
      refine concat_rows (K := 512) (W x1 x2 x3 x4 x5 x6 x7 x8 0) 4096 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 4096 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 4096 (by decide) (by decide) m k)).trans ?_
    exact Fin.sum_univ_eq_sum_range (fun k => term x0 x1 x2 x3 x4 x5 x6 x7 x8 m n (4096 + k)) 512

end Cert.QProjIdeal
-- ==== Proof.QProjAcc3.lean ====
/- The query projection's accumulator, steps 10 to 12. -/
module

public import proofs.«01_k».proof.Proof.QProjDot

@[expose] public section

set_option maxRecDepth 16384
set_option maxHeartbeats 400000

noncomputable section

namespace Cert.QProjIdeal

open Idealize.ShloMosaic Idealize.ShloMosaic.TcCoe Idealize.SL.Sem Cert.QProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 10 of the contraction: the accumulator before it, plus its 512 products. -/
theorem acc9 (m : Fin 128) (n : Fin 256) :
    kernelRun0_A.sl.r_956 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_860 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (4608 + ρ) := by
  unfold kernelRun0_A.sl.r_956
  unfold k0_pay1478
  unfold kernelRun0_A.sl.r_955 kernelRun0_A.sl.r_954
  unfold k0_pay1477
  refine congrArg (_ + ·) ?_
  refine (step512_apply _ (W2 x1 x2 x3 x4 x5 x6 x7 x8) 4608 _ ?h ?r m n).trans ?e
  case r =>
    refine Planes.cons ?_ (Planes.cons ?_ Planes.nil)
    · intro ρ q
      refine concat_rows (K := 512) (W x1 x2 x3 x4 x5 x6 x7 x8 0) 4608 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 4608 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 4608 (by decide) (by decide) m k)).trans ?_
    exact Fin.sum_univ_eq_sum_range (fun k => term x0 x1 x2 x3 x4 x5 x6 x7 x8 m n (4608 + k)) 512

/-- Step 11 of the contraction: the accumulator before it, plus its 512 products. -/
theorem acc10 (m : Fin 128) (n : Fin 256) :
    kernelRun0_A.sl.r_1043 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_956 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (5120 + ρ) := by
  unfold kernelRun0_A.sl.r_1043
  unfold k0_pay1616
  refine congrArg (_ + ·) ?_
  refine (step512_apply _ (W2 x1 x2 x3 x4 x5 x6 x7 x8) 5120 _ ?h ?r m n).trans ?e
  case r =>
    refine Planes.cons ?_ (Planes.cons ?_ Planes.nil)
    · intro ρ q
      refine concat_rows (K := 512) (W x1 x2 x3 x4 x5 x6 x7 x8 0) 5120 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 5120 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 5120 (by decide) (by decide) m k)).trans ?_
    exact Fin.sum_univ_eq_sum_range (fun k => term x0 x1 x2 x3 x4 x5 x6 x7 x8 m n (5120 + k)) 512

/-- Step 12 of the contraction: the accumulator before it, plus its 512 products. -/
theorem acc11 (m : Fin 128) (n : Fin 256) :
    kernelRun0_A.sl.r_1136 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1043 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (5632 + ρ) := by
  unfold kernelRun0_A.sl.r_1136
  unfold k0_pay1761
  refine congrArg (_ + ·) ?_
  refine (step512_apply _ (W2 x1 x2 x3 x4 x5 x6 x7 x8) 5632 _ ?h ?r m n).trans ?e
  case r =>
    refine Planes.cons ?_ (Planes.cons ?_ Planes.nil)
    · intro ρ q
      refine concat_rows (K := 512) (W x1 x2 x3 x4 x5 x6 x7 x8 0) 5632 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 5632 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 5632 (by decide) (by decide) m k)).trans ?_
    exact Fin.sum_univ_eq_sum_range (fun k => term x0 x1 x2 x3 x4 x5 x6 x7 x8 m n (5632 + k)) 512

end Cert.QProjIdeal
-- ==== Proof.QProjAcc4.lean ====
/- The query projection's accumulator, steps 13 to 15. -/
module

public import proofs.«01_k».proof.Proof.QProjDot

@[expose] public section

set_option maxRecDepth 16384
set_option maxHeartbeats 400000

noncomputable section

namespace Cert.QProjIdeal

open Idealize.ShloMosaic Idealize.ShloMosaic.TcCoe Idealize.SL.Sem Cert.QProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 13 of the contraction: the accumulator before it, plus its 512 products. -/
theorem acc12 (m : Fin 128) (n : Fin 256) :
    kernelRun0_A.sl.r_1229 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1136 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (6144 + ρ) := by
  unfold kernelRun0_A.sl.r_1229
  unfold k0_pay1908
  refine congrArg (_ + ·) ?_
  refine (step512_apply _ (W2 x1 x2 x3 x4 x5 x6 x7 x8) 6144 _ ?h ?r m n).trans ?e
  case r =>
    refine Planes.cons ?_ (Planes.cons ?_ Planes.nil)
    · intro ρ q
      refine concat_rows (K := 512) (W x1 x2 x3 x4 x5 x6 x7 x8 0) 6144 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 6144 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 6144 (by decide) (by decide) m k)).trans ?_
    exact Fin.sum_univ_eq_sum_range (fun k => term x0 x1 x2 x3 x4 x5 x6 x7 x8 m n (6144 + k)) 512

/-- Step 14 of the contraction: the accumulator before it, plus its 512 products. -/
theorem acc13 (m : Fin 128) (n : Fin 256) :
    kernelRun0_A.sl.r_1324 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1229 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (6656 + ρ) := by
  unfold kernelRun0_A.sl.r_1324
  unfold k0_pay2053
  refine congrArg (_ + ·) ?_
  refine (step512_apply _ (W2 x1 x2 x3 x4 x5 x6 x7 x8) 6656 _ ?h ?r m n).trans ?e
  case r =>
    refine Planes.cons ?_ (Planes.cons ?_ Planes.nil)
    · intro ρ q
      refine concat_rows (K := 512) (W x1 x2 x3 x4 x5 x6 x7 x8 0) 6656 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 6656 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 6656 (by decide) (by decide) m k)).trans ?_
    exact Fin.sum_univ_eq_sum_range (fun k => term x0 x1 x2 x3 x4 x5 x6 x7 x8 m n (6656 + k)) 512

/-- Step 15 of the contraction: the accumulator before it, plus its 512 products. -/
theorem acc14 (m : Fin 128) (n : Fin 256) :
    kernelRun0_A.sl.r_1417 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1324 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (7168 + ρ) := by
  unfold kernelRun0_A.sl.r_1417
  unfold k0_pay2192
  refine congrArg (_ + ·) ?_
  refine (step512_apply _ (W2 x1 x2 x3 x4 x5 x6 x7 x8) 7168 _ ?h ?r m n).trans ?e
  case r =>
    refine Planes.cons ?_ (Planes.cons ?_ Planes.nil)
    · intro ρ q
      refine concat_rows (K := 512) (W x1 x2 x3 x4 x5 x6 x7 x8 0) 7168 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 7168 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 7168 (by decide) (by decide) m k)).trans ?_
    exact Fin.sum_univ_eq_sum_range (fun k => term x0 x1 x2 x3 x4 x5 x6 x7 x8 m n (7168 + k)) 512

end Cert.QProjIdeal
-- ==== Proof.QProjBlock.lean ====
/- One block of the query projection: what the kernel's grid point leaves in its block of the result, at an index. -/
module

public import proofs.«01_k».proof.Proof.QProjAcc0
public import proofs.«01_k».proof.Proof.QProjAcc1
public import proofs.«01_k».proof.Proof.QProjAcc2
public import proofs.«01_k».proof.Proof.QProjAcc3
public import proofs.«01_k».proof.Proof.QProjAcc4
public import proofs.«01_k».proof.Proof.Linear
public import proofs.«01_k».proof.Proof.Planes

@[expose] public section

set_option maxRecDepth 16384
set_option maxHeartbeats 1000000

noncomputable section

namespace Cert.QProjIdeal

open Idealize.ShloMosaic Idealize.ShloMosaic.TcCoe Idealize.SL.Sem Cert.QProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- A sum over 512 rows more. -/
theorem sum_more {s t : EReal} (f : ℕ → EReal) (b : ℕ) (hs : s = t + ∑ ρ ∈ Finset.range 512, f (b + ρ)) (ht : t = ∑ ρ ∈ Finset.range b, f ρ) :
    s = ∑ ρ ∈ Finset.range (b + 512), f ρ := by
  rw [hs, ht, Finset.sum_range_add]

/-- The accumulator before the last step. -/
theorem acc_all (m : Fin 128) (n : Fin 256) :
    kernelRun0_A.sl.r_1417 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = ∑ ρ ∈ Finset.range 7680, term x0 x1 x2 x3 x4 x5 x6 x7 x8 m n ρ := by
  have s0 := acc0 c arg2 harg2 arg3 harg3 arg4 harg4 arg5 harg5 arg6 harg6 arg7 harg7 arg8 harg8 arg9 harg9 arg11 arg12 arg13 x1 x2 x3 x4 x5 x6 x7 x8 arg1 harg1 x0 m n
  simp only [Nat.zero_add] at s0
  have s1 := sum_more _ 512 (acc1 c arg2 harg2 arg3 harg3 arg4 harg4 arg5 harg5 arg6 harg6 arg7 harg7 arg8 harg8 arg9 harg9 arg11 arg12 arg13 x1 x2 x3 x4 x5 x6 x7 x8 arg1 harg1 x0 m n) s0
  have s2 := sum_more _ 1024 (acc2 c arg2 harg2 arg3 harg3 arg4 harg4 arg5 harg5 arg6 harg6 arg7 harg7 arg8 harg8 arg9 harg9 arg11 arg12 arg13 x1 x2 x3 x4 x5 x6 x7 x8 arg1 harg1 x0 m n) s1
  have s3 := sum_more _ 1536 (acc3 c arg2 harg2 arg3 harg3 arg4 harg4 arg5 harg5 arg6 harg6 arg7 harg7 arg8 harg8 arg9 harg9 arg11 arg12 arg13 x1 x2 x3 x4 x5 x6 x7 x8 arg1 harg1 x0 m n) s2
  have s4 := sum_more _ 2048 (acc4 c arg2 harg2 arg3 harg3 arg4 harg4 arg5 harg5 arg6 harg6 arg7 harg7 arg8 harg8 arg9 harg9 arg11 arg12 arg13 x1 x2 x3 x4 x5 x6 x7 x8 arg1 harg1 x0 m n) s3
  have s5 := sum_more _ 2560 (acc5 c arg2 harg2 arg3 harg3 arg4 harg4 arg5 harg5 arg6 harg6 arg7 harg7 arg8 harg8 arg9 harg9 arg11 arg12 arg13 x1 x2 x3 x4 x5 x6 x7 x8 arg1 harg1 x0 m n) s4
  have s6 := sum_more _ 3072 (acc6 c arg2 harg2 arg3 harg3 arg4 harg4 arg5 harg5 arg6 harg6 arg7 harg7 arg8 harg8 arg9 harg9 arg11 arg12 arg13 x1 x2 x3 x4 x5 x6 x7 x8 arg1 harg1 x0 m n) s5
  have s7 := sum_more _ 3584 (acc7 c arg2 harg2 arg3 harg3 arg4 harg4 arg5 harg5 arg6 harg6 arg7 harg7 arg8 harg8 arg9 harg9 arg11 arg12 arg13 x1 x2 x3 x4 x5 x6 x7 x8 arg1 harg1 x0 m n) s6
  have s8 := sum_more _ 4096 (acc8 c arg2 harg2 arg3 harg3 arg4 harg4 arg5 harg5 arg6 harg6 arg7 harg7 arg8 harg8 arg9 harg9 arg11 arg12 arg13 x1 x2 x3 x4 x5 x6 x7 x8 arg1 harg1 x0 m n) s7
  have s9 := sum_more _ 4608 (acc9 c arg2 harg2 arg3 harg3 arg4 harg4 arg5 harg5 arg6 harg6 arg7 harg7 arg8 harg8 arg9 harg9 arg11 arg12 arg13 x1 x2 x3 x4 x5 x6 x7 x8 arg1 harg1 x0 m n) s8
  have s10 := sum_more _ 5120 (acc10 c arg2 harg2 arg3 harg3 arg4 harg4 arg5 harg5 arg6 harg6 arg7 harg7 arg8 harg8 arg9 harg9 arg11 arg12 arg13 x1 x2 x3 x4 x5 x6 x7 x8 arg1 harg1 x0 m n) s9
  have s11 := sum_more _ 5632 (acc11 c arg2 harg2 arg3 harg3 arg4 harg4 arg5 harg5 arg6 harg6 arg7 harg7 arg8 harg8 arg9 harg9 arg11 arg12 arg13 x1 x2 x3 x4 x5 x6 x7 x8 arg1 harg1 x0 m n) s10
  have s12 := sum_more _ 6144 (acc12 c arg2 harg2 arg3 harg3 arg4 harg4 arg5 harg5 arg6 harg6 arg7 harg7 arg8 harg8 arg9 harg9 arg11 arg12 arg13 x1 x2 x3 x4 x5 x6 x7 x8 arg1 harg1 x0 m n) s11
  have s13 := sum_more _ 6656 (acc13 c arg2 harg2 arg3 harg3 arg4 harg4 arg5 harg5 arg6 harg6 arg7 harg7 arg8 harg8 arg9 harg9 arg11 arg12 arg13 x1 x2 x3 x4 x5 x6 x7 x8 arg1 harg1 x0 m n) s12
  have s14 := sum_more _ 7168 (acc14 c arg2 harg2 arg3 harg3 arg4 harg4 arg5 harg5 arg6 harg6 arg7 harg7 arg8 harg8 arg9 harg9 arg11 arg12 arg13 x1 x2 x3 x4 x5 x6 x7 x8 arg1 harg1 x0 m n) s13
  exact s14

/-- The block's result: the contraction over all 256 groups. -/
theorem out_apply (p : grid0.Coords) (arg10 : Memref sig .tc .vmem S128x256 .f32) (harg10 : arg10.IsWhole)
    (harg11 : arg11.IsWhole) (harg12 : arg12.IsWhole) (harg13 : arg13.IsWhole) (m : Fin 128) (n : Fin 256) :
    out0_A_9 (F := Ideal) c p arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 m n)
      = ∑ ρ ∈ Finset.range 8192, term x0 x1 x2 x3 x4 x5 x6 x7 x8 m n ρ := by
  unfold out0_A_9
  delta kernelRun0_A
  refine (congrFun (read_whole (A := 128) (B := 256) _ _ _ _) _).trans ?_
  unfold k0_pay1
  refine sum_more (fun ρ => term x0 x1 x2 x3 x4 x5 x6 x7 x8 m n ρ) 7680 ?_ (acc_all c arg2 harg2 arg3 harg3 arg4 harg4 arg5 harg5 arg6 harg6 arg7 harg7 arg8 harg8 arg9 harg9 arg11 arg12 arg13 x1 x2 x3 x4 x5 x6 x7 x8 arg1 harg1 x0 m n)
  refine congrArg (_ + ·) ?_
  refine (step512_apply _ (W2 x1 x2 x3 x4 x5 x6 x7 x8) 7680 _ ?h ?r m n).trans ?e
  case h =>
    show Shape.Concatenates [S512x128, S512x128] S512x256 1
    decide
  case r =>
    refine Planes.cons ?_ (Planes.cons ?_ Planes.nil)
    · intro ρ q
      refine concat_rows (K := 512) (W x1 x2 x3 x4 x5 x6 x7 x8 0) 7680 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 7680 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 7680 (by decide) (by decide) m k)).trans ?_
    exact Fin.sum_univ_eq_sum_range (fun k => term x0 x1 x2 x3 x4 x5 x6 x7 x8 m n (7680 + k)) 512

end Cert.QProjIdeal
-- ==== Proof.QProjValue.lean ====
/- The query projection's result array: at every index the quantised linear map. -/
module

public import proofs.«01_k».proof.Proof.QProjBlock
public import proofs.«01_k».proof.Proof.Linear
public import Idealize.ShloMosaic.Lib.Pointwise

@[expose] public section

set_option maxRecDepth 16384

noncomputable section

namespace Cert.QProjIdeal

open Idealize.ShloMosaic Idealize.ShloMosaic.TcCoe Idealize.SL.Sem Cert.QProjIdeal.Gen Cert.QProjIdeal.Value Q4

variable (m : (ℓ : Loc nD τ sig) → Buf (Elt Ideal) ℓ) (ρ : Dev nD → PrngReg)

/-- The arguments as arrays. -/
abbrev argH (c : Dev nD) : FVec Ideal S128x8192 .bf16 := m ((c : Thread nD τ).loc main_arg0)
abbrev argC (c : Dev nD) : IVec S1024x256x16 8 := m ((c : Thread nD τ).loc main_arg1)
abbrev argS (c : Dev nD) : FVec Ideal S1024x256 .bf16 := m ((c : Thread nD τ).loc main_arg2)
abbrev argZ (c : Dev nD) : FVec Ideal S1024x256 .bf16 := m ((c : Thread nD τ).loc main_arg3)

theorem V_v2 (c : Dev nD) : V m c main_v2 = shapeCast S128x8192 (transpose S128x256x16x2 [0, 1, 3, 2] (shapeCast S128x256x2x16 (argH m c) shapeCasts_S128x8192_S128x256x2x16)
    transposes_S128x256x2x16_S128x256x16x2_0_1_3_2) shapeCasts_S128x256x16x2_S128x8192 := by
  show StableHlo.after hostOps0 _ (Proc.devRef .tc main_v2) = _
  after_results
  rfl

theorem V_v3 (c : Dev nD) : V m c main_v3 = transpose S1024x16x256 [0, 2, 1] (argC m c) transposes_S1024x256x16_S1024x16x256_0_2_1 := by
  show StableHlo.after hostOps0 _ (Proc.devRef .tc main_v3) = _
  after_results

theorem V_v4 (c : Dev nD) : V m c main_v4 = transpose S1024x16x256 [0, 2, 1] (argC m c) transposes_S1024x256x16_S1024x16x256_0_2_1 := by
  show StableHlo.after hostOps0 _ (Proc.devRef .tc main_v4) = _
  after_results

theorem V_v2_apply (c : Dev nD) (r : Fin 128) (k : Fin 8192) : V m c main_v2 (ix2 r k) = act (argH m c) r k.val := by
  rw [V_v2]
  unfold act
  pointwise
  refine congrArg (argH m c) (congrArg (ix2 r) (Fin.ext ?_))
  rw [Fin.val_ofNat, Nat.mod_eq_of_lt (col_lt 256 k.val k.isLt)]
  exact col_eq k.val

theorem V_v3_apply (c : Dev nD) (n : Fin 1024) (j : Fin 16) (g : Fin 256) : V m c main_v3 (ix3 n j g) = argC m c (ix3 n g j) := by
  rw [V_v3]
  pointwise

theorem V_v4_apply (c : Dev nD) (n : Fin 1024) (j : Fin 16) (g : Fin 256) : V m c main_v4 (ix3 n j g) = argC m c (ix3 n g j) := by
  rw [V_v4]
  pointwise

/-- Where each window's block lies. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = 2 * t.val ∧ win0_1.index t (1 : Fin 3) = 0 ∧ win0_1.index t (2 : Fin 3) = 0 := (by decide +kernel : ∀ t : Fin grid0.N, _)
theorem idx2 : ∀ t : Fin cfg0.N, win0_2.index t (0 : Fin 3) = 2 * t.val ∧ win0_2.index t (1 : Fin 3) = 0 ∧ win0_2.index t (2 : Fin 3) = 1 := (by decide +kernel : ∀ t : Fin grid0.N, _)
theorem idx5 : ∀ t : Fin cfg0.N, win0_5.index t (0 : Fin 3) = 2 * t.val + 1 ∧ win0_5.index t (1 : Fin 3) = 0 ∧ win0_5.index t (2 : Fin 3) = 0 := (by decide +kernel : ∀ t : Fin grid0.N, _)
theorem idx6 : ∀ t : Fin cfg0.N, win0_6.index t (0 : Fin 3) = 2 * t.val + 1 ∧ win0_6.index t (1 : Fin 3) = 0 ∧ win0_6.index t (2 : Fin 3) = 1 := (by decide +kernel : ∀ t : Fin grid0.N, _)
theorem idx3 : ∀ t : Fin cfg0.N, win0_3.index t (0 : Fin 2) = 2 * t.val ∧ win0_3.index t (1 : Fin 2) = 0 := (by decide +kernel : ∀ t : Fin grid0.N, _)
theorem idx4 : ∀ t : Fin cfg0.N, win0_4.index t (0 : Fin 2) = 2 * t.val ∧ win0_4.index t (1 : Fin 2) = 0 := (by decide +kernel : ∀ t : Fin grid0.N, _)
theorem idx7 : ∀ t : Fin cfg0.N, win0_7.index t (0 : Fin 2) = 2 * t.val + 1 ∧ win0_7.index t (1 : Fin 2) = 0 := (by decide +kernel : ∀ t : Fin grid0.N, _)
theorem idx8 : ∀ t : Fin cfg0.N, win0_8.index t (0 : Fin 2) = 2 * t.val + 1 ∧ win0_8.index t (1 : Fin 2) = 0 := (by decide +kernel : ∀ t : Fin grid0.N, _)
theorem idx9 : ∀ t : Fin cfg0.N, win0_9.index t (0 : Fin 2) = 0 ∧ win0_9.index t (1 : Fin 2) = t.val := (by decide +kernel : ∀ t : Fin grid0.N, _)

theorem lt4 (t : Fin cfg0.N) : t.val < 4 := t.isLt

/-- The column of the linear map that column `n` of part `p` of point `t`'s block is. -/
def colAt (t : Fin cfg0.N) (p : Fin 2) (n : Fin 128) : Fin 1024 := ⟨256 * t.val + 128 * p.val + n.val, by have := lt4 t; omega⟩

theorem blk0 (c : Dev nD) (t : Fin cfg0.N) (r : Fin 128) (k : Fin 8192) : iblk m c 0 t (ix2 r k) = act (argH m c) r k.val := by
  obtain ⟨e0, e1⟩ := idx0 t
  rw [← V_v2_apply]
  refine congrArg (V m c main_v2) (funext fun a => Fin.ext ?_)
  match a with
  | ⟨0, _⟩ => show win0_0.index t (0 : Fin 2) * 128 + 1 * r.val = r.val; omega
  | ⟨1, _⟩ => show win0_0.index t (1 : Fin 2) * 8192 + 1 * k.val = k.val; omega

theorem blk1 (c : Dev nD) (t : Fin cfg0.N) (n : Fin 128) (j : Fin 16) (g : Fin 128) :
    iblk m c 1 t (ix3 n j g) = argC m c (ix3 (colAt t 0 n) ⟨128 * 0 + g.val, by omega⟩ j) := by
  obtain ⟨e0, e1, e2⟩ := idx1 t
  rw [← V_v3_apply]
  refine congrArg (V m c main_v3) (funext fun a => Fin.ext ?_)
  match a with
  | ⟨0, _⟩ => show win0_1.index t (0 : Fin 3) * 128 + 1 * n.val = 256 * t.val + 128 * 0 + n.val; omega
  | ⟨1, _⟩ => show win0_1.index t (1 : Fin 3) * 16 + 1 * j.val = j.val; omega
  | ⟨2, _⟩ => show win0_1.index t (2 : Fin 3) * 128 + 1 * g.val = 128 * 0 + g.val; omega

theorem blk2 (c : Dev nD) (t : Fin cfg0.N) (n : Fin 128) (j : Fin 16) (g : Fin 128) :
    iblk m c 2 t (ix3 n j g) = argC m c (ix3 (colAt t 0 n) ⟨128 * 1 + g.val, by omega⟩ j) := by
  obtain ⟨e0, e1, e2⟩ := idx2 t
  rw [← V_v3_apply]
  refine congrArg (V m c main_v3) (funext fun a => Fin.ext ?_)
  match a with
  | ⟨0, _⟩ => show win0_2.index t (0 : Fin 3) * 128 + 1 * n.val = 256 * t.val + 128 * 0 + n.val; omega
  | ⟨1, _⟩ => show win0_2.index t (1 : Fin 3) * 16 + 1 * j.val = j.val; omega
  | ⟨2, _⟩ => show win0_2.index t (2 : Fin 3) * 128 + 1 * g.val = 128 * 1 + g.val; omega

theorem blk5 (c : Dev nD) (t : Fin cfg0.N) (n : Fin 128) (j : Fin 16) (g : Fin 128) :
    iblk m c 5 t (ix3 n j g) = argC m c (ix3 (colAt t 1 n) ⟨128 * 0 + g.val, by omega⟩ j) := by
  obtain ⟨e0, e1, e2⟩ := idx5 t
  rw [← V_v4_apply]
  refine congrArg (V m c main_v4) (funext fun a => Fin.ext ?_)
  match a with
  | ⟨0, _⟩ => show win0_5.index t (0 : Fin 3) * 128 + 1 * n.val = 256 * t.val + 128 * 1 + n.val; omega
  | ⟨1, _⟩ => show win0_5.index t (1 : Fin 3) * 16 + 1 * j.val = j.val; omega
  | ⟨2, _⟩ => show win0_5.index t (2 : Fin 3) * 128 + 1 * g.val = 128 * 0 + g.val; omega

theorem blk6 (c : Dev nD) (t : Fin cfg0.N) (n : Fin 128) (j : Fin 16) (g : Fin 128) :
    iblk m c 6 t (ix3 n j g) = argC m c (ix3 (colAt t 1 n) ⟨128 * 1 + g.val, by omega⟩ j) := by
  obtain ⟨e0, e1, e2⟩ := idx6 t
  rw [← V_v4_apply]
  refine congrArg (V m c main_v4) (funext fun a => Fin.ext ?_)
  match a with
  | ⟨0, _⟩ => show win0_6.index t (0 : Fin 3) * 128 + 1 * n.val = 256 * t.val + 128 * 1 + n.val; omega
  | ⟨1, _⟩ => show win0_6.index t (1 : Fin 3) * 16 + 1 * j.val = j.val; omega
  | ⟨2, _⟩ => show win0_6.index t (2 : Fin 3) * 128 + 1 * g.val = 128 * 1 + g.val; omega

theorem blk3 (c : Dev nD) (t : Fin cfg0.N) (n : Fin 128) (g : Fin 256) : iblk m c 3 t (ix2 n g) = argS m c (ix2 (colAt t 0 n) g) := by
  obtain ⟨e0, e1⟩ := idx3 t
  show V m c main_arg2 _ = _
  rw [V_main_arg2]
  refine congrArg (argS m c) (funext fun a => Fin.ext ?_)
  match a with
  | ⟨0, _⟩ => show win0_3.index t (0 : Fin 2) * 128 + 1 * n.val = 256 * t.val + 128 * 0 + n.val; omega
  | ⟨1, _⟩ => show win0_3.index t (1 : Fin 2) * 256 + 1 * g.val = g.val; omega

theorem blk4 (c : Dev nD) (t : Fin cfg0.N) (n : Fin 128) (g : Fin 256) : iblk m c 4 t (ix2 n g) = argZ m c (ix2 (colAt t 0 n) g) := by
  obtain ⟨e0, e1⟩ := idx4 t
  show V m c main_arg3 _ = _
  rw [V_main_arg3]
  refine congrArg (argZ m c) (funext fun a => Fin.ext ?_)
  match a with
  | ⟨0, _⟩ => show win0_4.index t (0 : Fin 2) * 128 + 1 * n.val = 256 * t.val + 128 * 0 + n.val; omega
  | ⟨1, _⟩ => show win0_4.index t (1 : Fin 2) * 256 + 1 * g.val = g.val; omega

theorem blk7 (c : Dev nD) (t : Fin cfg0.N) (n : Fin 128) (g : Fin 256) : iblk m c 7 t (ix2 n g) = argS m c (ix2 (colAt t 1 n) g) := by
  obtain ⟨e0, e1⟩ := idx7 t
  show V m c main_arg2 _ = _
  rw [V_main_arg2]
  refine congrArg (argS m c) (funext fun a => Fin.ext ?_)
  match a with
  | ⟨0, _⟩ => show win0_7.index t (0 : Fin 2) * 128 + 1 * n.val = 256 * t.val + 128 * 1 + n.val; omega
  | ⟨1, _⟩ => show win0_7.index t (1 : Fin 2) * 256 + 1 * g.val = g.val; omega

theorem blk8 (c : Dev nD) (t : Fin cfg0.N) (n : Fin 128) (g : Fin 256) : iblk m c 8 t (ix2 n g) = argZ m c (ix2 (colAt t 1 n) g) := by
  obtain ⟨e0, e1⟩ := idx8 t
  show V m c main_arg3 _ = _
  rw [V_main_arg3]
  refine congrArg (argZ m c) (funext fun a => Fin.ext ?_)
  match a with
  | ⟨0, _⟩ => show win0_8.index t (0 : Fin 2) * 128 + 1 * n.val = 256 * t.val + 128 * 1 + n.val; omega
  | ⟨1, _⟩ => show win0_8.index t (1 : Fin 2) * 256 + 1 * g.val = g.val; omega

/-- The column of the linear map that column `n` of point `t`'s block is. -/
def colOf (t : Fin cfg0.N) (n : Fin 256) : Fin 1024 := ⟨256 * t.val + n.val, by have := lt4 t; omega⟩

theorem emb9 (t : Fin cfg0.N) (r : Fin 128) (n : Fin 256) : ((cfg0.win 9).blk t).view.emb (ix2 r n) = (ix2 r (colOf t n) : S128x1024.Idx) := by
  obtain ⟨e0, e1⟩ := idx9 t
  funext a; apply Fin.ext
  match a with
  | ⟨0, _⟩ => show win0_9.index t (0 : Fin 2) * 128 + 1 * r.val = r.val; omega
  | ⟨1, _⟩ => show win0_9.index t (1 : Fin 2) * 256 + 1 * n.val = 256 * t.val + n.val; omega

/-- The weights that the kernel forms from its blocks are the dequantised weights, where the blocks hold the codes,
    scales and minima. -/
theorem weights_of (x1 x2 : Vec Ideal S128x16x128 .i8) (x3 x4 : Vec Ideal S128x256 .bf16) (x5 x6 : Vec Ideal S128x16x128 .i8) (x7 x8 : Vec Ideal S128x256 .bf16)
    (C : IVec S1024x256x16 8) (S Z : FVec Ideal S1024x256 .bf16) (p : Fin 2) (t : Fin cfg0.N)
    (h0 : ∀ (n : Fin 128) (j : Fin 16) (g : Fin 128), blkOf x1 x2 x5 x6 p 0 (ix3 n j g) = C (ix3 (colAt t p n) ⟨128 * 0 + g.val, by omega⟩ j))
    (h1 : ∀ (n : Fin 128) (j : Fin 16) (g : Fin 128), blkOf x1 x2 x5 x6 p 1 (ix3 n j g) = C (ix3 (colAt t p n) ⟨128 * 1 + g.val, by omega⟩ j))
    (hS : ∀ (n : Fin 128) (g : Fin 256), sOf x3 x7 p (ix2 n g) = S (ix2 (colAt t p n) g))
    (hZ : ∀ (n : Fin 128) (g : Fin 256), sOf x4 x8 p (ix2 n g) = Z (ix2 (colAt t p n) g))
    (q : Fin 128) (k : ℕ) (hk : k < 8192) :
    W x1 x2 x3 x4 x5 x6 x7 x8 p k q = wt C S Z (colAt t p q) k := by
  have hC : blkOf x1 x2 x5 x6 p (k / 32 / 128) (ix3 q (Fin.ofNat 16 (k % 32 / 2)) (Fin.ofNat 128 (k / 32)))
      = C (ix3 (colAt t p q) (Fin.ofNat 256 (k / 32)) (Fin.ofNat 16 (k % 32 / 2))) := by
    rcases (by omega : k / 32 / 128 = 0 ∨ k / 32 / 128 = 1) with h | h
    · rw [h, h0]
      refine congrArg (fun g => C (ix3 _ g _)) (Fin.ext ?_)
      show 128 * 0 + k / 32 % 128 = k / 32 % 256
      omega
    · rw [h, h1]
      refine congrArg (fun g => C (ix3 _ g _)) (Fin.ext ?_)
      show 128 * 1 + k / 32 % 128 = k / 32 % 256
      omega
  unfold W weight bytesW scales wt
  beta_reduce
  rw [hS, hZ, hC]

/-- The weights at point `t`, the first 128 columns and the last. -/
theorem weights0 (c : Dev nD) (t : Fin cfg0.N) (q : Fin 128) (k : ℕ) (hk : k < 8192) :
    W (iblk m c 1 t) (iblk m c 2 t) (iblk m c 3 t) (iblk m c 4 t) (iblk m c 5 t) (iblk m c 6 t) (iblk m c 7 t) (iblk m c 8 t) 0 k q = wt (argC m c) (argS m c) (argZ m c) (colAt t 0 q) k :=
  weights_of _ _ _ _ _ _ _ _ _ _ _ 0 t (fun n j g => blk1 m c t n j g) (fun n j g => blk2 m c t n j g) (fun n g => blk3 m c t n g) (fun n g => blk4 m c t n g) q k hk

theorem weights1 (c : Dev nD) (t : Fin cfg0.N) (q : Fin 128) (k : ℕ) (hk : k < 8192) :
    W (iblk m c 1 t) (iblk m c 2 t) (iblk m c 3 t) (iblk m c 4 t) (iblk m c 5 t) (iblk m c 6 t) (iblk m c 7 t) (iblk m c 8 t) 1 k q = wt (argC m c) (argS m c) (argZ m c) (colAt t 1 q) k :=
  weights_of _ _ _ _ _ _ _ _ _ _ _ 1 t (fun n j g => blk5 m c t n j g) (fun n j g => blk6 m c t n j g) (fun n g => blk7 m c t n g) (fun n g => blk8 m c t n g) q k hk

/-- The weights of the block's column `n`. -/
theorem weights (c : Dev nD) (t : Fin cfg0.N) (n : Fin 256) (k : ℕ) (hk : k < 8192) :
    W2 (iblk m c 1 t) (iblk m c 2 t) (iblk m c 3 t) (iblk m c 4 t) (iblk m c 5 t) (iblk m c 6 t) (iblk m c 7 t) (iblk m c 8 t) (n.val / 128) k ⟨n.val % 128, Nat.mod_lt _ (by decide)⟩ = wt (argC m c) (argS m c) (argZ m c) (colOf t n) k := by
  rcases (by omega : n.val / 128 = 0 ∨ n.val / 128 = 1) with e | e
  · rw [e]
    refine (weights0 m c t _ k hk).trans (congrArg (fun x => wt _ _ _ x k) (Fin.ext ?_))
    show 256 * t.val + 128 * 0 + n.val % 128 = 256 * t.val + n.val
    omega
  · rw [e]
    refine (weights1 m c t _ k hk).trans (congrArg (fun x => wt _ _ _ x k) (Fin.ext ?_))
    show 256 * t.val + 128 * 1 + n.val % 128 = 256 * t.val + n.val
    omega

/-- The result array as one function of the arguments. -/
def G (c : Dev nD) : Vec Ideal S128x1024 .f32 := fun i => linear (argH m c) (argC m c) (argS m c) (argZ m c) (i 0) (i 1)

theorem flushed_eq (c : Dev nD) (t : Fin cfg0.N) :
    (dats m 0 c).flushed 9 t = ((cfg0.win 9).blk t).view.read (Elt Ideal) (G m c) := by
  rw [flushed9_A]
  funext i
  obtain ⟨r, n, rfl⟩ : ∃ (r : Fin 128) (n : Fin 256), i = ix2 r n := ⟨i 0, i 1, by funext a; match a with | ⟨0, _⟩ => rfl | ⟨1, _⟩ => rfl⟩
  show out0_A_9 (F := Ideal) _ _ _ _ _ _ _ _ _ _ _ _ _ _ _ _ _ _ _ _ _ _ _ _ _ _ _ _ _ _ _ _ _ _ _ _ _ (ix2 r n) = G m c (((cfg0.win 9).blk t).view.emb (ix2 r n))
  rw [emb9, out_apply]
  show _ = linear (argH m c) (argC m c) (argS m c) (argZ m c) r (colOf t n)
  unfold linear
  refine Finset.sum_congr rfl fun k hk => ?_
  have hk' : k < 8192 := Finset.mem_range.mp hk
  unfold term
  rw [blk0, Fin.val_ofNat, Nat.mod_eq_of_lt hk', weights m c t n k hk']

theorem covered (i : S128x1024.Idx) : ∃ t : Fin cfg0.N, (cfg0.win 9).flush t = true ∧ i ∈ ((cfg0.win 9).blk t).view.set := by
  obtain ⟨r, n, rfl⟩ : ∃ (r : Fin 128) (n : Fin 1024), i = ix2 r n := ⟨i 0, i 1, by funext a; match a with | ⟨0, _⟩ => rfl | ⟨1, _⟩ => rfl⟩
  have hn := n.isLt
  refine ⟨(⟨n.val / 256, by show _ < 4; omega⟩ : Fin cfg0.N), flush0_9 _, ?_⟩
  have h := ((cfg0.win 9).blk (⟨n.val / 256, by show _ < 4; omega⟩ : Fin cfg0.N)).view.emb_mem_set (ix2 r (⟨n.val % 256, Nat.mod_lt _ (by decide)⟩ : Fin 256))
  rw [emb9] at h
  have e : colOf (⟨n.val / 256, by show _ < 4; omega⟩ : Fin cfg0.N) ⟨n.val % 256, Nat.mod_lt _ (by decide)⟩ = n :=
    Fin.ext (by show 256 * (n.val / 256) + n.val % 256 = n.val; omega)
  rwa [e] at h

theorem final (c : Dev nD) : (dats m 0 c).arrAt 9 cfg0.N = G m c :=
  (dats m 0 c).arrAt_eq_of_cover 9 (G m c) (fun t _ => flushed_eq m c t) covered

end Cert.QProjIdeal
-- ==== Proof.QProjRef.lean ====
/- The reference query projection's result at an index. -/
module

public import proofs.«01_k».proof.Proof.Linear
public import proofs.«01_k».proof.Proof.Gen.QProjRefIdeal.Run
public import Idealize.ShloMosaic.Lib.Pointwise

@[expose] public section

set_option maxRecDepth 16384

noncomputable section

namespace Cert.QProjRefIdeal

open Idealize.ShloMosaic Idealize.ShloMosaic.TcCoe Cert.QProjRefIdeal.Gen Q4

/-- The reference's linear map as a term of its arguments. -/
def lin (o : FVec Ideal S128x8192 .bf16) (C : IVec S1024x256x16 8) (S Z : FVec Ideal S1024x256 .bf16) : FVec Ideal S128x1024 .f32 :=
  (addf (Host.dotGeneral dot_S128x256x16_S1024x256x16_S128x1024_12_12_0_0_n_n none (extractStridedSlice S128x256x16 ![0, 0, 0] (shapeCast _ o shapeCasts_S128x8192_S128x256x32) slices_S128x256x32_S128x256x16_0_0_0) (addf (mulf (sitofp .bf16 (andi (extui 32 C natLt_8_32) (broadcastInDim S1024x256x16 ![] bcast_S_S1024x256x16 (constantI S_ 32 15#32)))) (broadcastInDim S1024x256x16 ![0, 1, 2] bcast_S1024x256x1_S1024x256x16_0_1_2 (broadcastInDim S1024x256x1 ![0, 1] bcast_S1024x256_S1024x256x1_0_1 S))) (broadcastInDim S1024x256x16 ![0, 1, 2] bcast_S1024x256x1_S1024x256x16_0_1_2 (broadcastInDim S1024x256x1 ![0, 1] bcast_S1024x256_S1024x256x1_0_1 Z)))) (Host.dotGeneral dot_S128x256x16_S1024x256x16_S128x1024_12_12_0_0_n_n none (extractStridedSlice S128x256x16 ![0, 0, 16] (shapeCast _ o shapeCasts_S128x8192_S128x256x32) slices_S128x256x32_S128x256x16_0_0_16) (addf (mulf (sitofp .bf16 (Host.shrsi (extui 32 C natLt_8_32) (broadcastInDim S1024x256x16 ![] bcast_S_S1024x256x16 (constantI S_ 32 4#32)))) (broadcastInDim S1024x256x16 ![0, 1, 2] bcast_S1024x256x1_S1024x256x16_0_1_2 (broadcastInDim S1024x256x1 ![0, 1] bcast_S1024x256_S1024x256x1_0_1 S))) (broadcastInDim S1024x256x16 ![0, 1, 2] bcast_S1024x256x1_S1024x256x16_0_1_2 (broadcastInDim S1024x256x1 ![0, 1] bcast_S1024x256_S1024x256x1_0_1 Z)))))

/-- It is the quantised linear map. -/
theorem lin_apply (o : FVec Ideal S128x8192 .bf16) (C : IVec S1024x256x16 8) (S Z : FVec Ideal S1024x256 .bf16) (m : Fin 128) (n : Fin 1024) :
    lin o C S Z (ix2 m n) = linear o C S Z m n := by
  unfold lin
  pointwise
  have h := halves_linear (M := 128) (K := 8192) (N := 1024) (G := 256) (by decide) o C S Z m n (fun g j => by omega) (fun g j => by omega)
  rw [← h]

end Cert.QProjRefIdeal
-- ==== Proof.QProjClaim.lean ====
/- The query projection: their claims. -/
module

public import proofs.«01_k».proof.Defs
public import proofs.«01_k».proof.Proof.QProjValue
public import proofs.«01_k».proof.Proof.QProjRef
public import proofs.«01_k».proof.Proof.Gen.QProj.Frame

@[expose] public section

noncomputable section

namespace Cert.Proof

open Idealize.ShloMosaic Idealize.ShloMosaic.TcCoe Idealize.SL.Sem

theorem qProj_frame : Cert.quiescent_QProj := fun m ρ _ => Cert.QProj.Gen.frame m ρ

theorem qProjIdeal_frame : Cert.quiescent_QProjIdeal := fun m ρ _ => Cert.QProjIdeal.Gen.frame m ρ

/-- The reference's run read at its arguments; the program declares no semaphore. -/
theorem qProjRef_frame : Cert.quiescent_QProjRefIdeal := fun m ρ _ =>
  (θ_run Cert.QProjRefIdeal.defs _ _).mono (fun r h => ⟨fun c => (h c).2,
      Idealize.ShloMosaic.sem_eq_zero_of_no_sems (by decide) r.2⟩)
    (Cert.QProjRefIdeal.Value.run (F := Ideal) m ρ)

/-- The kernel's result array and the reference's are one function of the arguments. -/
theorem qProj_algebraic : Cert.algebraic_QProjIdeal_QProjRefIdeal := by
  intro m g m' g' _ hagree
  refine ⟨fun c => Cert.QProjIdeal.G m c, ?_, ?_⟩
  · exact (θ_run Cert.QProjIdeal.defs _ _).mono (fun r h c => ⟨(h c).1.trans (Cert.QProjIdeal.final m c), (h c).2⟩)
      (Cert.QProjIdeal.Value.run_blocks m g)
  · refine (θ_run Cert.QProjRefIdeal.defs _ _).mono (fun r h c => ⟨(h c).1.trans ?_, (h c).2⟩)
      (Cert.QProjRefIdeal.Value.run (F := Ideal) m' g')
    obtain ⟨h0, h1, h2, h3⟩ := hagree c
    show Cert.QProjRefIdeal.lin (m' ((c.tc : Thread Cert.QProjRefIdeal.nD Cert.QProjRefIdeal.τ).loc Cert.QProjRefIdeal.main_arg0)) (m' ((c.tc : Thread Cert.QProjRefIdeal.nD Cert.QProjRefIdeal.τ).loc Cert.QProjRefIdeal.main_arg1)) (m' ((c.tc : Thread Cert.QProjRefIdeal.nD Cert.QProjRefIdeal.τ).loc Cert.QProjRefIdeal.main_arg2)) (m' ((c.tc : Thread Cert.QProjRefIdeal.nD Cert.QProjRefIdeal.τ).loc Cert.QProjRefIdeal.main_arg3)) = _
    rw [h0, h1, h2, h3]
    refine funext fun i => ?_
    obtain ⟨r, n, rfl⟩ : ∃ (r : Fin 128) (n : Fin 1024), i = ix2 r n := ⟨i 0, i 1, by funext a; match a with | ⟨0, _⟩ => rfl | ⟨1, _⟩ => rfl⟩
    exact Cert.QProjRefIdeal.lin_apply _ _ _ _ r n

end Cert.Proof
-- ==== Proof.KVProjTile.lean ====
/- The key and value projections' weights: what the scratch arrays hold, and sixteen rows of a tile as the kernel computes them. -/
module

public import proofs.«01_k».proof.Proof.Words
public import proofs.«01_k».proof.Proof.Gen.KVProjIdeal.Value

@[expose] public section

set_option maxRecDepth 16384
set_option maxHeartbeats 400000

noncomputable section

namespace Cert.KVProjIdeal

open Idealize.ShloMosaic Idealize.ShloMosaic.TcCoe Idealize.SL.Sem Cert.KVProjIdeal.Gen Q4

/-- The code blocks by part (0: keys, 1: values) and half of the groups. -/
def blkOf (x1 x2 x5 x6 : Vec Ideal S128x16x128 .i8) (p : Fin 2) (lt : ℕ) : IVec S128x16x128 8 :=
  match p, lt with
  | 0, 0 => x1
  | 0, _ => x2
  | 1, 0 => x5
  | 1, _ => x6

/-- The scale blocks by part. -/
def sOf (x3 x7 : Vec Ideal S128x256 .bf16) (p : Fin 2) : Vec Ideal S128x256 .bf16 :=
  match p with
  | 0 => x3
  | 1 => x7

/-- The weights of a block's part `p`. -/
def W (x1 x2 : Vec Ideal S128x16x128 .i8) (x3 x4 : Vec Ideal S128x256 .bf16)
    (x5 x6 : Vec Ideal S128x16x128 .i8) (x7 x8 : Vec Ideal S128x256 .bf16) (p : Fin 2) : ℕ → Fin 128 → EReal :=
  weight (bytesW (blkOf x1 x2 x5 x6 p)) (fun g c => scales (sOf x3 x7) p (Fin.ofNat 256 g) c) (fun g c => scales (sOf x4 x8) p (Fin.ofNat 256 g) c)

/-- The weights of the block, both parts. -/
def W2 (x1 x2 : Vec Ideal S128x16x128 .i8) (x3 x4 : Vec Ideal S128x256 .bf16)
    (x5 x6 : Vec Ideal S128x16x128 .i8) (x7 x8 : Vec Ideal S128x256 .bf16) (p : ℕ) : ℕ → Fin 128 → EReal :=
  match p with
  | 0 => W x1 x2 x3 x4 x5 x6 x7 x8 0
  | _ => W x1 x2 x3 x4 x5 x6 x7 x8 1

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)

/-- Each store into the scratch array of words stores the words of its part. -/
theorem pieces_words : ∀ p ∈ kernelRun0_A.sl.HS0_16 (F := Ideal) c arg2 harg2 arg3 harg3 arg6 harg6 arg7 harg7 x1 x2 x5 x6,
    Stores (e := .i32) (words (blkOf x1 x2 x5 x6)) p := by
  unfold kernelRun0_A.sl.HS0_16 kernelRun0_A.sl.HS0_10 kernelRun0_A.sl.HS0_2 kernelRun0_A.sl.HS0_1
  refine List.forall_mem_cons.mpr ⟨words_piece harg7 (blkOf x1 x2 x5 x6) 1 (by decide) 1 x6 rfl 515 3 rfl (by decide) (by decide) (by decide) (by decide) (by decide) (by decide) (by decide) _ ?_ _, ?_⟩
  · rfl
  refine List.forall_mem_cons.mpr ⟨words_piece harg7 (blkOf x1 x2 x5 x6) 1 (by decide) 1 x6 rfl 514 2 rfl (by decide) (by decide) (by decide) (by decide) (by decide) (by decide) (by decide) _ ?_ _, ?_⟩
  · rfl
  refine List.forall_mem_cons.mpr ⟨words_piece harg7 (blkOf x1 x2 x5 x6) 1 (by decide) 1 x6 rfl 513 1 rfl (by decide) (by decide) (by decide) (by decide) (by decide) (by decide) (by decide) _ ?_ _, ?_⟩
  · rfl
  refine List.forall_mem_cons.mpr ⟨words_piece harg7 (blkOf x1 x2 x5 x6) 1 (by decide) 1 x6 rfl 512 0 rfl (by decide) (by decide) (by decide) (by decide) (by decide) (by decide) (by decide) _ ?_ _, ?_⟩
  · rfl
  refine List.forall_mem_cons.mpr ⟨words_piece harg6 (blkOf x1 x2 x5 x6) 1 (by decide) 0 x5 rfl 3 3 rfl (by decide) (by decide) (by decide) (by decide) (by decide) (by decide) (by decide) _ ?_ _, ?_⟩
  · rfl
  refine List.forall_mem_cons.mpr ⟨words_piece harg6 (blkOf x1 x2 x5 x6) 1 (by decide) 0 x5 rfl 2 2 rfl (by decide) (by decide) (by decide) (by decide) (by decide) (by decide) (by decide) _ ?_ _, ?_⟩
  · rfl
  refine List.forall_mem_cons.mpr ⟨words_piece harg6 (blkOf x1 x2 x5 x6) 1 (by decide) 0 x5 rfl 1 1 rfl (by decide) (by decide) (by decide) (by decide) (by decide) (by decide) (by decide) _ ?_ _, ?_⟩
  · rfl
  refine List.forall_mem_cons.mpr ⟨words_piece harg6 (blkOf x1 x2 x5 x6) 1 (by decide) 0 x5 rfl 0 0 rfl (by decide) (by decide) (by decide) (by decide) (by decide) (by decide) (by decide) _ ?_ _, ?_⟩
  · rfl
  refine List.forall_mem_cons.mpr ⟨words_piece harg3 (blkOf x1 x2 x5 x6) 0 (by decide) 1 x2 rfl 515 3 rfl (by decide) (by decide) (by decide) (by decide) (by decide) (by decide) (by decide) _ ?_ _, ?_⟩
  · rfl
  refine List.forall_mem_cons.mpr ⟨words_piece harg3 (blkOf x1 x2 x5 x6) 0 (by decide) 1 x2 rfl 514 2 rfl (by decide) (by decide) (by decide) (by decide) (by decide) (by decide) (by decide) _ ?_ _, ?_⟩
  · rfl
  refine List.forall_mem_cons.mpr ⟨words_piece harg3 (blkOf x1 x2 x5 x6) 0 (by decide) 1 x2 rfl 513 1 rfl (by decide) (by decide) (by decide) (by decide) (by decide) (by decide) (by decide) _ ?_ _, ?_⟩
  · rfl
  refine List.forall_mem_cons.mpr ⟨words_piece harg3 (blkOf x1 x2 x5 x6) 0 (by decide) 1 x2 rfl 512 0 rfl (by decide) (by decide) (by decide) (by decide) (by decide) (by decide) (by decide) _ ?_ _, ?_⟩
  · rfl
  refine List.forall_mem_cons.mpr ⟨words_piece harg2 (blkOf x1 x2 x5 x6) 0 (by decide) 0 x1 rfl 3 3 rfl (by decide) (by decide) (by decide) (by decide) (by decide) (by decide) (by decide) _ ?_ _, ?_⟩
  · rfl
  refine List.forall_mem_cons.mpr ⟨words_piece harg2 (blkOf x1 x2 x5 x6) 0 (by decide) 0 x1 rfl 2 2 rfl (by decide) (by decide) (by decide) (by decide) (by decide) (by decide) (by decide) _ ?_ _, ?_⟩
  · rfl
  refine List.forall_mem_cons.mpr ⟨words_piece harg2 (blkOf x1 x2 x5 x6) 0 (by decide) 0 x1 rfl 1 1 rfl (by decide) (by decide) (by decide) (by decide) (by decide) (by decide) (by decide) _ ?_ _, ?_⟩
  · rfl
  refine List.forall_mem_cons.mpr ⟨words_piece harg2 (blkOf x1 x2 x5 x6) 0 (by decide) 0 x1 rfl 0 0 rfl (by decide) (by decide) (by decide) (by decide) (by decide) (by decide) (by decide) _ ?_ _, ?_⟩
  · rfl
  exact List.forall_mem_nil _

/-- The stores cover the scratch array of words. -/
theorem cover_words : ∀ y, ∃ p ∈ kernelRun0_A.sl.HS0_16 (F := Ideal) c arg2 harg2 arg3 harg3 arg6 harg6 arg7 harg7 x1 x2 x5 x6, y ∈ p.1.set := by
  intro y
  unfold kernelRun0_A.sl.HS0_16 kernelRun0_A.sl.HS0_10 kernelRun0_A.sl.HS0_2 kernelRun0_A.sl.HS0_1
  have h0 : (y 0).val < 2 := (y 0).isLt
  have h1 : (y 1).val < 1024 := (y 1).isLt
  rcases (by omega : (y 0).val = 0 ∨ (y 0).val = 1) with e | e <;> rcases (by omega : (y 1).val / 512 = 0 ∨ (y 1).val / 512 = 1) with e1 | e1 <;>
    rcases (by omega : (y 1).val % 4 = 0 ∨ (y 1).val % 4 = 1 ∨ (y 1).val % 4 = 2 ∨ (y 1).val % 4 = 3) with e2 | e2 | e2 | e2
  · exact ⟨_, .tail _ (.tail _ (.tail _ (.tail _ (.tail _ (.tail _ (.tail _ (.tail _ (.tail _ (.tail _ (.tail _ (.tail _ (.tail _ (.tail _ (.tail _ (.head _))))))))))))))), words_mem 0 (by decide) 0 (by decide) (by decide) (by decide) y e e1 e2⟩
  · exact ⟨_, .tail _ (.tail _ (.tail _ (.tail _ (.tail _ (.tail _ (.tail _ (.tail _ (.tail _ (.tail _ (.tail _ (.tail _ (.tail _ (.tail _ (.head _)))))))))))))), words_mem 0 (by decide) 1 (by decide) (by decide) (by decide) y e e1 e2⟩
  · exact ⟨_, .tail _ (.tail _ (.tail _ (.tail _ (.tail _ (.tail _ (.tail _ (.tail _ (.tail _ (.tail _ (.tail _ (.tail _ (.tail _ (.head _))))))))))))), words_mem 0 (by decide) 2 (by decide) (by decide) (by decide) y e e1 e2⟩
  · exact ⟨_, .tail _ (.tail _ (.tail _ (.tail _ (.tail _ (.tail _ (.tail _ (.tail _ (.tail _ (.tail _ (.tail _ (.tail _ (.head _)))))))))))), words_mem 0 (by decide) 3 (by decide) (by decide) (by decide) y e e1 e2⟩
  · exact ⟨_, .tail _ (.tail _ (.tail _ (.tail _ (.tail _ (.tail _ (.tail _ (.tail _ (.tail _ (.tail _ (.tail _ (.head _))))))))))), words_mem 0 (by decide) 512 (by decide) (by decide) (by decide) y e e1 e2⟩
  · exact ⟨_, .tail _ (.tail _ (.tail _ (.tail _ (.tail _ (.tail _ (.tail _ (.tail _ (.tail _ (.tail _ (.head _)))))))))), words_mem 0 (by decide) 513 (by decide) (by decide) (by decide) y e e1 e2⟩
  · exact ⟨_, .tail _ (.tail _ (.tail _ (.tail _ (.tail _ (.tail _ (.tail _ (.tail _ (.tail _ (.head _))))))))), words_mem 0 (by decide) 514 (by decide) (by decide) (by decide) y e e1 e2⟩
  · exact ⟨_, .tail _ (.tail _ (.tail _ (.tail _ (.tail _ (.tail _ (.tail _ (.tail _ (.head _)))))))), words_mem 0 (by decide) 515 (by decide) (by decide) (by decide) y e e1 e2⟩
  · exact ⟨_, .tail _ (.tail _ (.tail _ (.tail _ (.tail _ (.tail _ (.tail _ (.head _))))))), words_mem 1 (by decide) 0 (by decide) (by decide) (by decide) y e e1 e2⟩
  · exact ⟨_, .tail _ (.tail _ (.tail _ (.tail _ (.tail _ (.tail _ (.head _)))))), words_mem 1 (by decide) 1 (by decide) (by decide) (by decide) y e e1 e2⟩
  · exact ⟨_, .tail _ (.tail _ (.tail _ (.tail _ (.tail _ (.head _))))), words_mem 1 (by decide) 2 (by decide) (by decide) (by decide) y e e1 e2⟩
  · exact ⟨_, .tail _ (.tail _ (.tail _ (.tail _ (.head _)))), words_mem 1 (by decide) 3 (by decide) (by decide) (by decide) y e e1 e2⟩
  · exact ⟨_, .tail _ (.tail _ (.tail _ (.head _))), words_mem 1 (by decide) 512 (by decide) (by decide) (by decide) y e e1 e2⟩
  · exact ⟨_, .tail _ (.tail _ (.head _)), words_mem 1 (by decide) 513 (by decide) (by decide) (by decide) y e e1 e2⟩
  · exact ⟨_, .tail _ (.head _), words_mem 1 (by decide) 514 (by decide) (by decide) (by decide) y e e1 e2⟩
  · exact ⟨_, .head _, words_mem 1 (by decide) 515 (by decide) (by decide) (by decide) y e e1 e2⟩

/-- Each store into the scratch array of scales stores those of its part. -/
theorem pieces_scale : ∀ p ∈ kernelRun0_A.sl.HS1_4 (F := Ideal) c arg4 harg4 arg8 harg8 x3 x7,
    Stores (e := .f32) (scales (sOf x3 x7)) p := by
  unfold kernelRun0_A.sl.HS1_4
  refine List.forall_mem_cons.mpr ⟨scales_piece harg8 (sOf x3 x7) 1 (by decide) x7 rfl 128 (by decide) (by decide) (by decide) (by decide) _ ?_ _, ?_⟩
  · rfl
  refine List.forall_mem_cons.mpr ⟨scales_piece harg8 (sOf x3 x7) 1 (by decide) x7 rfl 0 (by decide) (by decide) (by decide) (by decide) _ ?_ _, ?_⟩
  · rfl
  refine List.forall_mem_cons.mpr ⟨scales_piece harg4 (sOf x3 x7) 0 (by decide) x3 rfl 128 (by decide) (by decide) (by decide) (by decide) _ ?_ _, ?_⟩
  · rfl
  refine List.forall_mem_cons.mpr ⟨scales_piece harg4 (sOf x3 x7) 0 (by decide) x3 rfl 0 (by decide) (by decide) (by decide) (by decide) _ ?_ _, ?_⟩
  · rfl
  exact List.forall_mem_nil _

/-- The stores cover the scratch array of scales. -/
theorem cover_scale : ∀ y, ∃ p ∈ kernelRun0_A.sl.HS1_4 (F := Ideal) c arg4 harg4 arg8 harg8 x3 x7, y ∈ p.1.set := by
  intro y
  unfold kernelRun0_A.sl.HS1_4
  have h0 : (y 0).val < 2 := (y 0).isLt
  have h1 : (y 1).val < 256 := (y 1).isLt
  rcases (by omega : (y 0).val = 0 ∨ (y 0).val = 1) with e | e <;> rcases (by omega : (y 1).val / 128 * 128 = 0 ∨ (y 1).val / 128 * 128 = 128) with e1 | e1
  · exact ⟨_, .tail _ (.tail _ (.tail _ (.head _))), scales_mem 0 (by decide) 0 (by decide) (by decide) y e e1⟩
  · exact ⟨_, .tail _ (.tail _ (.head _)), scales_mem 0 (by decide) 128 (by decide) (by decide) y e e1⟩
  · exact ⟨_, .tail _ (.head _), scales_mem 1 (by decide) 0 (by decide) (by decide) y e e1⟩
  · exact ⟨_, .head _, scales_mem 1 (by decide) 128 (by decide) (by decide) y e e1⟩

/-- Each store into the scratch array of minima stores those of its part. -/
theorem pieces_min : ∀ p ∈ kernelRun0_A.sl.HS2_4 (F := Ideal) c arg5 harg5 arg9 harg9 x4 x8,
    Stores (e := .f32) (scales (sOf x4 x8)) p := by
  unfold kernelRun0_A.sl.HS2_4
  refine List.forall_mem_cons.mpr ⟨scales_piece harg9 (sOf x4 x8) 1 (by decide) x8 rfl 128 (by decide) (by decide) (by decide) (by decide) _ ?_ _, ?_⟩
  · rfl
  refine List.forall_mem_cons.mpr ⟨scales_piece harg9 (sOf x4 x8) 1 (by decide) x8 rfl 0 (by decide) (by decide) (by decide) (by decide) _ ?_ _, ?_⟩
  · rfl
  refine List.forall_mem_cons.mpr ⟨scales_piece harg5 (sOf x4 x8) 0 (by decide) x4 rfl 128 (by decide) (by decide) (by decide) (by decide) _ ?_ _, ?_⟩
  · rfl
  refine List.forall_mem_cons.mpr ⟨scales_piece harg5 (sOf x4 x8) 0 (by decide) x4 rfl 0 (by decide) (by decide) (by decide) (by decide) _ ?_ _, ?_⟩
  · rfl
  exact List.forall_mem_nil _

/-- The stores cover the scratch array of minima. -/
theorem cover_min : ∀ y, ∃ p ∈ kernelRun0_A.sl.HS2_4 (F := Ideal) c arg5 harg5 arg9 harg9 x4 x8, y ∈ p.1.set := by
  intro y
  unfold kernelRun0_A.sl.HS2_4
  have h0 : (y 0).val < 2 := (y 0).isLt
  have h1 : (y 1).val < 256 := (y 1).isLt
  rcases (by omega : (y 0).val = 0 ∨ (y 0).val = 1) with e | e <;> rcases (by omega : (y 1).val / 128 * 128 = 0 ∨ (y 1).val / 128 * 128 = 128) with e1 | e1
  · exact ⟨_, .tail _ (.tail _ (.tail _ (.head _))), scales_mem 0 (by decide) 0 (by decide) (by decide) y e e1⟩
  · exact ⟨_, .tail _ (.tail _ (.head _)), scales_mem 0 (by decide) 128 (by decide) (by decide) y e e1⟩
  · exact ⟨_, .tail _ (.head _), scales_mem 1 (by decide) 0 (by decide) (by decide) y e e1⟩
  · exact ⟨_, .head _, scales_mem 1 (by decide) 128 (by decide) (by decide) y e e1⟩

/-- Sixteen rows of part `l`, as the kernel computes them. -/
theorem tile_piece (l b : ℕ) (hl : l < 2) (hb : b % 16 = 0) (hG : b / 32 < 256) (h inbT inbT' hstT inb inb' hst) (r : Fin 16) (q : Fin 128) :
    W x1 x2 x3 x4 x5 x6 x7 x8 ⟨l, hl⟩ (b + r.val) q
      = rows16 (b % 64) (unpack (wordsAt arg11 (kernelRun0_A.sl.HS0_16 (F := Ideal) c arg2 harg2 arg3 harg3 arg6 harg6 arg7 harg7 x1 x2 x5 x6) l (b / 64 * 8) inbT inbT' hstT))
          (rowAt arg12 (kernelRun0_A.sl.HS1_4 (F := Ideal) c arg4 harg4 arg8 harg8 x3 x7) l (b / 32) inb inb' hst)
          (rowAt arg13 (kernelRun0_A.sl.HS2_4 (F := Ideal) c arg5 harg5 arg9 harg9 x4 x8) l (b / 32) inb inb' hst) h (ix2 r q) :=
  piece_words arg11 arg12 arg13 _ _ _ _ _ _ (pieces_words c arg2 harg2 arg3 harg3 arg6 harg6 arg7 harg7 x1 x2 x5 x6) (cover_words c arg2 harg2 arg3 harg3 arg6 harg6 arg7 harg7 x1 x2 x5 x6)
    (pieces_scale c arg4 harg4 arg8 harg8 x3 x7) (cover_scale c arg4 harg4 arg8 harg8 x3 x7)
    (pieces_min c arg5 harg5 arg9 harg9 x4 x8) (cover_min c arg5 harg5 arg9 harg9 x4 x8) l b hl hb hG h inbT inbT' hstT inb inb' hst r q

/-- Sixteen rows of part `l` more in front. -/
theorem tile_cons (l : ℕ) {b : ℕ} (hl : l < 2) (hb : b % 16 = 0) (hG : b / 32 < 256) (h inbT inbT' hstT inb inb' hst)
    {y : FVec Ideal S16x128 .bf16} {ps : List ((s : Shape) × (s.Idx → EReal))}
    (e : rows16 (b % 64) (unpack (wordsAt arg11 (kernelRun0_A.sl.HS0_16 (F := Ideal) c arg2 harg2 arg3 harg3 arg6 harg6 arg7 harg7 x1 x2 x5 x6) l (b / 64 * 8) inbT inbT' hstT))
          (rowAt arg12 (kernelRun0_A.sl.HS1_4 (F := Ideal) c arg4 harg4 arg8 harg8 x3 x7) l (b / 32) inb inb' hst)
          (rowAt arg13 (kernelRun0_A.sl.HS2_4 (F := Ideal) c arg5 harg5 arg9 harg9 x4 x8) l (b / 32) inb inb' hst) h = y)
    (hp : Rows (W x1 x2 x3 x4 x5 x6 x7 x8 ⟨l, hl⟩) (b + 16) ps) : Rows (W x1 x2 x3 x4 x5 x6 x7 x8 ⟨l, hl⟩) b (⟨S16x128, y⟩ :: ps) := by
  subst e
  exact Rows.cons (fun r q => tile_piece c arg2 harg2 arg3 harg3 arg4 harg4 arg5 harg5 arg6 harg6 arg7 harg7 arg8 harg8 arg9 harg9 arg11 arg12 arg13 x1 x2 x3 x4 x5 x6 x7 x8 l b hl hb hG h inbT inbT' hstT inb inb' hst r q) hp

end Cert.KVProjIdeal
-- ==== Proof.KVProjDot.lean ====
/- The key and value projections' contraction by steps: the products, the loads of the left operand, and the term of a row. -/
module

public import proofs.«01_k».proof.Proof.KVProjTile

@[expose] public section

set_option maxRecDepth 16384
set_option maxHeartbeats 400000

noncomputable section

namespace Cert.KVProjIdeal

open Idealize.ShloMosaic Idealize.ShloMosaic.TcCoe Idealize.SL.Sem Cert.KVProjIdeal.Gen Q4

/-- A contraction over 512 columns, at an index. -/
theorem dot512_apply (A : FVec Ideal S128x512 .bf16) (B : FVec Ideal S512x256 .bf16) (m : Fin 128) (n : Fin 256) :
    matmul dot_S128x512_S512x256_S128x256_1_0_0_1_n_n none A B (constant S128x256 .f32 0#32) (ix2 m n)
      = ∑ k : Fin 512, A (ix2 m k) * B (ix2 k n) := by
  pointwise

/-- A load of 512 columns of the left operand. -/
theorem load512_apply {mA : Memref sig .tc .vmem S128x8192 .bf16} (hA : mA.IsWhole) (x : Vec Ideal S128x8192 .bf16) (o : ℕ)
    (inb : ∀ a, (![0, o] : Fin 2 → ℕ) a + (![128, 512] : Fin 2 → ℕ) a ≤ (![128, 8192] : Fin 2 → ℕ) a)
    (h : S128x512.ShapeCasts S128x512) (m : Fin 128) (k : Fin 512) :
    shapeCast S128x512 (View.readAt (Elt Ideal) mA.view (Rect.unit (s := S128x8192) ![0, o] ![128, 512] inb).toLoadRect (hA.unread x)) h (ix2 m k)
      = x (ix2 m (Fin.ofNat 8192 (o + k.val))) := by
  show View.readAt (Elt Ideal) mA.view (Rect.unit (s := S128x8192) ![0, o] ![128, 512] inb).toLoadRect (hA.unread x) (Shape.reshapeEquiv h (ix2 m k)) = _
  rw [Shape.reshapeEquiv_self, hA.readAt_unread]
  congr 1
  funext a
  apply Fin.ext
  have hk : o + k.val < 8192 := by have := inb 1; have := k.isLt; change o + 512 ≤ 8192 at *; omega
  match a with
  | ⟨0, _⟩ => show 0 + 1 * m.val = m.val; omega
  | ⟨1, _⟩ => show o + 1 * k.val = (o + k.val) % 8192; rw [Nat.mod_eq_of_lt hk]; omega

/-- One step of the contraction: the left operand against the two tiles' weights from row `b` on. -/
theorem step512_apply (A : FVec Ideal S128x512 .bf16) (V : ℕ → ℕ → Fin 128 → EReal) (b : ℕ)
    (xs : List ((s : Shape) × (s.Idx → EReal))) (h) (hr : Planes (K := 512) (fun l k q => V l (b + k.val) q) 0 xs) (m : Fin 128) (n : Fin 256) :
    matmul (F := Ideal) (φ₁ := .bf16) (φ₂ := .bf16) dot_S128x512_S512x256_S128x256_1_0_0_1_n_n none A (concatenate S512x256 1 xs h) (constant S128x256 .f32 0#32) (ix2 m n)
      = ∑ k : Fin 512, A (ix2 m k) * V (n.val / 128) (b + k.val) ⟨n.val % 128, Nat.mod_lt _ (by decide)⟩ := by
  rw [dot512_apply]
  refine Finset.sum_congr rfl fun k _ => ?_
  exact congrArg (A (ix2 m k) * ·) (concat_planes (fun l k q => V l (b + k.val) q) xs h hr k n)

/-- The product of the left operand and the weight at row `ρ` of the contraction. -/
def term (x0 : Vec Ideal S128x8192 .bf16) (x1 x2 : Vec Ideal S128x16x128 .i8) (x3 x4 : Vec Ideal S128x256 .bf16)
    (x5 x6 : Vec Ideal S128x16x128 .i8) (x7 x8 : Vec Ideal S128x256 .bf16)
    (m : Fin 128) (n : Fin 256) (ρ : ℕ) : EReal :=
  x0 (ix2 m (Fin.ofNat 8192 ρ)) * W2 x1 x2 x3 x4 x5 x6 x7 x8 (n.val / 128) ρ ⟨n.val % 128, Nat.mod_lt _ (by decide)⟩

end Cert.KVProjIdeal
-- ==== Proof.KVProjAcc0.lean ====
/- The key and value projections' accumulator, steps 1 to 3. -/
module

public import proofs.«01_k».proof.Proof.KVProjDot

@[expose] public section

set_option maxRecDepth 16384
set_option maxHeartbeats 400000

noncomputable section

namespace Cert.KVProjIdeal

open Idealize.ShloMosaic Idealize.ShloMosaic.TcCoe Idealize.SL.Sem Cert.KVProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- The accumulator after the first step. -/
theorem acc0 (m : Fin 128) (n : Fin 256) :
    kernelRun0_A.sl.r_103 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = ∑ ρ ∈ Finset.range 512, term x0 x1 x2 x3 x4 x5 x6 x7 x8 m n (0 + ρ) := by
  refine (step512_apply _ (W2 x1 x2 x3 x4 x5 x6 x7 x8) 0 _ ?h ?r m n).trans ?e
  case r =>
    refine Planes.cons ?_ (Planes.cons ?_ Planes.nil)
    · intro ρ q
      refine concat_rows (K := 512) (W x1 x2 x3 x4 x5 x6 x7 x8 0) 0 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 0 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 0 (by decide) (by decide) m k)).trans ?_
    exact Fin.sum_univ_eq_sum_range (fun k => term x0 x1 x2 x3 x4 x5 x6 x7 x8 m n (0 + k)) 512

/-- Step 2 of the contraction: the accumulator before it, plus its 512 products. -/
theorem acc1 (m : Fin 128) (n : Fin 256) :
    kernelRun0_A.sl.r_194 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_103 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (512 + ρ) := by
  unfold kernelRun0_A.sl.r_194
  unfold k0_pay322
  refine congrArg (_ + ·) ?_
  refine (step512_apply _ (W2 x1 x2 x3 x4 x5 x6 x7 x8) 512 _ ?h ?r m n).trans ?e
  case r =>
    refine Planes.cons ?_ (Planes.cons ?_ Planes.nil)
    · intro ρ q
      refine concat_rows (K := 512) (W x1 x2 x3 x4 x5 x6 x7 x8 0) 512 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 512 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 512 (by decide) (by decide) m k)).trans ?_
    exact Fin.sum_univ_eq_sum_range (fun k => term x0 x1 x2 x3 x4 x5 x6 x7 x8 m n (512 + k)) 512

/-- Step 3 of the contraction: the accumulator before it, plus its 512 products. -/
theorem acc2 (m : Fin 128) (n : Fin 256) :
    kernelRun0_A.sl.r_289 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_194 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (1024 + ρ) := by
  unfold kernelRun0_A.sl.r_289
  unfold k0_pay463
  refine congrArg (_ + ·) ?_
  refine (step512_apply _ (W2 x1 x2 x3 x4 x5 x6 x7 x8) 1024 _ ?h ?r m n).trans ?e
  case r =>
    refine Planes.cons ?_ (Planes.cons ?_ Planes.nil)
    · intro ρ q
      refine concat_rows (K := 512) (W x1 x2 x3 x4 x5 x6 x7 x8 0) 1024 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 1024 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 1024 (by decide) (by decide) m k)).trans ?_
    exact Fin.sum_univ_eq_sum_range (fun k => term x0 x1 x2 x3 x4 x5 x6 x7 x8 m n (1024 + k)) 512

end Cert.KVProjIdeal
-- ==== Proof.KVProjAcc1.lean ====
/- The key and value projections' accumulator, steps 4 to 6. -/
module

public import proofs.«01_k».proof.Proof.KVProjDot

@[expose] public section

set_option maxRecDepth 16384
set_option maxHeartbeats 400000

noncomputable section

namespace Cert.KVProjIdeal

open Idealize.ShloMosaic Idealize.ShloMosaic.TcCoe Idealize.SL.Sem Cert.KVProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 4 of the contraction: the accumulator before it, plus its 512 products. -/
theorem acc3 (m : Fin 128) (n : Fin 256) :
    kernelRun0_A.sl.r_384 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_289 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (1536 + ρ) := by
  unfold kernelRun0_A.sl.r_384
  unfold k0_pay610
  refine congrArg (_ + ·) ?_
  refine (step512_apply _ (W2 x1 x2 x3 x4 x5 x6 x7 x8) 1536 _ ?h ?r m n).trans ?e
  case r =>
    refine Planes.cons ?_ (Planes.cons ?_ Planes.nil)
    · intro ρ q
      refine concat_rows (K := 512) (W x1 x2 x3 x4 x5 x6 x7 x8 0) 1536 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 1536 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 1536 (by decide) (by decide) m k)).trans ?_
    exact Fin.sum_univ_eq_sum_range (fun k => term x0 x1 x2 x3 x4 x5 x6 x7 x8 m n (1536 + k)) 512

/-- Step 5 of the contraction: the accumulator before it, plus its 512 products. -/
theorem acc4 (m : Fin 128) (n : Fin 256) :
    kernelRun0_A.sl.r_479 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_384 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (2048 + ρ) := by
  unfold kernelRun0_A.sl.r_479
  unfold k0_pay758
  refine congrArg (_ + ·) ?_
  refine (step512_apply _ (W2 x1 x2 x3 x4 x5 x6 x7 x8) 2048 _ ?h ?r m n).trans ?e
  case r =>
    refine Planes.cons ?_ (Planes.cons ?_ Planes.nil)
    · intro ρ q
      refine concat_rows (K := 512) (W x1 x2 x3 x4 x5 x6 x7 x8 0) 2048 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 2048 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 2048 (by decide) (by decide) m k)).trans ?_
    exact Fin.sum_univ_eq_sum_range (fun k => term x0 x1 x2 x3 x4 x5 x6 x7 x8 m n (2048 + k)) 512

/-- Step 6 of the contraction: the accumulator before it, plus its 512 products. -/
theorem acc5 (m : Fin 128) (n : Fin 256) :
    kernelRun0_A.sl.r_572 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_479 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (2560 + ρ) := by
  unfold kernelRun0_A.sl.r_572
  unfold k0_pay905
  refine congrArg (_ + ·) ?_
  refine (step512_apply _ (W2 x1 x2 x3 x4 x5 x6 x7 x8) 2560 _ ?h ?r m n).trans ?e
  case r =>
    refine Planes.cons ?_ (Planes.cons ?_ Planes.nil)
    · intro ρ q
      refine concat_rows (K := 512) (W x1 x2 x3 x4 x5 x6 x7 x8 0) 2560 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 2560 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 2560 (by decide) (by decide) m k)).trans ?_
    exact Fin.sum_univ_eq_sum_range (fun k => term x0 x1 x2 x3 x4 x5 x6 x7 x8 m n (2560 + k)) 512

end Cert.KVProjIdeal
-- ==== Proof.KVProjAcc2.lean ====
/- The key and value projections' accumulator, steps 7 to 9. -/
module

public import proofs.«01_k».proof.Proof.KVProjDot

@[expose] public section

set_option maxRecDepth 16384
set_option maxHeartbeats 400000

noncomputable section

namespace Cert.KVProjIdeal

open Idealize.ShloMosaic Idealize.ShloMosaic.TcCoe Idealize.SL.Sem Cert.KVProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 7 of the contraction: the accumulator before it, plus its 512 products. -/
theorem acc6 (m : Fin 128) (n : Fin 256) :
    kernelRun0_A.sl.r_666 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_572 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (3072 + ρ) := by
  unfold kernelRun0_A.sl.r_666
  unfold k0_pay1043
  refine congrArg (_ + ·) ?_
  refine (step512_apply _ (W2 x1 x2 x3 x4 x5 x6 x7 x8) 3072 _ ?h ?r m n).trans ?e
  case r =>
    refine Planes.cons ?_ (Planes.cons ?_ Planes.nil)
    · intro ρ q
      refine concat_rows (K := 512) (W x1 x2 x3 x4 x5 x6 x7 x8 0) 3072 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 3072 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 3072 (by decide) (by decide) m k)).trans ?_
    exact Fin.sum_univ_eq_sum_range (fun k => term x0 x1 x2 x3 x4 x5 x6 x7 x8 m n (3072 + k)) 512

/-- Step 8 of the contraction: the accumulator before it, plus its 512 products. -/
theorem acc7 (m : Fin 128) (n : Fin 256) :
    kernelRun0_A.sl.r_762 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_666 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (3584 + ρ) := by
  unfold kernelRun0_A.sl.r_762
  unfold k0_pay1187
  refine congrArg (_ + ·) ?_
  refine (step512_apply _ (W2 x1 x2 x3 x4 x5 x6 x7 x8) 3584 _ ?h ?r m n).trans ?e
  case r =>
    refine Planes.cons ?_ (Planes.cons ?_ Planes.nil)
    · intro ρ q
      refine concat_rows (K := 512) (W x1 x2 x3 x4 x5 x6 x7 x8 0) 3584 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 3584 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 3584 (by decide) (by decide) m k)).trans ?_
    exact Fin.sum_univ_eq_sum_range (fun k => term x0 x1 x2 x3 x4 x5 x6 x7 x8 m n (3584 + k)) 512

/-- Step 9 of the contraction: the accumulator before it, plus its 512 products. -/
theorem acc8 (m : Fin 128) (n : Fin 256) :
    kernelRun0_A.sl.r_860 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_762 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (4096 + ρ) := by
  unfold kernelRun0_A.sl.r_860
  unfold k0_pay1334
  refine congrArg (_ + ·) ?_
  refine (step512_apply _ (W2 x1 x2 x3 x4 x5 x6 x7 x8) 4096 _ ?h ?r m n).trans ?e
  case r =>
    refine Planes.cons ?_ (Planes.cons ?_ Planes.nil)
    · intro ρ q
      refine concat_rows (K := 512) (W x1 x2 x3 x4 x5 x6 x7 x8 0) 4096 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 4096 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 4096 (by decide) (by decide) m k)).trans ?_
    exact Fin.sum_univ_eq_sum_range (fun k => term x0 x1 x2 x3 x4 x5 x6 x7 x8 m n (4096 + k)) 512

end Cert.KVProjIdeal
-- ==== Proof.KVProjAcc3.lean ====
/- The key and value projections' accumulator, steps 10 to 12. -/
module

public import proofs.«01_k».proof.Proof.KVProjDot

@[expose] public section

set_option maxRecDepth 16384
set_option maxHeartbeats 400000

noncomputable section

namespace Cert.KVProjIdeal

open Idealize.ShloMosaic Idealize.ShloMosaic.TcCoe Idealize.SL.Sem Cert.KVProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 10 of the contraction: the accumulator before it, plus its 512 products. -/
theorem acc9 (m : Fin 128) (n : Fin 256) :
    kernelRun0_A.sl.r_956 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_860 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (4608 + ρ) := by
  unfold kernelRun0_A.sl.r_956
  unfold k0_pay1478
  unfold kernelRun0_A.sl.r_955 kernelRun0_A.sl.r_954
  unfold k0_pay1477
  refine congrArg (_ + ·) ?_
  refine (step512_apply _ (W2 x1 x2 x3 x4 x5 x6 x7 x8) 4608 _ ?h ?r m n).trans ?e
  case r =>
    refine Planes.cons ?_ (Planes.cons ?_ Planes.nil)
    · intro ρ q
      refine concat_rows (K := 512) (W x1 x2 x3 x4 x5 x6 x7 x8 0) 4608 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 4608 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 4608 (by decide) (by decide) m k)).trans ?_
    exact Fin.sum_univ_eq_sum_range (fun k => term x0 x1 x2 x3 x4 x5 x6 x7 x8 m n (4608 + k)) 512

/-- Step 11 of the contraction: the accumulator before it, plus its 512 products. -/
theorem acc10 (m : Fin 128) (n : Fin 256) :
    kernelRun0_A.sl.r_1043 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_956 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (5120 + ρ) := by
  unfold kernelRun0_A.sl.r_1043
  unfold k0_pay1616
  refine congrArg (_ + ·) ?_
  refine (step512_apply _ (W2 x1 x2 x3 x4 x5 x6 x7 x8) 5120 _ ?h ?r m n).trans ?e
  case r =>
    refine Planes.cons ?_ (Planes.cons ?_ Planes.nil)
    · intro ρ q
      refine concat_rows (K := 512) (W x1 x2 x3 x4 x5 x6 x7 x8 0) 5120 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 5120 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 5120 (by decide) (by decide) m k)).trans ?_
    exact Fin.sum_univ_eq_sum_range (fun k => term x0 x1 x2 x3 x4 x5 x6 x7 x8 m n (5120 + k)) 512

/-- Step 12 of the contraction: the accumulator before it, plus its 512 products. -/
theorem acc11 (m : Fin 128) (n : Fin 256) :
    kernelRun0_A.sl.r_1136 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1043 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (5632 + ρ) := by
  unfold kernelRun0_A.sl.r_1136
  unfold k0_pay1761
  refine congrArg (_ + ·) ?_
  refine (step512_apply _ (W2 x1 x2 x3 x4 x5 x6 x7 x8) 5632 _ ?h ?r m n).trans ?e
  case r =>
    refine Planes.cons ?_ (Planes.cons ?_ Planes.nil)
    · intro ρ q
      refine concat_rows (K := 512) (W x1 x2 x3 x4 x5 x6 x7 x8 0) 5632 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 5632 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 5632 (by decide) (by decide) m k)).trans ?_
    exact Fin.sum_univ_eq_sum_range (fun k => term x0 x1 x2 x3 x4 x5 x6 x7 x8 m n (5632 + k)) 512

end Cert.KVProjIdeal
-- ==== Proof.KVProjAcc4.lean ====
/- The key and value projections' accumulator, steps 13 to 15. -/
module

public import proofs.«01_k».proof.Proof.KVProjDot

@[expose] public section

set_option maxRecDepth 16384
set_option maxHeartbeats 400000

noncomputable section

namespace Cert.KVProjIdeal

open Idealize.ShloMosaic Idealize.ShloMosaic.TcCoe Idealize.SL.Sem Cert.KVProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- Step 13 of the contraction: the accumulator before it, plus its 512 products. -/
theorem acc12 (m : Fin 128) (n : Fin 256) :
    kernelRun0_A.sl.r_1229 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1136 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (6144 + ρ) := by
  unfold kernelRun0_A.sl.r_1229
  unfold k0_pay1908
  refine congrArg (_ + ·) ?_
  refine (step512_apply _ (W2 x1 x2 x3 x4 x5 x6 x7 x8) 6144 _ ?h ?r m n).trans ?e
  case r =>
    refine Planes.cons ?_ (Planes.cons ?_ Planes.nil)
    · intro ρ q
      refine concat_rows (K := 512) (W x1 x2 x3 x4 x5 x6 x7 x8 0) 6144 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 6144 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 6144 (by decide) (by decide) m k)).trans ?_
    exact Fin.sum_univ_eq_sum_range (fun k => term x0 x1 x2 x3 x4 x5 x6 x7 x8 m n (6144 + k)) 512

/-- Step 14 of the contraction: the accumulator before it, plus its 512 products. -/
theorem acc13 (m : Fin 128) (n : Fin 256) :
    kernelRun0_A.sl.r_1324 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1229 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (6656 + ρ) := by
  unfold kernelRun0_A.sl.r_1324
  unfold k0_pay2053
  refine congrArg (_ + ·) ?_
  refine (step512_apply _ (W2 x1 x2 x3 x4 x5 x6 x7 x8) 6656 _ ?h ?r m n).trans ?e
  case r =>
    refine Planes.cons ?_ (Planes.cons ?_ Planes.nil)
    · intro ρ q
      refine concat_rows (K := 512) (W x1 x2 x3 x4 x5 x6 x7 x8 0) 6656 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 6656 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 6656 (by decide) (by decide) m k)).trans ?_
    exact Fin.sum_univ_eq_sum_range (fun k => term x0 x1 x2 x3 x4 x5 x6 x7 x8 m n (6656 + k)) 512

/-- Step 15 of the contraction: the accumulator before it, plus its 512 products. -/
theorem acc14 (m : Fin 128) (n : Fin 256) :
    kernelRun0_A.sl.r_1417 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = kernelRun0_A.sl.r_1324 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
        + ∑ ρ ∈ Finset.range 512, term x0 x1 x2 x3 x4 x5 x6 x7 x8 m n (7168 + ρ) := by
  unfold kernelRun0_A.sl.r_1417
  unfold k0_pay2192
  refine congrArg (_ + ·) ?_
  refine (step512_apply _ (W2 x1 x2 x3 x4 x5 x6 x7 x8) 7168 _ ?h ?r m n).trans ?e
  case r =>
    refine Planes.cons ?_ (Planes.cons ?_ Planes.nil)
    · intro ρ q
      refine concat_rows (K := 512) (W x1 x2 x3 x4 x5 x6 x7 x8 0) 7168 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 7168 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 7168 (by decide) (by decide) m k)).trans ?_
    exact Fin.sum_univ_eq_sum_range (fun k => term x0 x1 x2 x3 x4 x5 x6 x7 x8 m n (7168 + k)) 512

end Cert.KVProjIdeal
-- ==== Proof.KVProjBlock.lean ====
/- One block of the key and value projections: what the kernel's grid point leaves in its block of the result, at an index. -/
module

public import proofs.«01_k».proof.Proof.KVProjAcc0
public import proofs.«01_k».proof.Proof.KVProjAcc1
public import proofs.«01_k».proof.Proof.KVProjAcc2
public import proofs.«01_k».proof.Proof.KVProjAcc3
public import proofs.«01_k».proof.Proof.KVProjAcc4
public import proofs.«01_k».proof.Proof.Linear
public import proofs.«01_k».proof.Proof.Planes

@[expose] public section

set_option maxRecDepth 16384
set_option maxHeartbeats 1000000

noncomputable section

namespace Cert.KVProjIdeal

open Idealize.ShloMosaic Idealize.ShloMosaic.TcCoe Idealize.SL.Sem Cert.KVProjIdeal.Gen Q4

variable (c : Dev nD)
  (arg2 : Memref sig .tc .vmem S128x16x128 .i8) (harg2 : arg2.IsWhole)
  (arg3 : Memref sig .tc .vmem S128x16x128 .i8) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x16x128 .i8) (harg6 : arg6.IsWhole)
  (arg7 : Memref sig .tc .vmem S128x16x128 .i8) (harg7 : arg7.IsWhole)
  (arg8 : Memref sig .tc .vmem S128x256 .bf16) (harg8 : arg8.IsWhole)
  (arg9 : Memref sig .tc .vmem S128x256 .bf16) (harg9 : arg9.IsWhole)
  (arg11 : Memref sig .tc .vmem S2x1024x128 .i32) (arg12 arg13 : Memref sig .tc .vmem S2x256x128 .f32)
  (x1 x2 : Vec Ideal S128x16x128 .i8) (x3 x4 : Vec Ideal S128x256 .bf16)
  (x5 x6 : Vec Ideal S128x16x128 .i8) (x7 x8 : Vec Ideal S128x256 .bf16)
  (arg1 : Memref sig .tc .vmem S128x8192 .bf16) (harg1 : arg1.IsWhole) (x0 : Vec Ideal S128x8192 .bf16)

/-- A sum over 512 rows more. -/
theorem sum_more {s t : EReal} (f : ℕ → EReal) (b : ℕ) (hs : s = t + ∑ ρ ∈ Finset.range 512, f (b + ρ)) (ht : t = ∑ ρ ∈ Finset.range b, f ρ) :
    s = ∑ ρ ∈ Finset.range (b + 512), f ρ := by
  rw [hs, ht, Finset.sum_range_add]

/-- The accumulator before the last step. -/
theorem acc_all (m : Fin 128) (n : Fin 256) :
    kernelRun0_A.sl.r_1417 (F := Ideal) c arg1 harg1 arg2 harg2 arg3 harg3 arg4 harg4 arg5 harg5 arg6 harg6 arg7 harg7 arg8 harg8 arg9 harg9 arg11 arg12 arg13 x0 x1 x2 x3 x4 x5 x6 x7 x8 (ix2 m n)
      = ∑ ρ ∈ Finset.range 7680, term x0 x1 x2 x3 x4 x5 x6 x7 x8 m n ρ := by
  have s0 := acc0 c arg2 harg2 arg3 harg3 arg4 harg4 arg5 harg5 arg6 harg6 arg7 harg7 arg8 harg8 arg9 harg9 arg11 arg12 arg13 x1 x2 x3 x4 x5 x6 x7 x8 arg1 harg1 x0 m n
  simp only [Nat.zero_add] at s0
  have s1 := sum_more _ 512 (acc1 c arg2 harg2 arg3 harg3 arg4 harg4 arg5 harg5 arg6 harg6 arg7 harg7 arg8 harg8 arg9 harg9 arg11 arg12 arg13 x1 x2 x3 x4 x5 x6 x7 x8 arg1 harg1 x0 m n) s0
  have s2 := sum_more _ 1024 (acc2 c arg2 harg2 arg3 harg3 arg4 harg4 arg5 harg5 arg6 harg6 arg7 harg7 arg8 harg8 arg9 harg9 arg11 arg12 arg13 x1 x2 x3 x4 x5 x6 x7 x8 arg1 harg1 x0 m n) s1
  have s3 := sum_more _ 1536 (acc3 c arg2 harg2 arg3 harg3 arg4 harg4 arg5 harg5 arg6 harg6 arg7 harg7 arg8 harg8 arg9 harg9 arg11 arg12 arg13 x1 x2 x3 x4 x5 x6 x7 x8 arg1 harg1 x0 m n) s2
  have s4 := sum_more _ 2048 (acc4 c arg2 harg2 arg3 harg3 arg4 harg4 arg5 harg5 arg6 harg6 arg7 harg7 arg8 harg8 arg9 harg9 arg11 arg12 arg13 x1 x2 x3 x4 x5 x6 x7 x8 arg1 harg1 x0 m n) s3
  have s5 := sum_more _ 2560 (acc5 c arg2 harg2 arg3 harg3 arg4 harg4 arg5 harg5 arg6 harg6 arg7 harg7 arg8 harg8 arg9 harg9 arg11 arg12 arg13 x1 x2 x3 x4 x5 x6 x7 x8 arg1 harg1 x0 m n) s4
  have s6 := sum_more _ 3072 (acc6 c arg2 harg2 arg3 harg3 arg4 harg4 arg5 harg5 arg6 harg6 arg7 harg7 arg8 harg8 arg9 harg9 arg11 arg12 arg13 x1 x2 x3 x4 x5 x6 x7 x8 arg1 harg1 x0 m n) s5
  have s7 := sum_more _ 3584 (acc7 c arg2 harg2 arg3 harg3 arg4 harg4 arg5 harg5 arg6 harg6 arg7 harg7 arg8 harg8 arg9 harg9 arg11 arg12 arg13 x1 x2 x3 x4 x5 x6 x7 x8 arg1 harg1 x0 m n) s6
  have s8 := sum_more _ 4096 (acc8 c arg2 harg2 arg3 harg3 arg4 harg4 arg5 harg5 arg6 harg6 arg7 harg7 arg8 harg8 arg9 harg9 arg11 arg12 arg13 x1 x2 x3 x4 x5 x6 x7 x8 arg1 harg1 x0 m n) s7
  have s9 := sum_more _ 4608 (acc9 c arg2 harg2 arg3 harg3 arg4 harg4 arg5 harg5 arg6 harg6 arg7 harg7 arg8 harg8 arg9 harg9 arg11 arg12 arg13 x1 x2 x3 x4 x5 x6 x7 x8 arg1 harg1 x0 m n) s8
  have s10 := sum_more _ 5120 (acc10 c arg2 harg2 arg3 harg3 arg4 harg4 arg5 harg5 arg6 harg6 arg7 harg7 arg8 harg8 arg9 harg9 arg11 arg12 arg13 x1 x2 x3 x4 x5 x6 x7 x8 arg1 harg1 x0 m n) s9
  have s11 := sum_more _ 5632 (acc11 c arg2 harg2 arg3 harg3 arg4 harg4 arg5 harg5 arg6 harg6 arg7 harg7 arg8 harg8 arg9 harg9 arg11 arg12 arg13 x1 x2 x3 x4 x5 x6 x7 x8 arg1 harg1 x0 m n) s10
  have s12 := sum_more _ 6144 (acc12 c arg2 harg2 arg3 harg3 arg4 harg4 arg5 harg5 arg6 harg6 arg7 harg7 arg8 harg8 arg9 harg9 arg11 arg12 arg13 x1 x2 x3 x4 x5 x6 x7 x8 arg1 harg1 x0 m n) s11
  have s13 := sum_more _ 6656 (acc13 c arg2 harg2 arg3 harg3 arg4 harg4 arg5 harg5 arg6 harg6 arg7 harg7 arg8 harg8 arg9 harg9 arg11 arg12 arg13 x1 x2 x3 x4 x5 x6 x7 x8 arg1 harg1 x0 m n) s12
  have s14 := sum_more _ 7168 (acc14 c arg2 harg2 arg3 harg3 arg4 harg4 arg5 harg5 arg6 harg6 arg7 harg7 arg8 harg8 arg9 harg9 arg11 arg12 arg13 x1 x2 x3 x4 x5 x6 x7 x8 arg1 harg1 x0 m n) s13
  exact s14

/-- The block's result: the contraction over all 256 groups. -/
theorem out_apply (p : grid0.Coords) (arg10 : Memref sig .tc .vmem S128x256 .f32) (harg10 : arg10.IsWhole)
    (harg11 : arg11.IsWhole) (harg12 : arg12.IsWhole) (harg13 : arg13.IsWhole) (m : Fin 128) (n : Fin 256) :
    out0_A_9 (F := Ideal) c p arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 m n)
      = ∑ ρ ∈ Finset.range 8192, term x0 x1 x2 x3 x4 x5 x6 x7 x8 m n ρ := by
  unfold out0_A_9
  delta kernelRun0_A
  refine (congrFun (read_whole (A := 128) (B := 256) _ _ _ _) _).trans ?_
  unfold k0_pay1
  refine sum_more (fun ρ => term x0 x1 x2 x3 x4 x5 x6 x7 x8 m n ρ) 7680 ?_ (acc_all c arg2 harg2 arg3 harg3 arg4 harg4 arg5 harg5 arg6 harg6 arg7 harg7 arg8 harg8 arg9 harg9 arg11 arg12 arg13 x1 x2 x3 x4 x5 x6 x7 x8 arg1 harg1 x0 m n)
  refine congrArg (_ + ·) ?_
  refine (step512_apply _ (W2 x1 x2 x3 x4 x5 x6 x7 x8) 7680 _ ?h ?r m n).trans ?e
  case h =>
    show Shape.Concatenates [S512x128, S512x128] S512x256 1
    decide
  case r =>
    refine Planes.cons ?_ (Planes.cons ?_ Planes.nil)
    · intro ρ q
      refine concat_rows (K := 512) (W x1 x2 x3 x4 x5 x6 x7 x8 0) 7680 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 0 (by decide) (by decide) (by decide) (by decide) (by decide) (by decide) (by decide) (by decide) (by decide) (by decide) ?_ ?_
        · rfl
      exact Rows.nil
    · intro ρ q
      refine concat_rows (K := 512) (W x1 x2 x3 x4 x5 x6 x7 x8 1) 7680 _ ?_ ?_ ρ q
      try
        show Shape.Concatenates (List.replicate 32 ⟨2, ![16, 128]⟩) ⟨2, ![512, 128]⟩ 0
        decide
      iterate 32
        refine tile_cons c arg2 harg2 arg3 harg3 arg4 harg4 arg5 harg5 arg6 harg6 arg7 harg7 arg8 harg8 arg9 harg9 arg11 arg12 arg13 x1 x2 x3 x4 x5 x6 x7 x8 1 (by decide) (by decide) (by decide) (by decide) (by decide) (by decide) (by decide) (by decide) (by decide) (by decide) ?_ ?_
        · rfl
      exact Rows.nil
  case e =>
    refine (Finset.sum_congr rfl fun k _ => congrArg (· * _) (load512_apply harg1 x0 7680 (by decide) (by decide) m k)).trans ?_
    exact Fin.sum_univ_eq_sum_range (fun k => term x0 x1 x2 x3 x4 x5 x6 x7 x8 m n (7680 + k)) 512

end Cert.KVProjIdeal
-- ==== Proof.KVProjValue.lean ====
/- The key and value projections' result array: at every index the quantised linear map of the keys or of the values. -/
module

public import proofs.«01_k».proof.Proof.KVProjBlock
public import proofs.«01_k».proof.Proof.Linear
public import Idealize.ShloMosaic.Lib.Pointwise

@[expose] public section

set_option maxRecDepth 16384

noncomputable section

namespace Cert.KVProjIdeal

open Idealize.ShloMosaic Idealize.ShloMosaic.TcCoe Idealize.SL.Sem Cert.KVProjIdeal.Gen Cert.KVProjIdeal.Value Q4

variable (m : (ℓ : Loc nD τ sig) → Buf (Elt Ideal) ℓ) (ρ : Dev nD → PrngReg)

/-- The arguments as arrays. -/
abbrev argH (c : Dev nD) : FVec Ideal S128x8192 .bf16 := m ((c : Thread nD τ).loc main_arg0)
abbrev argCk (c : Dev nD) : IVec S128x256x16 8 := m ((c : Thread nD τ).loc main_arg1)
abbrev argSk (c : Dev nD) : FVec Ideal S128x256 .bf16 := m ((c : Thread nD τ).loc main_arg2)
abbrev argZk (c : Dev nD) : FVec Ideal S128x256 .bf16 := m ((c : Thread nD τ).loc main_arg3)
abbrev argCv (c : Dev nD) : IVec S128x256x16 8 := m ((c : Thread nD τ).loc main_arg4)
abbrev argSv (c : Dev nD) : FVec Ideal S128x256 .bf16 := m ((c : Thread nD τ).loc main_arg5)
abbrev argZv (c : Dev nD) : FVec Ideal S128x256 .bf16 := m ((c : Thread nD τ).loc main_arg6)

theorem V_v2 (c : Dev nD) : V m c main_v2 = shapeCast S128x8192 (transpose S128x256x16x2 [0, 1, 3, 2] (shapeCast S128x256x2x16 (argH m c) shapeCasts_S128x8192_S128x256x2x16)
    transposes_S128x256x2x16_S128x256x16x2_0_1_3_2) shapeCasts_S128x256x16x2_S128x8192 := by
  show StableHlo.after hostOps0 _ (Proc.devRef .tc main_v2) = _
  after_results
  rfl

theorem V_v3 (c : Dev nD) : V m c main_v3 = transpose S128x16x256 [0, 2, 1] (argCk m c) transposes_S128x256x16_S128x16x256_0_2_1 := by
  show StableHlo.after hostOps0 _ (Proc.devRef .tc main_v3) = _
  after_results

theorem V_v4 (c : Dev nD) : V m c main_v4 = transpose S128x16x256 [0, 2, 1] (argCv m c) transposes_S128x256x16_S128x16x256_0_2_1 := by
  show StableHlo.after hostOps0 _ (Proc.devRef .tc main_v4) = _
  after_results

theorem V_v2_apply (c : Dev nD) (r : Fin 128) (k : Fin 8192) : V m c main_v2 (ix2 r k) = act (argH m c) r k.val := by
  rw [V_v2]
  unfold act
  pointwise
  refine congrArg (argH m c) (congrArg (ix2 r) (Fin.ext ?_))
  rw [Fin.val_ofNat, Nat.mod_eq_of_lt (col_lt 256 k.val k.isLt)]
  exact col_eq k.val

theorem V_v3_apply (c : Dev nD) (n : Fin 128) (j : Fin 16) (g : Fin 256) : V m c main_v3 (ix3 n j g) = argCk m c (ix3 n g j) := by
  rw [V_v3]
  pointwise

theorem V_v4_apply (c : Dev nD) (n : Fin 128) (j : Fin 16) (g : Fin 256) : V m c main_v4 (ix3 n j g) = argCv m c (ix3 n g j) := by
  rw [V_v4]
  pointwise

/-- Where each window's block lies. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = 0 ∧ win0_1.index t (1 : Fin 3) = 0 ∧ win0_1.index t (2 : Fin 3) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 1 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem idx6 : ∀ t : Fin cfg0.N, win0_6.index t (0 : Fin 3) = 0 ∧ win0_6.index t (1 : Fin 3) = 0 ∧ win0_6.index t (2 : Fin 3) = 1 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

theorem blk0 (c : Dev nD) (t : Fin cfg0.N) (r : Fin 128) (k : Fin 8192) : iblk m c 0 t (ix2 r k) = act (argH m c) r k.val := by
  obtain ⟨e0, e1⟩ := idx0 t
  rw [← V_v2_apply]
  refine congrArg (V m c main_v2) (funext fun a => Fin.ext ?_)
  match a with
  | ⟨0, _⟩ => show win0_0.index t (0 : Fin 2) * 128 + 1 * r.val = r.val; omega
  | ⟨1, _⟩ => show win0_0.index t (1 : Fin 2) * 8192 + 1 * k.val = k.val; omega

theorem blk1 (c : Dev nD) (t : Fin cfg0.N) (n : Fin 128) (j : Fin 16) (g : Fin 128) :
    iblk m c 1 t (ix3 n j g) = argCk m c (ix3 n ⟨128 * 0 + g.val, by omega⟩ j) := by
  obtain ⟨e0, e1, e2⟩ := idx1 t
  rw [← V_v3_apply]
  refine congrArg (V m c main_v3) (funext fun a => Fin.ext ?_)
  match a with
  | ⟨0, _⟩ => show win0_1.index t (0 : Fin 3) * 128 + 1 * n.val = n.val; omega
  | ⟨1, _⟩ => show win0_1.index t (1 : Fin 3) * 16 + 1 * j.val = j.val; omega
  | ⟨2, _⟩ => show win0_1.index t (2 : Fin 3) * 128 + 1 * g.val = 128 * 0 + g.val; omega

theorem blk2 (c : Dev nD) (t : Fin cfg0.N) (n : Fin 128) (j : Fin 16) (g : Fin 128) :
    iblk m c 2 t (ix3 n j g) = argCk m c (ix3 n ⟨128 * 1 + g.val, by omega⟩ j) := by
  obtain ⟨e0, e1, e2⟩ := idx2 t
  rw [← V_v3_apply]
  refine congrArg (V m c main_v3) (funext fun a => Fin.ext ?_)
  match a with
  | ⟨0, _⟩ => show win0_2.index t (0 : Fin 3) * 128 + 1 * n.val = n.val; omega
  | ⟨1, _⟩ => show win0_2.index t (1 : Fin 3) * 16 + 1 * j.val = j.val; omega
  | ⟨2, _⟩ => show win0_2.index t (2 : Fin 3) * 128 + 1 * g.val = 128 * 1 + g.val; omega

theorem blk5 (c : Dev nD) (t : Fin cfg0.N) (n : Fin 128) (j : Fin 16) (g : Fin 128) :
    iblk m c 5 t (ix3 n j g) = argCv m c (ix3 n ⟨128 * 0 + g.val, by omega⟩ j) := by
  obtain ⟨e0, e1, e2⟩ := idx5 t
  rw [← V_v4_apply]
  refine congrArg (V m c main_v4) (funext fun a => Fin.ext ?_)
  match a with
  | ⟨0, _⟩ => show win0_5.index t (0 : Fin 3) * 128 + 1 * n.val = n.val; omega
  | ⟨1, _⟩ => show win0_5.index t (1 : Fin 3) * 16 + 1 * j.val = j.val; omega
  | ⟨2, _⟩ => show win0_5.index t (2 : Fin 3) * 128 + 1 * g.val = 128 * 0 + g.val; omega

theorem blk6 (c : Dev nD) (t : Fin cfg0.N) (n : Fin 128) (j : Fin 16) (g : Fin 128) :
    iblk m c 6 t (ix3 n j g) = argCv m c (ix3 n ⟨128 * 1 + g.val, by omega⟩ j) := by
  obtain ⟨e0, e1, e2⟩ := idx6 t
  rw [← V_v4_apply]
  refine congrArg (V m c main_v4) (funext fun a => Fin.ext ?_)
  match a with
  | ⟨0, _⟩ => show win0_6.index t (0 : Fin 3) * 128 + 1 * n.val = n.val; omega
  | ⟨1, _⟩ => show win0_6.index t (1 : Fin 3) * 16 + 1 * j.val = j.val; omega
  | ⟨2, _⟩ => show win0_6.index t (2 : Fin 3) * 128 + 1 * g.val = 128 * 1 + g.val; omega

theorem blk3 (c : Dev nD) (t : Fin cfg0.N) (n : Fin 128) (g : Fin 256) : iblk m c 3 t (ix2 n g) = argSk m c (ix2 n g) := by
  obtain ⟨e0, e1⟩ := idx3 t
  show V m c main_arg2 _ = _
  rw [V_main_arg2]
  refine congrArg (argSk m c) (funext fun a => Fin.ext ?_)
  match a with
  | ⟨0, _⟩ => show win0_3.index t (0 : Fin 2) * 128 + 1 * n.val = n.val; omega
  | ⟨1, _⟩ => show win0_3.index t (1 : Fin 2) * 256 + 1 * g.val = g.val; omega

theorem blk4 (c : Dev nD) (t : Fin cfg0.N) (n : Fin 128) (g : Fin 256) : iblk m c 4 t (ix2 n g) = argZk m c (ix2 n g) := by
  obtain ⟨e0, e1⟩ := idx4 t
  show V m c main_arg3 _ = _
  rw [V_main_arg3]
  refine congrArg (argZk m c) (funext fun a => Fin.ext ?_)
  match a with
  | ⟨0, _⟩ => show win0_4.index t (0 : Fin 2) * 128 + 1 * n.val = n.val; omega
  | ⟨1, _⟩ => show win0_4.index t (1 : Fin 2) * 256 + 1 * g.val = g.val; omega

theorem blk7 (c : Dev nD) (t : Fin cfg0.N) (n : Fin 128) (g : Fin 256) : iblk m c 7 t (ix2 n g) = argSv m c (ix2 n g) := by
  obtain ⟨e0, e1⟩ := idx7 t
  show V m c main_arg5 _ = _
  rw [V_main_arg5]
  refine congrArg (argSv m c) (funext fun a => Fin.ext ?_)
  match a with
  | ⟨0, _⟩ => show win0_7.index t (0 : Fin 2) * 128 + 1 * n.val = n.val; omega
  | ⟨1, _⟩ => show win0_7.index t (1 : Fin 2) * 256 + 1 * g.val = g.val; omega

theorem blk8 (c : Dev nD) (t : Fin cfg0.N) (n : Fin 128) (g : Fin 256) : iblk m c 8 t (ix2 n g) = argZv m c (ix2 n g) := by
  obtain ⟨e0, e1⟩ := idx8 t
  show V m c main_arg6 _ = _
  rw [V_main_arg6]
  refine congrArg (argZv m c) (funext fun a => Fin.ext ?_)
  match a with
  | ⟨0, _⟩ => show win0_8.index t (0 : Fin 2) * 128 + 1 * n.val = n.val; omega
  | ⟨1, _⟩ => show win0_8.index t (1 : Fin 2) * 256 + 1 * g.val = g.val; omega

theorem emb9 (t : Fin cfg0.N) (r : Fin 128) (n : Fin 256) : ((cfg0.win 9).blk t).view.emb (ix2 r n) = (ix2 r n : S128x256.Idx) := by
  obtain ⟨e0, e1⟩ := idx9 t
  funext a; apply Fin.ext
  match a with
  | ⟨0, _⟩ => show win0_9.index t (0 : Fin 2) * 128 + 1 * r.val = r.val; omega
  | ⟨1, _⟩ => show win0_9.index t (1 : Fin 2) * 256 + 1 * n.val = n.val; omega

/-- The weights that the kernel forms from its blocks are the dequantised weights, where the blocks hold the codes,
    scales and minima. -/
theorem weights_of (x1 x2 : Vec Ideal S128x16x128 .i8) (x3 x4 : Vec Ideal S128x256 .bf16) (x5 x6 : Vec Ideal S128x16x128 .i8) (x7 x8 : Vec Ideal S128x256 .bf16)
    (C : IVec S128x256x16 8) (S Z : FVec Ideal S128x256 .bf16) (p : Fin 2)
    (h0 : ∀ (n : Fin 128) (j : Fin 16) (g : Fin 128), blkOf x1 x2 x5 x6 p 0 (ix3 n j g) = C (ix3 n ⟨128 * 0 + g.val, by omega⟩ j))
    (h1 : ∀ (n : Fin 128) (j : Fin 16) (g : Fin 128), blkOf x1 x2 x5 x6 p 1 (ix3 n j g) = C (ix3 n ⟨128 * 1 + g.val, by omega⟩ j))
    (hS : ∀ (n : Fin 128) (g : Fin 256), sOf x3 x7 p (ix2 n g) = S (ix2 n g))
    (hZ : ∀ (n : Fin 128) (g : Fin 256), sOf x4 x8 p (ix2 n g) = Z (ix2 n g))
    (q : Fin 128) (k : ℕ) (hk : k < 8192) :
    W x1 x2 x3 x4 x5 x6 x7 x8 p k q = wt C S Z q k := by
  have hC : blkOf x1 x2 x5 x6 p (k / 32 / 128) (ix3 q (Fin.ofNat 16 (k % 32 / 2)) (Fin.ofNat 128 (k / 32)))
      = C (ix3 q (Fin.ofNat 256 (k / 32)) (Fin.ofNat 16 (k % 32 / 2))) := by
    rcases (by omega : k / 32 / 128 = 0 ∨ k / 32 / 128 = 1) with h | h
    · rw [h, h0]
      refine congrArg (fun g => C (ix3 _ g _)) (Fin.ext ?_)
      show 128 * 0 + k / 32 % 128 = k / 32 % 256
      omega
    · rw [h, h1]
      refine congrArg (fun g => C (ix3 _ g _)) (Fin.ext ?_)
      show 128 * 1 + k / 32 % 128 = k / 32 % 256
      omega
  unfold W weight bytesW scales wt
  beta_reduce
  rw [hS, hZ, hC]

/-- The key's weights at point `t`. -/
theorem weights0 (c : Dev nD) (t : Fin cfg0.N) (q : Fin 128) (k : ℕ) (hk : k < 8192) :
    W (iblk m c 1 t) (iblk m c 2 t) (iblk m c 3 t) (iblk m c 4 t) (iblk m c 5 t) (iblk m c 6 t) (iblk m c 7 t) (iblk m c 8 t) 0 k q
      = wt (argCk m c) (argSk m c) (argZk m c) q k :=
  weights_of _ _ _ _ _ _ _ _ _ _ _ 0 (fun n j g => blk1 m c t n j g) (fun n j g => blk2 m c t n j g) (fun n g => blk3 m c t n g) (fun n g => blk4 m c t n g) q k hk

/-- The value's weights at point `t`. -/
theorem weights1 (c : Dev nD) (t : Fin cfg0.N) (q : Fin 128) (k : ℕ) (hk : k < 8192) :
    W (iblk m c 1 t) (iblk m c 2 t) (iblk m c 3 t) (iblk m c 4 t) (iblk m c 5 t) (iblk m c 6 t) (iblk m c 7 t) (iblk m c 8 t) 1 k q
      = wt (argCv m c) (argSv m c) (argZv m c) q k :=
  weights_of _ _ _ _ _ _ _ _ _ _ _ 1 (fun n j g => blk5 m c t n j g) (fun n j g => blk6 m c t n j g) (fun n g => blk7 m c t n g) (fun n g => blk8 m c t n g) q k hk

/-- The result array as one function of the arguments: the keys' columns, then the values'. -/
def G (c : Dev nD) : Vec Ideal S128x256 .f32 := fun i =>
  if (i 1).val < 128 then linear (argH m c) (argCk m c) (argSk m c) (argZk m c) (i 0) ⟨(i 1).val % 128, Nat.mod_lt _ (by decide)⟩
  else linear (argH m c) (argCv m c) (argSv m c) (argZv m c) (i 0) ⟨(i 1).val % 128, Nat.mod_lt _ (by decide)⟩

theorem flushed_eq (c : Dev nD) (t : Fin cfg0.N) :
    (dats m 0 c).flushed 9 t = ((cfg0.win 9).blk t).view.read (Elt Ideal) (G m c) := by
  rw [flushed9_A]
  funext i
  obtain ⟨r, n, rfl⟩ : ∃ (r : Fin 128) (n : Fin 256), i = ix2 r n := ⟨i 0, i 1, by funext a; match a with | ⟨0, _⟩ => rfl | ⟨1, _⟩ => rfl⟩
  show out0_A_9 (F := Ideal) _ _ _ _ _ _ _ _ _ _ _ _ _ _ _ _ _ _ _ _ _ _ _ _ _ _ _ _ _ _ _ _ _ _ _ _ _ (ix2 r n) = G m c (((cfg0.win 9).blk t).view.emb (ix2 r n))
  rw [emb9, out_apply]
  show _ = if n.val < 128 then linear (argH m c) (argCk m c) (argSk m c) (argZk m c) r ⟨n.val % 128, _⟩
    else linear (argH m c) (argCv m c) (argSv m c) (argZv m c) r ⟨n.val % 128, _⟩
  rcases (by omega : n.val / 128 = 0 ∨ n.val / 128 = 1) with e | e
  · rw [if_pos (by omega)]
    unfold linear
    refine Finset.sum_congr rfl fun k hk => ?_
    have hk' : k < 8192 := Finset.mem_range.mp hk
    unfold term
    rw [blk0, Fin.val_ofNat, Nat.mod_eq_of_lt hk', e]
    exact congrArg (_ * ·) (weights0 m c t _ k hk')
  · rw [if_neg (by omega)]
    unfold linear
    refine Finset.sum_congr rfl fun k hk => ?_
    have hk' : k < 8192 := Finset.mem_range.mp hk
    unfold term
    rw [blk0, Fin.val_ofNat, Nat.mod_eq_of_lt hk', e]
    exact congrArg (_ * ·) (weights1 m c t _ k hk')

theorem covered (i : S128x256.Idx) : ∃ t : Fin cfg0.N, (cfg0.win 9).flush t = true ∧ i ∈ ((cfg0.win 9).blk t).view.set := by
  obtain ⟨r, n, rfl⟩ : ∃ (r : Fin 128) (n : Fin 256), i = ix2 r n := ⟨i 0, i 1, by funext a; match a with | ⟨0, _⟩ => rfl | ⟨1, _⟩ => rfl⟩
  refine ⟨(⟨0, by decide⟩ : Fin cfg0.N), flush0_9 _, ?_⟩
  have h := ((cfg0.win 9).blk (⟨0, by decide⟩ : Fin cfg0.N)).view.emb_mem_set (ix2 r n)
  rwa [emb9] at h

theorem final (c : Dev nD) : (dats m 0 c).arrAt 9 cfg0.N = G m c :=
  (dats m 0 c).arrAt_eq_of_cover 9 (G m c) (fun t _ => flushed_eq m c t) covered

end Cert.KVProjIdeal
-- ==== Proof.KVProjRef.lean ====
/- The reference key and value projections' result at an index. -/
module

public import proofs.«01_k».proof.Proof.Linear
public import proofs.«01_k».proof.Proof.Rows
public import proofs.«01_k».proof.Proof.Gen.KVProjRefIdeal.Run
public import Idealize.ShloMosaic.Lib.Pointwise

@[expose] public section

set_option maxRecDepth 16384

noncomputable section

namespace Cert.KVProjRefIdeal

open Idealize.ShloMosaic Idealize.ShloMosaic.TcCoe Cert.KVProjRefIdeal.Gen Q4

/-- The reference's linear map as a term of its arguments. -/
def lin (o : FVec Ideal S128x8192 .bf16) (C : IVec S128x256x16 8) (S Z : FVec Ideal S128x256 .bf16) : FVec Ideal S128x128 .f32 :=
  (addf (Host.dotGeneral dot_S128x256x16_S128x256x16_S128x128_12_12_0_0_n_n none (extractStridedSlice S128x256x16 ![0, 0, 0] (shapeCast _ o shapeCasts_S128x8192_S128x256x32) slices_S128x256x32_S128x256x16_0_0_0) (addf (mulf (sitofp .bf16 (andi (extui 32 C natLt_8_32) (broadcastInDim S128x256x16 ![] bcast_S_S128x256x16 (constantI S_ 32 15#32)))) (broadcastInDim S128x256x16 ![0, 1, 2] bcast_S128x256x1_S128x256x16_0_1_2 (broadcastInDim S128x256x1 ![0, 1] bcast_S128x256_S128x256x1_0_1 S))) (broadcastInDim S128x256x16 ![0, 1, 2] bcast_S128x256x1_S128x256x16_0_1_2 (broadcastInDim S128x256x1 ![0, 1] bcast_S128x256_S128x256x1_0_1 Z)))) (Host.dotGeneral dot_S128x256x16_S128x256x16_S128x128_12_12_0_0_n_n none (extractStridedSlice S128x256x16 ![0, 0, 16] (shapeCast _ o shapeCasts_S128x8192_S128x256x32) slices_S128x256x32_S128x256x16_0_0_16) (addf (mulf (sitofp .bf16 (Host.shrsi (extui 32 C natLt_8_32) (broadcastInDim S128x256x16 ![] bcast_S_S128x256x16 (constantI S_ 32 4#32)))) (broadcastInDim S128x256x16 ![0, 1, 2] bcast_S128x256x1_S128x256x16_0_1_2 (broadcastInDim S128x256x1 ![0, 1] bcast_S128x256_S128x256x1_0_1 S))) (broadcastInDim S128x256x16 ![0, 1, 2] bcast_S128x256x1_S128x256x16_0_1_2 (broadcastInDim S128x256x1 ![0, 1] bcast_S128x256_S128x256x1_0_1 Z)))))

/-- It is the quantised linear map. -/
theorem lin_apply (o : FVec Ideal S128x8192 .bf16) (C : IVec S128x256x16 8) (S Z : FVec Ideal S128x256 .bf16) (m : Fin 128) (n : Fin 128) :
    lin o C S Z (ix2 m n) = linear o C S Z m n := by
  unfold lin
  pointwise
  have h := halves_linear (M := 128) (K := 8192) (N := 128) (G := 256) (by decide) o C S Z m n (fun g j => by omega) (fun g j => by omega)
  rw [← h]

/-- The reference's result: the keys' columns, then the values'. -/
def kv (k v : FVec Ideal S128x128 .f32) : FVec Ideal S128x256 .f32 :=
  concatenate S128x256 1 [⟨S128x128, k⟩, ⟨S128x128, v⟩] concatenates_S128x128_S128x128_S128x256_d1

theorem kv_apply (k v : FVec Ideal S128x128 .f32) (m : Fin 128) (n : Fin 256) :
    kv k v (ix2 m n) = if n.val < 128 then k (ix2 m ⟨n.val % 128, Nat.mod_lt _ (by decide)⟩) else v (ix2 m ⟨n.val % 128, Nat.mod_lt _ (by decide)⟩) := by
  refine (concat_planes (K := 128) (fun p ρ q => if p = 0 then k (ix2 ρ q) else v (ix2 ρ q)) _ _
    (Planes.cons (fun ρ q => (if_pos rfl).symm) (Planes.cons (fun ρ q => (if_neg (by decide)).symm) Planes.nil)) m n).trans ?_
  beta_reduce
  split <;> split <;> first | rfl | omega

end Cert.KVProjRefIdeal
-- ==== Proof.KVProjClaim.lean ====
/- The key and value projections: their claims. -/
module

public import proofs.«01_k».proof.Defs
public import proofs.«01_k».proof.Proof.KVProjValue
public import proofs.«01_k».proof.Proof.KVProjRef
public import proofs.«01_k».proof.Proof.Gen.KVProj.Frame

@[expose] public section

noncomputable section

namespace Cert.Proof

open Idealize.ShloMosaic Idealize.ShloMosaic.TcCoe Idealize.SL.Sem

theorem kvProj_frame : Cert.quiescent_KVProj := fun m ρ _ => Cert.KVProj.Gen.frame m ρ

theorem kvProjIdeal_frame : Cert.quiescent_KVProjIdeal := fun m ρ _ => Cert.KVProjIdeal.Gen.frame m ρ

/-- The reference's run read at its arguments; the program declares no semaphore. -/
theorem kvProjRef_frame : Cert.quiescent_KVProjRefIdeal := fun m ρ _ =>
  (θ_run Cert.KVProjRefIdeal.defs _ _).mono (fun r h => ⟨fun c => (h c).2,
      Idealize.ShloMosaic.sem_eq_zero_of_no_sems (by decide) r.2⟩)
    (Cert.KVProjRefIdeal.Value.run (F := Ideal) m ρ)

/-- The kernel's result array and the reference's are one function of the arguments. -/
theorem kvProj_algebraic : Cert.algebraic_KVProjIdeal_KVProjRefIdeal := by
  intro m g m' g' _ hagree
  refine ⟨fun c => Cert.KVProjIdeal.G m c, ?_, ?_⟩
  · exact (θ_run Cert.KVProjIdeal.defs _ _).mono (fun r h c => ⟨(h c).1.trans (Cert.KVProjIdeal.final m c), (h c).2⟩)
      (Cert.KVProjIdeal.Value.run_blocks m g)
  · refine (θ_run Cert.KVProjRefIdeal.defs _ _).mono (fun r h c => ⟨(h c).1.trans ?_, (h c).2⟩)
      (Cert.KVProjRefIdeal.Value.run (F := Ideal) m' g')
    obtain ⟨h0, h1, h2, h3, h4, h5, h6⟩ := hagree c
    show Cert.KVProjRefIdeal.kv (Cert.KVProjRefIdeal.lin (m' ((c.tc : Thread Cert.KVProjRefIdeal.nD Cert.KVProjRefIdeal.τ).loc Cert.KVProjRefIdeal.main_arg0)) (m' ((c.tc : Thread Cert.KVProjRefIdeal.nD Cert.KVProjRefIdeal.τ).loc Cert.KVProjRefIdeal.main_arg1)) (m' ((c.tc : Thread Cert.KVProjRefIdeal.nD Cert.KVProjRefIdeal.τ).loc Cert.KVProjRefIdeal.main_arg2)) (m' ((c.tc : Thread Cert.KVProjRefIdeal.nD Cert.KVProjRefIdeal.τ).loc Cert.KVProjRefIdeal.main_arg3)))
      (Cert.KVProjRefIdeal.lin (m' ((c.tc : Thread Cert.KVProjRefIdeal.nD Cert.KVProjRefIdeal.τ).loc Cert.KVProjRefIdeal.main_arg0)) (m' ((c.tc : Thread Cert.KVProjRefIdeal.nD Cert.KVProjRefIdeal.τ).loc Cert.KVProjRefIdeal.main_arg4)) (m' ((c.tc : Thread Cert.KVProjRefIdeal.nD Cert.KVProjRefIdeal.τ).loc Cert.KVProjRefIdeal.main_arg5)) (m' ((c.tc : Thread Cert.KVProjRefIdeal.nD Cert.KVProjRefIdeal.τ).loc Cert.KVProjRefIdeal.main_arg6))) = _
    rw [h0, h1, h2, h3, h4, h5, h6]
    refine funext fun i => ?_
    obtain ⟨r, n, rfl⟩ : ∃ (r : Fin 128) (n : Fin 256), i = ix2 r n := ⟨i 0, i 1, by funext a; match a with | ⟨0, _⟩ => rfl | ⟨1, _⟩ => rfl⟩
    refine (Cert.KVProjRefIdeal.kv_apply _ _ r n).trans ?_
    rw [Cert.KVProjRefIdeal.lin_apply, Cert.KVProjRefIdeal.lin_apply]
    rfl

end Cert.Proof
-- ==== Proof.lean ====
module

public import proofs.«01_k».proof.Defs
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjRefIdeal
public import proofs.«01_k».proof.Proof.Gen.QProjRefIdeal.Run
public import proofs.«01_k».proof.Proof.Gen.KVProj
public import proofs.«01_k».proof.Proof.Gen.KVProj.Skeleton
public import proofs.«01_k».proof.Proof.Gen.KVProj.Launch
public import proofs.«01_k».proof.Proof.Gen.KVProj.Points
public import proofs.«01_k».proof.Proof.Gen.KVProj.Frame
public import proofs.«01_k».proof.Proof.Gen.KVProjIdeal
public import proofs.«01_k».proof.Proof.Gen.KVProjIdeal.Skeleton
public import proofs.«01_k».proof.Proof.Gen.KVProjIdeal.Launch
public import proofs.«01_k».proof.Proof.Gen.KVProjIdeal.Points
public import proofs.«01_k».proof.Proof.Gen.KVProjIdeal.Frame
public import proofs.«01_k».proof.Proof.Gen.KVProjIdeal.Value
public import proofs.«01_k».proof.Proof.Gen.KVProjRefIdeal
public import proofs.«01_k».proof.Proof.Gen.KVProjRefIdeal.Run
public import proofs.«01_k».proof.Proof.OutProjClaim
public import proofs.«01_k».proof.Proof.DownClaim
public import proofs.«01_k».proof.Proof.FfnInClaim
public import proofs.«01_k».proof.Proof.QProjClaim
public import proofs.«01_k».proof.Proof.KVProjClaim
public import Idealize.ShloMosaic.Adequacy
public import Idealize.ShloMosaic.Init

@[expose] public section

noncomputable section

namespace Cert.Proof

open Idealize.ShloMosaic Idealize.SL.Sem Cert.OutProj

/-- Every claim of the certificate, for the output projection, the down projection, the gate and up projections, the query projection, and the key and
    value projections. -/
theorem claim : Cert.Claim := ⟨Cert.OutProj.Gen.facts, Cert.OutProjIdeal.Gen.facts, Cert.OutProjRefIdeal.Gen.facts,
  Cert.Down.Gen.facts, Cert.DownIdeal.Gen.facts, Cert.DownRefIdeal.Gen.facts,
  Cert.FfnIn.Gen.facts, Cert.FfnInIdeal.Gen.facts, Cert.FfnInRefIdeal.Gen.facts,
  Cert.QProj.Gen.facts, Cert.QProjIdeal.Gen.facts, Cert.QProjRefIdeal.Gen.facts,
  Cert.KVProj.Gen.facts, Cert.KVProjIdeal.Gen.facts, Cert.KVProjRefIdeal.Gen.facts,
  Cert.Proof.outProj_frame, Cert.Proof.outProjIdeal_frame, Cert.Proof.outProjRef_frame,
  Cert.Proof.down_frame, Cert.Proof.downIdeal_frame, Cert.Proof.downRef_frame,
  Cert.Proof.ffnIn_frame, Cert.Proof.ffnInIdeal_frame, Cert.Proof.ffnInRef_frame,
  Cert.Proof.qProj_frame, Cert.Proof.qProjIdeal_frame, Cert.Proof.qProjRef_frame,
  Cert.Proof.kvProj_frame, Cert.Proof.kvProjIdeal_frame, Cert.Proof.kvProjRef_frame,
  trivial, Cert.Proof.outProj_algebraic, trivial, Cert.Proof.down_algebraic, trivial, Cert.Proof.ffnIn_algebraic,
  trivial, Cert.Proof.qProj_algebraic, trivial, Cert.Proof.kvProj_algebraic⟩

end Cert.Proof

end
